-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S12x4096x56x64 : Shape := ⟨4, ![12, 4096, 56, 64]⟩
abbrev S12x4096x56 : Shape := ⟨3, ![12, 4096, 56]⟩
abbrev S12x56x64x64 : Shape := ⟨4, ![12, 56, 64, 64]⟩
abbrev S12x4096 : Shape := ⟨2, ![12, 4096]⟩
abbrev S_ : Shape := ⟨0, ![]⟩

class Facts : Prop where
  bcast_S_S12x4096x56x64 : S_.BroadcastsInDim S12x4096x56x64 (![] : Fin 0 → Fin S12x4096x56x64.rank)
  reducesTo_S12x4096x56x64_S_d0_1_2_3 : S12x4096x56x64.ReducesTo [0, 1, 2, 3] S_
  h_S_ : 0 < S_.numel
  bcast_S_S12x4096x56 : S_.BroadcastsInDim S12x4096x56 (![] : Fin 0 → Fin S12x4096x56.rank)
  reducesTo_S12x4096x56_S_d0_1_2 : S12x4096x56.ReducesTo [0, 1, 2] S_
  bcast_S_S12x56x64x64 : S_.BroadcastsInDim S12x56x64x64 (![] : Fin 0 → Fin S12x56x64x64.rank)
  reducesTo_S12x56x64x64_S_d0_1_2_3 : S12x56x64x64.ReducesTo [0, 1, 2, 3] S_

variable [Facts]

def fn_part2 {F : FTy → Type} [FloatOps F] (main_arg8 : FVec F S12x4096x56x64 .bf16) (main_arg9 : FVec F S12x56x64x64 .f32) (main_v32 : IVec S_ 1) (main_v33 : FVec F S12x4096x56x64 .bf16) : IVec S_ 1 :=
  let main_cst_12 : FVec F S_ .bf16 := constant S_ .bf16 0x7F80#16
  let main_v34 : FVec F S12x4096x56x64 .bf16 := broadcastInDim S12x4096x56x64 ![] bcast_S_S12x4096x56x64 main_cst_12
  let main_v35 : IVec S12x4096x56x64 1 := cmpf .olt main_v33 main_v34
  let main_c_13 : IVec S_ 1 := constantI S_ 1 1#1
  let main_v36 : IVec S_ 1 := (fun x v => Host.reduce IntOp.andi x v reducesTo_S12x4096x56x64_S_d0_1_2_3 h_S_) main_v35 main_c_13
  let main_v37 : IVec S_ 1 := andi main_v32 main_v36
  let main_v38 : FVec F S12x4096x56x64 .bf16 := Host.absf main_arg8
  let main_cst_14 : FVec F S_ .bf16 := constant S_ .bf16 0x7F80#16
  let main_v39 : FVec F S12x4096x56x64 .bf16 := broadcastInDim S12x4096x56x64 ![] bcast_S_S12x4096x56x64 main_cst_14
  let main_v40 : IVec S12x4096x56x64 1 := cmpf .olt main_v38 main_v39
  let main_c_15 : IVec S_ 1 := constantI S_ 1 1#1
  let main_v41 : IVec S_ 1 := (fun x v => Host.reduce IntOp.andi x v reducesTo_S12x4096x56x64_S_d0_1_2_3 h_S_) main_v40 main_c_15
  let main_v42 : IVec S_ 1 := andi main_v37 main_v41
  let main_v43 : FVec F S12x56x64x64 .f32 := Host.absf main_arg9
  let main_cst_16 : FVec F S_ .f32 := constant S_ .f32 0x7F800000#32
  let main_v44 : FVec F S12x56x64x64 .f32 := broadcastInDim S12x56x64x64 ![] bcast_S_S12x56x64x64 main_cst_16
  let main_v45 : IVec S12x56x64x64 1 := cmpf .olt main_v43 main_v44
  let main_c_17 : IVec S_ 1 := constantI S_ 1 1#1
  let main_v46 : IVec S_ 1 := (fun x v => Host.reduce IntOp.andi x v reducesTo_S12x56x64x64_S_d0_1_2_3 h_S_) main_v45 main_c_17
  let main_v47 : IVec S_ 1 := andi main_v42 main_v46
  main_v47

def fn_part1 {F : FTy → Type} [FloatOps F] (main_arg3 : FVec F S12x4096x56 .f32) (main_arg4 : FVec F S12x4096x56 .f32) (main_arg5 : FVec F S12x4096x56 .f32) (main_arg7 : FVec F S12x4096x56x64 .bf16) (main_arg8 : FVec F S12x4096x56x64 .bf16) (main_arg9 : FVec F S12x56x64x64 .f32) (main_v12 : IVec S_ 1) (main_v15 : IVec S12x4096x56x64 1) (main_c_5 : IVec S_ 1) : IVec S_ 1 :=
  let main_v16 : IVec S_ 1 := (fun x v => Host.reduce IntOp.andi x v reducesTo_S12x4096x56x64_S_d0_1_2_3 h_S_) main_v15 main_c_5
  let main_v17 : IVec S_ 1 := andi main_v12 main_v16
  let main_v18 : FVec F S12x4096x56 .f32 := Host.absf main_arg3
  let main_cst_6 : FVec F S_ .f32 := constant S_ .f32 0x7F800000#32
  let main_v19 : FVec F S12x4096x56 .f32 := broadcastInDim S12x4096x56 ![] bcast_S_S12x4096x56 main_cst_6
  let main_v20 : IVec S12x4096x56 1 := cmpf .olt main_v18 main_v19
  let main_c_7 : IVec S_ 1 := constantI S_ 1 1#1
  let main_v21 : IVec S_ 1 := (fun x v => Host.reduce IntOp.andi x v reducesTo_S12x4096x56_S_d0_1_2 h_S_) main_v20 main_c_7
  let main_v22 : IVec S_ 1 := andi main_v17 main_v21
  let main_v23 : FVec F S12x4096x56 .f32 := Host.absf main_arg4
  let main_cst_8 : FVec F S_ .f32 := constant S_ .f32 0x7F800000#32
  let main_v24 : FVec F S12x4096x56 .f32 := broadcastInDim S12x4096x56 ![] bcast_S_S12x4096x56 main_cst_8
  let main_v25 : IVec S12x4096x56 1 := cmpf .olt main_v23 main_v24
  let main_c_9 : IVec S_ 1 := constantI S_ 1 1#1
  let main_v26 : IVec S_ 1 := (fun x v => Host.reduce IntOp.andi x v reducesTo_S12x4096x56_S_d0_1_2 h_S_) main_v25 main_c_9
  let main_v27 : IVec S_ 1 := andi main_v22 main_v26
  let main_v28 : FVec F S12x4096x56 .f32 := Host.absf main_arg5
  let main_cst_10 : FVec F S_ .f32 := constant S_ .f32 0x7F800000#32
  let main_v29 : FVec F S12x4096x56 .f32 := broadcastInDim S12x4096x56 ![] bcast_S_S12x4096x56 main_cst_10
  let main_v30 : IVec S12x4096x56 1 := cmpf .olt main_v28 main_v29
  let main_c_11 : IVec S_ 1 := constantI S_ 1 1#1
  let main_v31 : IVec S_ 1 := (fun x v => Host.reduce IntOp.andi x v reducesTo_S12x4096x56_S_d0_1_2 h_S_) main_v30 main_c_11
  let main_v32 : IVec S_ 1 := andi main_v27 main_v31
  let main_v33 : FVec F S12x4096x56x64 .bf16 := Host.absf main_arg7
  fn_part2 (F := F) main_arg8 main_arg9 main_v32 main_v33

def fn {F : FTy → Type} [FloatOps F] (main_arg0 : FVec F S12x4096x56x64 .f32) (main_arg1 : FVec F S12x4096x56x64 .f32) (main_arg2 : FVec F S12x4096x56x64 .f32) (main_arg3 : FVec F S12x4096x56 .f32) (main_arg4 : FVec F S12x4096x56 .f32) (main_arg5 : FVec F S12x4096x56 .f32) (main_arg6 : FVec F S12x4096x56x64 .bf16) (main_arg7 : FVec F S12x4096x56x64 .bf16) (main_arg8 : FVec F S12x4096x56x64 .bf16) (main_arg9 : FVec F S12x56x64x64 .f32) (main_arg10 : IVec S12x4096 1) : IVec S_ 1 :=
  let main_cst : FVec F S_ .bf16 := constant S_ .bf16 0x7F80#16
  let main_v0 : FVec F S12x4096x56x64 .bf16 := broadcastInDim S12x4096x56x64 ![] bcast_S_S12x4096x56x64 main_cst
  let main_v1 : IVec S12x4096x56x64 1 := cmpf .olt main_arg6 main_v0
  let main_c : IVec S_ 1 := constantI S_ 1 1#1
  let main_v2 : IVec S_ 1 := (fun x v => Host.reduce IntOp.andi x v reducesTo_S12x4096x56x64_S_d0_1_2_3 h_S_) main_v1 main_c
  let main_v3 : FVec F S12x4096x56x64 .f32 := Host.absf main_arg0
  let main_cst_0 : FVec F S_ .f32 := constant S_ .f32 0x7F800000#32
  let main_v4 : FVec F S12x4096x56x64 .f32 := broadcastInDim S12x4096x56x64 ![] bcast_S_S12x4096x56x64 main_cst_0
  let main_v5 : IVec S12x4096x56x64 1 := cmpf .olt main_v3 main_v4
  let main_c_1 : IVec S_ 1 := constantI S_ 1 1#1
  let main_v6 : IVec S_ 1 := (fun x v => Host.reduce IntOp.andi x v reducesTo_S12x4096x56x64_S_d0_1_2_3 h_S_) main_v5 main_c_1
  let main_v7 : IVec S_ 1 := andi main_v2 main_v6
  let main_v8 : FVec F S12x4096x56x64 .f32 := Host.absf main_arg1
  let main_cst_2 : FVec F S_ .f32 := constant S_ .f32 0x7F800000#32
  let main_v9 : FVec F S12x4096x56x64 .f32 := broadcastInDim S12x4096x56x64 ![] bcast_S_S12x4096x56x64 main_cst_2
  let main_v10 : IVec S12x4096x56x64 1 := cmpf .olt main_v8 main_v9
  let main_c_3 : IVec S_ 1 := constantI S_ 1 1#1
  let main_v11 : IVec S_ 1 := (fun x v => Host.reduce IntOp.andi x v reducesTo_S12x4096x56x64_S_d0_1_2_3 h_S_) main_v10 main_c_3
  let main_v12 : IVec S_ 1 := andi main_v7 main_v11
  let main_v13 : FVec F S12x4096x56x64 .f32 := Host.absf main_arg2
  let main_cst_4 : FVec F S_ .f32 := constant S_ .f32 0x7F800000#32
  let main_v14 : FVec F S12x4096x56x64 .f32 := broadcastInDim S12x4096x56x64 ![] bcast_S_S12x4096x56x64 main_cst_4
  let main_v15 : IVec S12x4096x56x64 1 := cmpf .olt main_v13 main_v14
  let main_c_5 : IVec S_ 1 := constantI S_ 1 1#1
  fn_part1 (F := F) main_arg3 main_arg4 main_arg5 main_arg7 main_arg8 main_arg9 main_v12 main_v15 main_c_5
-- ==== Kernel.lean ====
abbrev S12x4096x56x64 : Shape := ⟨4, ![12, 4096, 56, 64]⟩
abbrev S12x4096x56 : Shape := ⟨3, ![12, 4096, 56]⟩
abbrev S12x56x64x64 : Shape := ⟨4, ![12, 56, 64, 64]⟩
abbrev S12x4096 : Shape := ⟨2, ![12, 4096]⟩
abbrev S12x1x4096 : Shape := ⟨3, ![12, 1, 4096]⟩
abbrev S12x56x64x4096 : Shape := ⟨4, ![12, 56, 64, 4096]⟩
abbrev S12x56x4096 : Shape := ⟨3, ![12, 56, 4096]⟩
abbrev S1x8x64x512 : Shape := ⟨4, ![1, 8, 64, 512]⟩
abbrev S1x8x512 : Shape := ⟨3, ![1, 8, 512]⟩
abbrev S1x8x64x64 : Shape := ⟨4, ![1, 8, 64, 64]⟩
abbrev S1x1x512 : Shape := ⟨3, ![1, 1, 512]⟩
abbrev S8x64x64 : Shape := ⟨3, ![8, 64, 64]⟩
abbrev S3x8x1x128 : Shape := ⟨4, ![3, 8, 1, 128]⟩
abbrev S128x128 : Shape := ⟨2, ![128, 128]⟩
abbrev S64x64 : Shape := ⟨2, ![64, 64]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S1x1x1x128 : Shape := ⟨4, ![1, 1, 1, 128]⟩
abbrev S1x1x64x128 : Shape := ⟨4, ![1, 1, 64, 128]⟩
abbrev S64x128 : Shape := ⟨2, ![64, 128]⟩
abbrev S1x1x64x64 : Shape := ⟨4, ![1, 1, 64, 64]⟩
abbrev S1x64x64 : Shape := ⟨3, ![1, 64, 64]⟩
abbrev S128x64 : Shape := ⟨2, ![128, 64]⟩
abbrev S64x1 : Shape := ⟨2, ![64, 1]⟩
abbrev S1x64 : Shape := ⟨2, ![1, 64]⟩

abbrev nBuf : Space → Nat
  | .hbm => 28
  | .vmem => 28
  | .smem => 0
  | _ => 0

abbrev bufTy : (tb : Table) → Fin (tcTables nBuf tb) → BufTy
  | .hbm, ⟨0, _⟩ => ⟨S12x4096x56x64, .f32⟩
  | .hbm, ⟨1, _⟩ => ⟨S12x4096x56x64, .f32⟩
  | .hbm, ⟨2, _⟩ => ⟨S12x4096x56x64, .f32⟩
  | .hbm, ⟨3, _⟩ => ⟨S12x4096x56, .f32⟩
  | .hbm, ⟨4, _⟩ => ⟨S12x4096x56, .f32⟩
  | .hbm, ⟨5, _⟩ => ⟨S12x4096x56, .f32⟩
  | .hbm, ⟨6, _⟩ => ⟨S12x4096x56x64, .bf16⟩
  | .hbm, ⟨7, _⟩ => ⟨S12x4096x56x64, .bf16⟩
  | .hbm, ⟨8, _⟩ => ⟨S12x4096x56x64, .bf16⟩
  | .hbm, ⟨9, _⟩ => ⟨S12x56x64x64, .f32⟩
  | .hbm, ⟨10, _⟩ => ⟨S12x4096, .i1⟩
  | .hbm, ⟨11, _⟩ => ⟨S12x4096x56x64, .fp8e4m3⟩
  | .hbm, ⟨12, _⟩ => ⟨S12x4096x56x64, .fp8e4m3⟩
  | .hbm, ⟨13, _⟩ => ⟨S12x4096x56x64, .fp8e4m3⟩
  | .hbm, ⟨14, _⟩ => ⟨S12x4096, .f32⟩
  | .hbm, ⟨15, _⟩ => ⟨S12x1x4096, .f32⟩
  | .hbm, ⟨16, _⟩ => ⟨S12x56x64x4096, .fp8e4m3⟩
  | .hbm, ⟨17, _⟩ => ⟨S12x56x64x4096, .fp8e4m3⟩
  | .hbm, ⟨18, _⟩ => ⟨S12x56x64x4096, .fp8e4m3⟩
  | .hbm, ⟨19, _⟩ => ⟨S12x56x4096, .f32⟩
  | .hbm, ⟨20, _⟩ => ⟨S12x56x4096, .f32⟩
  | .hbm, ⟨21, _⟩ => ⟨S12x56x4096, .f32⟩
  | .hbm, ⟨22, _⟩ => ⟨S12x56x64x4096, .bf16⟩
  | .hbm, ⟨23, _⟩ => ⟨S12x56x64x4096, .bf16⟩
  | .hbm, ⟨24, _⟩ => ⟨S12x56x64x4096, .bf16⟩
  | .hbm, ⟨25, _⟩ => ⟨S12x56x64x4096, .bf16⟩
  | .hbm, ⟨26, _⟩ => ⟨S12x56x64x64, .f32⟩
  | .hbm, ⟨27, _⟩ => ⟨S12x4096x56x64, .bf16⟩
  | .local _ .vmem, ⟨0, _⟩ => ⟨S1x8x64x512, .fp8e4m3⟩
  | .local _ .vmem, ⟨1, _⟩ => ⟨S1x8x64x512, .fp8e4m3⟩
  | .local _ .vmem, ⟨2, _⟩ => ⟨S1x8x64x512, .fp8e4m3⟩
  | .local _ .vmem, ⟨3, _⟩ => ⟨S1x8x64x512, .fp8e4m3⟩
  | .local _ .vmem, ⟨4, _⟩ => ⟨S1x8x64x512, .fp8e4m3⟩
  | .local _ .vmem, ⟨5, _⟩ => ⟨S1x8x64x512, .fp8e4m3⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x64x512, .bf16⟩
  | .local _ .vmem, ⟨13, _⟩ => ⟨S1x8x64x512, .bf16⟩
  | .local _ .vmem, ⟨14, _⟩ => ⟨S1x8x64x512, .bf16⟩
  | .local _ .vmem, ⟨15, _⟩ => ⟨S1x8x64x512, .bf16⟩
  | .local _ .vmem, ⟨16, _⟩ => ⟨S1x8x64x512, .bf16⟩
  | .local _ .vmem, ⟨17, _⟩ => ⟨S1x8x64x512, .bf16⟩
  | .local _ .vmem, ⟨18, _⟩ => ⟨S1x8x64x64, .f32⟩
  | .local _ .vmem, ⟨19, _⟩ => ⟨S1x8x64x64, .f32⟩
  | .local _ .vmem, ⟨20, _⟩ => ⟨S1x1x512, .f32⟩
  | .local _ .vmem, ⟨21, _⟩ => ⟨S1x1x512, .f32⟩
  | .local _ .vmem, ⟨22, _⟩ => ⟨S1x8x64x512, .bf16⟩
  | .local _ .vmem, ⟨23, _⟩ => ⟨S1x8x64x512, .bf16⟩
  | .local _ .vmem, ⟨24, _⟩ => ⟨S1x8x64x64, .f32⟩
  | .local _ .vmem, ⟨25, _⟩ => ⟨S1x8x64x64, .f32⟩
  | .local _ .vmem, ⟨26, _⟩ => ⟨S8x64x64, .f32⟩
  | .local _ .vmem, ⟨27, _⟩ => ⟨S3x8x1x128, .f32⟩
  | _, _ => ⟨S12x4096x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![12, 7, 8], ![false, false, false]⟩

@[reducible] def k0_t1_loop : Scf.Loop 32 :=
  let c0_i32_16 : BitVec 32 := 0#32
  let c4_i32 : BitVec 32 := 4#32
  let v65 : BitVec 32 := Scalar.addi c0_i32_16 c4_i32
  let c1_i32_17 : BitVec 32 := 1#32
  ⟨c0_i32_16, v65, c1_i32_17⟩
def k0_mult1 (k0_t1 : Fin k0_t1_loop.trips) : BitVec 32 :=
  let c0_i32_16 : BitVec 32 := 0#32
  let c1_i32_17 : BitVec 32 := 1#32
  let arg18 : BitVec 32 := Scf.iv c0_i32_16 c1_i32_17 k0_t1
  let c128_i32 : BitVec 32 := 128#32
  let v69 : BitVec 32 := Scalar.muli arg18 c128_i32
  v69
def k0_off1 (k0_t1 : Fin k0_t1_loop.trips) : Fin 3 → Nat :=
  let c0 : Index := 0#32
  let c0_20 : Index := 0#32
  let c0_i32_16 : BitVec 32 := 0#32
  let c1_i32_17 : BitVec 32 := 1#32
  let arg18 : BitVec 32 := Scf.iv c0_i32_16 c1_i32_17 k0_t1
  let c128_i32 : BitVec 32 := 128#32
  let v69 : BitVec 32 := Scalar.muli arg18 c128_i32
  let v70 : BitVec 32 := v69
  let v71 : Index := Scalar.indexCast v70
  ![0, 0, v71.toNat]
def k0_off2 (k0_t1 : Fin k0_t1_loop.trips) : Fin 3 → Nat :=
  let c0_26 : Index := 0#32
  let c0_27 : Index := 0#32
  let c0_i32_16 : BitVec 32 := 0#32
  let c1_i32_17 : BitVec 32 := 1#32
  let arg18 : BitVec 32 := Scf.iv c0_i32_16 c1_i32_17 k0_t1
  let c128_i32 : BitVec 32 := 128#32
  let v69 : BitVec 32 := Scalar.muli arg18 c128_i32
  let v70 : BitVec 32 := v69
  let v93 : Index := Scalar.indexCast v70
  ![0, 0, v93.toNat]
@[reducible] def k0_t2_loop : Scf.Loop 32 :=
  let c0_i32_121 : BitVec 32 := 0#32
  let c8_i32 : BitVec 32 := 8#32
  let v198 : BitVec 32 := Scalar.addi c0_i32_121 c8_i32
  let c1_i32_122 : BitVec 32 := 1#32
  ⟨c0_i32_121, v198, c1_i32_122⟩
def k0_off3 (k0_t1 : Fin k0_t1_loop.trips) (k0_t2 : Fin k0_t2_loop.trips) : Fin 4 → Nat :=
  let c0_124 : Index := 0#32
  let c0_i32_121 : BitVec 32 := 0#32
  let c1_i32_122 : BitVec 32 := 1#32
  let arg19 : BitVec 32 := Scf.iv c0_i32_121 c1_i32_122 k0_t2
  let v199 : Index := Scalar.indexCast arg19
  let c0_125 : Index := 0#32
  let c0_i32_16 : BitVec 32 := 0#32
  let c1_i32_17 : BitVec 32 := 1#32
  let arg18 : BitVec 32 := Scf.iv c0_i32_16 c1_i32_17 k0_t1
  let c128_i32 : BitVec 32 := 128#32
  let v69 : BitVec 32 := Scalar.muli arg18 c128_i32
  let v70 : BitVec 32 := v69
  let v200 : Index := Scalar.indexCast v70
  ![0, v199.toNat, 0, v200.toNat]
def k0_off4 (k0_t2 : Fin k0_t2_loop.trips) : Fin 4 → Nat :=
  let c0_135 : Index := 0#32
  let c0_i32_121 : BitVec 32 := 0#32
  let c1_i32_122 : BitVec 32 := 1#32
  let arg19 : BitVec 32 := Scf.iv c0_i32_121 c1_i32_122 k0_t2
  let v227 : Index := Scalar.indexCast arg19
  let c0_136 : Index := 0#32
  let c0_137 : Index := 0#32
  ![0, v227.toNat, 0, 0]
def k0_off5 (k0_t2 : Fin k0_t2_loop.trips) : Fin 4 → Nat :=
  let c1_142 : Index := 1#32
  let c0_i32_121 : BitVec 32 := 0#32
  let c1_i32_122 : BitVec 32 := 1#32
  let arg19 : BitVec 32 := Scf.iv c0_i32_121 c1_i32_122 k0_t2
  let v245 : Index := Scalar.indexCast arg19
  let c0_143 : Index := 0#32
  let c0_144 : Index := 0#32
  ![1, v245.toNat, 0, 0]
def k0_off6 (k0_t2 : Fin k0_t2_loop.trips) : Fin 4 → Nat :=
  let c2_147 : Index := 2#32
  let c0_i32_121 : BitVec 32 := 0#32
  let c1_i32_122 : BitVec 32 := 1#32
  let arg19 : BitVec 32 := Scf.iv c0_i32_121 c1_i32_122 k0_t2
  let v256 : Index := Scalar.indexCast arg19
  let c0_148 : Index := 0#32
  let c0_149 : Index := 0#32
  ![2, v256.toNat, 0, 0]
def k0_off7 (k0_t2 : Fin k0_t2_loop.trips) : Fin 4 → Nat :=
  let c0_150 : Index := 0#32
  let c0_i32_121 : BitVec 32 := 0#32
  let c1_i32_122 : BitVec 32 := 1#32
  let arg19 : BitVec 32 := Scf.iv c0_i32_121 c1_i32_122 k0_t2
  let v261 : Index := Scalar.indexCast arg19
  let c0_151 : Index := 0#32
  let c0_152 : Index := 0#32
  ![0, v261.toNat, 0, 0]
def k0_off8 (k0_t2 : Fin k0_t2_loop.trips) : Fin 3 → Nat :=
  let c0_i32_121 : BitVec 32 := 0#32
  let c1_i32_122 : BitVec 32 := 1#32
  let arg19 : BitVec 32 := Scf.iv c0_i32_121 c1_i32_122 k0_t2
  let v264 : Index := Scalar.indexCast arg19
  let c0_153 : Index := 0#32
  let c0_154 : Index := 0#32
  ![v264.toNat, 0, 0]
def k0_cond2 (i : grid0.Coords) : BitVec 1 :=
  let arg2 : BitVec 32 := BitVec.ofNat 32 (i 2).val
  let c7_i32 : BitVec 32 := 7#32
  let v66 : BitVec 1 := Scalar.cmpi .eq arg2 c7_i32
  let v67 : BitVec 32 := Scalar.extui v66
  let c0_i32_19 : BitVec 32 := 0#32
  let v68 : BitVec 1 := Scalar.cmpi .ne v67 c0_i32_19
  v68

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x64x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x64x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x64x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1x8x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x8x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S12x4096x56x64 : Shape := ⟨4, ![12, 4096, 56, 64]⟩
abbrev S12x4096x56 : Shape := ⟨3, ![12, 4096, 56]⟩
abbrev S12x56x64x64 : Shape := ⟨4, ![12, 56, 64, 64]⟩
abbrev S12x4096 : Shape := ⟨2, ![12, 4096]⟩
abbrev S12x4096x1x1x1 : Shape := ⟨5, ![12, 4096, 1, 1, 1]⟩
abbrev S12x1x56x64 : Shape := ⟨4, ![12, 1, 56, 64]⟩
abbrev S12x56x64 : Shape := ⟨3, ![12, 56, 64]⟩
abbrev S12x1x56 : Shape := ⟨3, ![12, 1, 56]⟩
abbrev S12x56 : Shape := ⟨2, ![12, 56]⟩
abbrev S12x56x1 : Shape := ⟨3, ![12, 56, 1]⟩
abbrev S12x1x1x1x1 : Shape := ⟨5, ![12, 1, 1, 1, 1]⟩
abbrev S12x1x1x1 : Shape := ⟨4, ![12, 1, 1, 1]⟩
abbrev S12x56x1x64 : Shape := ⟨4, ![12, 56, 1, 64]⟩
abbrev S12x56x64x1 : Shape := ⟨4, ![12, 56, 64, 1]⟩

abbrev nBuf : Space → Nat
  | .hbm => 18
  | .vmem => 13
  | .smem => 0
  | _ => 0

abbrev bufTy : (tb : Table) → Fin (tcTables nBuf tb) → BufTy
  | .hbm, ⟨0, _⟩ => ⟨S12x4096x56x64, .f32⟩
  | .hbm, ⟨1, _⟩ => ⟨S12x4096x56x64, .f32⟩
  | .hbm, ⟨2, _⟩ => ⟨S12x4096x56x64, .f32⟩
  | .hbm, ⟨3, _⟩ => ⟨S12x4096x56, .f32⟩
  | .hbm, ⟨4, _⟩ => ⟨S12x4096x56, .f32⟩
  | .hbm, ⟨5, _⟩ => ⟨S12x4096x56, .f32⟩
  | .hbm, ⟨6, _⟩ => ⟨S12x4096x56x64, .bf16⟩
  | .hbm, ⟨7, _⟩ => ⟨S12x4096x56x64, .bf16⟩
  | .hbm, ⟨8, _⟩ => ⟨S12x4096x56x64, .bf16⟩
  | .hbm, ⟨9, _⟩ => ⟨S12x56x64x64, .f32⟩
  | .hbm, ⟨10, _⟩ => ⟨S12x4096, .i1⟩
  | .hbm, ⟨11, _⟩ => ⟨S12x4096x56x64, .fp8e4m3⟩
  | .hbm, ⟨12, _⟩ => ⟨S12x4096x56x64, .fp8e4m3⟩
  | .hbm, ⟨13, _⟩ => ⟨S12x4096x56x64, .fp8e4m3⟩
  | .hbm, ⟨14, _⟩ => ⟨S12x4096, .i32⟩
  | .hbm, ⟨15, _⟩ => ⟨S12x4096x1x1x1, .i32⟩
  | .hbm, ⟨16, _⟩ => ⟨S12x4096x56x64, .bf16⟩
  | .hbm, ⟨17, _⟩ => ⟨S12x56x64x64, .f32⟩
  | .local _ .vmem, ⟨0, _⟩ => ⟨S12x4096x56x64, .fp8e4m3⟩
  | .local _ .vmem, ⟨1, _⟩ => ⟨S12x4096x56x64, .fp8e4m3⟩
  | .local _ .vmem, ⟨2, _⟩ => ⟨S12x4096x56x64, .fp8e4m3⟩
  | .local _ .vmem, ⟨3, _⟩ => ⟨S12x4096x56, .f32⟩
  | .local _ .vmem, ⟨4, _⟩ => ⟨S12x4096x56, .f32⟩
  | .local _ .vmem, ⟨5, _⟩ => ⟨S12x4096x56, .f32⟩
  | .local _ .vmem, ⟨6, _⟩ => ⟨S12x4096x56x64, .bf16⟩
  | .local _ .vmem, ⟨7, _⟩ => ⟨S12x4096x56x64, .bf16⟩
  | .local _ .vmem, ⟨8, _⟩ => ⟨S12x4096x56x64, .bf16⟩
  | .local _ .vmem, ⟨9, _⟩ => ⟨S12x56x64x64, .f32⟩
  | .local _ .vmem, ⟨10, _⟩ => ⟨S12x4096x1x1x1, .i32⟩
  | .local _ .vmem, ⟨11, _⟩ => ⟨S12x4096x56x64, .bf16⟩
  | .local _ .vmem, ⟨12, _⟩ => ⟨S12x56x64x64, .f32⟩
  | _, _ => ⟨S12x4096x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4096_i32 : BitVec 32 := 4096#32
  let v1 : BitVec 32 := Scalar.addi c0_i32 c4096_i32
  let c1_i32 : BitVec 32 := 1#32
  ⟨c0_i32, v1, c1_i32⟩
def k0_off1 (k0_t1 : Fin k0_t1_loop.trips) : Fin 4 → Nat :=
  let c0_8 : Index := 0#32
  let c0_i32 : BitVec 32 := 0#32
  let c1_i32 : BitVec 32 := 1#32
  let arg13 : BitVec 32 := Scf.iv c0_i32 c1_i32 k0_t1
  let v4 : Index := Scalar.indexCast arg13
  let c0_9 : Index := 0#32
  let c0_10 : Index := 0#32
  ![0, v4.toNat, 0, 0]
def k0_off2 (k0_t1 : Fin k0_t1_loop.trips) : Fin 3 → Nat :=
  let c0_11 : Index := 0#32
  let c0_i32 : BitVec 32 := 0#32
  let c1_i32 : BitVec 32 := 1#32
  let arg13 : BitVec 32 := Scf.iv c0_i32 c1_i32 k0_t1
  let v8 : Index := Scalar.indexCast arg13
  let c0_12 : Index := 0#32
  ![0, v8.toNat, 0]
def k0_off3 (k0_t1 : Fin k0_t1_loop.trips) : Fin 5 → Nat :=
  let c0_33 : Index := 0#32
  let c0_i32 : BitVec 32 := 0#32
  let c1_i32 : BitVec 32 := 1#32
  let arg13 : BitVec 32 := Scf.iv c0_i32 c1_i32 k0_t1
  let v53 : Index := Scalar.indexCast arg13
  let c0_34 : Index := 0#32
  let c0_35 : Index := 0#32
  let c0_36 : Index := 0#32
  ![0, v53.toNat, 0, 0, 0]
abbrev stage0_0 : Fin 1 → Memref sig .tc .vmem S12x4096x56x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x4096x56x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x4096x56x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x4096x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4096x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x4096x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x4096x56x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x4096x56x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x4096x56x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x56x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x4096x1x1x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x4096x56x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x56x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KernelFrame.lean ====
/-
  The frame of `Kernel`: the kernel runs to its end from any contents and leaves every argument as it was.
  Both results are forgotten here (nothing is said of what they hold), and so are the two scratch buffers.
-/
module

public import proofs.«01_k».proof.Proof.Gen.Kernel.Frame
public import proofs.«01_k».proof.Proof.Gen.Kernel.Loops
public import proofs.«01_k».proof.Proof.Gen.Kernel.Points
public import Idealize.ShloMosaic.Lib.Pipeline.FrameSuffix

@[expose] public section

set_option warn.classDefReducibility false

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions speak of. -/
local notation "𝕄" => MT nD τ sig Unit (Elt F) ℕ (UR sig nD τ) ℕ

/-- The loop over the four units of 128 tokens: before each trip the inputs are at their contents, the result block
    and the two scratch buffers at some contents. -/
@[sl_loop] noncomputable def loopInv_k0_t1 (c : Dev nD) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole) (v3 : IVec S128x128 32) (v4 : IVec S128x128 32) (v28 : IVec S128x128 32) (c64_i32_6 : BitVec 32) (v30 : IVec S128x128 32) (v37 : IVec S128x128 32) (v39 : BitVec 32) (v41 : BitVec 32) (v59 : IVec S64x64 32) (v60 : IVec S64x64 32)
    (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v28 c64_i32_6 v30 v37 v39 v41 v59 v60 where
  inv := fun k acc => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt F) arg14.view.ty, (arg14.view.loc (c : Thread nD τ) ↦[arg14.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)))
  step := fun k acc => by
    unfold k0_t1_body
    iintro ⟨H3, H4, H5, H6, H7, H8, H9, H10, H11, H12, H13, ⟨%f14, H14⟩, ⟨%f16, H16⟩, ⟨%f17, H17⟩⟩
    sl_exec
    sl_step
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _; iexact H14
    isplitl [H16]
    · iexists _; iexact H16
    iexists _; iexact H17

/-- Whether the call is the first of its head block: the condition under which the state is loaded. -/
def cond1 (i : grid0.Coords) : BitVec 1 :=
  let arg2 : BitVec 32 := BitVec.ofNat 32 (i 2).val
  let v0 : BitVec 1 := Scalar.cmpi .eq arg2 0#32
  let v1 : BitVec 32 := Scalar.extui v0
  let v2 : BitVec 1 := Scalar.cmpi .ne v1 0#32
  v2

set_option maxHeartbeats 1600000 in
/-- One call of the kernel's body: from the inputs at their contents and the results and scratch at any, it runs to
    its end and hands all of them back, the inputs unchanged. -/
theorem kernelRun (c : Dev nD) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole)
    (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (K : PUnit → sProp 𝕄) :
    iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))
      ∗ (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))) -∗ K ⟨⟩))
    ⊢ wp frame (wpE (defs₀ (F := F)) Variants.none c none) Set.univ (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rwkv7_chunked_eq_skeleton]; unfold cc0_rwkv7_chunked_skel
  iintro ⟨H3, H4, H5, H6, H7, H8, H9, H10, H11, H12, H13, ⟨%f14, H14⟩, ⟨%f15, H15⟩, ⟨%f16, H16⟩, ⟨%f17, H17⟩, Hk⟩
  by_cases h1 : cond1 i = 1#1 <;> by_cases h2 : k0_cond2 i = 1#1
  all_goals
    unfold cond1 at h1
    sl_exec
    sl_step
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _; iexact H14
    isplitl [H15]
    · iexists _; iexact H15
    isplitl [H16]
    · iexists _; iexact H16
    iexists _; iexact H17

variable (m : (ℓ : Loc nD τ sig) → Buf (Elt F) ℓ) (ρ : Dev nD → PrngReg)

/-- The two results are forgotten. -/
abbrev fgt : Fin 13 → Bool := fun w => decide (11 ≤ w.val)

/-- The proof data: the arrays as the region finds them, each input's block in its staging buffer after the body, and
    no contents named for the two results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- A point leaves the receptance codes' block as it found it. -/
theorem after0_0 (c : Dev nD) (t : Fin cfg0.N) : (dats m 0 c).after 0 t = iblk m c 0 t := by dsimp only [dats]
/-- A point leaves the key codes' block as it found it. -/
theorem after0_1 (c : Dev nD) (t : Fin cfg0.N) : (dats m 0 c).after 1 t = iblk m c 1 t := by dsimp only [dats]
/-- A point leaves the value codes' block as it found it. -/
theorem after0_2 (c : Dev nD) (t : Fin cfg0.N) : (dats m 0 c).after 2 t = iblk m c 2 t := by dsimp only [dats]
/-- A point leaves the receptance scales' block as it found it. -/
theorem after0_3 (c : Dev nD) (t : Fin cfg0.N) : (dats m 0 c).after 3 t = iblk m c 3 t := by dsimp only [dats]
/-- A point leaves the key scales' block as it found it. -/
theorem after0_4 (c : Dev nD) (t : Fin cfg0.N) : (dats m 0 c).after 4 t = iblk m c 4 t := by dsimp only [dats]
/-- A point leaves the value scales' block as it found it. -/
theorem after0_5 (c : Dev nD) (t : Fin cfg0.N) : (dats m 0 c).after 5 t = iblk m c 5 t := by dsimp only [dats]
/-- A point leaves the log decays' block as it found it. -/
theorem after0_6 (c : Dev nD) (t : Fin cfg0.N) : (dats m 0 c).after 6 t = iblk m c 6 t := by dsimp only [dats]
/-- A point leaves the removal keys' block as it found it. -/
theorem after0_7 (c : Dev nD) (t : Fin cfg0.N) : (dats m 0 c).after 7 t = iblk m c 7 t := by dsimp only [dats]
/-- A point leaves the learning rates' block as it found it. -/
theorem after0_8 (c : Dev nD) (t : Fin cfg0.N) : (dats m 0 c).after 8 t = iblk m c 8 t := by dsimp only [dats]
/-- A point leaves the initial states' block as it found it. -/
theorem after0_9 (c : Dev nD) (t : Fin cfg0.N) : (dats m 0 c).after 9 t = iblk m c 9 t := by dsimp only [dats]
/-- A point leaves the segment starts' block as it found it. -/
theorem after0_10 (c : Dev nD) (t : Fin cfg0.N) : (dats m 0 c).after 10 t = iblk m c 10 t := by dsimp only [dats]
/-- A point finds the receptance codes' block as it was fetched. -/
theorem before0_0 (c : Dev nD) (t : Fin cfg0.N) (d) : (dats m 0 c).before 0 t d = iblk m c 0 t :=
  before0_0_of m (dats m 0 c) (A_eq m c 0) (after0_0 m c) t d
/-- A point finds the key codes' block as it was fetched. -/
theorem before0_1 (c : Dev nD) (t : Fin cfg0.N) (d) : (dats m 0 c).before 1 t d = iblk m c 1 t :=
  before0_1_of m (dats m 0 c) (A_eq m c 1) (after0_1 m c) t d
/-- A point finds the value codes' block as it was fetched. -/
theorem before0_2 (c : Dev nD) (t : Fin cfg0.N) (d) : (dats m 0 c).before 2 t d = iblk m c 2 t :=
  before0_2_of m (dats m 0 c) (A_eq m c 2) (after0_2 m c) t d
/-- A point finds the receptance scales' block as it was fetched. -/
theorem before0_3 (c : Dev nD) (t : Fin cfg0.N) (d) : (dats m 0 c).before 3 t d = iblk m c 3 t :=
  before0_3_of m (dats m 0 c) (A_eq m c 3) (after0_3 m c) t d
/-- A point finds the key scales' block as it was fetched. -/
theorem before0_4 (c : Dev nD) (t : Fin cfg0.N) (d) : (dats m 0 c).before 4 t d = iblk m c 4 t :=
  before0_4_of m (dats m 0 c) (A_eq m c 4) (after0_4 m c) t d
/-- A point finds the value scales' block as it was fetched. -/
theorem before0_5 (c : Dev nD) (t : Fin cfg0.N) (d) : (dats m 0 c).before 5 t d = iblk m c 5 t :=
  before0_5_of m (dats m 0 c) (A_eq m c 5) (after0_5 m c) t d
/-- A point finds the log decays' block as it was fetched. -/
theorem before0_6 (c : Dev nD) (t : Fin cfg0.N) (d) : (dats m 0 c).before 6 t d = iblk m c 6 t :=
  before0_6_of m (dats m 0 c) (A_eq m c 6) (after0_6 m c) t d
/-- A point finds the removal keys' block as it was fetched. -/
theorem before0_7 (c : Dev nD) (t : Fin cfg0.N) (d) : (dats m 0 c).before 7 t d = iblk m c 7 t :=
  before0_7_of m (dats m 0 c) (A_eq m c 7) (after0_7 m c) t d
/-- A point finds the learning rates' block as it was fetched. -/
theorem before0_8 (c : Dev nD) (t : Fin cfg0.N) (d) : (dats m 0 c).before 8 t d = iblk m c 8 t :=
  before0_8_of m (dats m 0 c) (A_eq m c 8) (after0_8 m c) t d
/-- A point finds the initial states' block as it was fetched. -/
theorem before0_9 (c : Dev nD) (t : Fin cfg0.N) (d) : (dats m 0 c).before 9 t d = iblk m c 9 t :=
  before0_9_of m (dats m 0 c) (A_eq m c 9) (after0_9 m c) t d
/-- A point finds the segment starts' block as it was fetched. -/
theorem before0_10 (c : Dev nD) (t : Fin cfg0.N) (d) : (dats m 0 c).before 10 t d = iblk m c 10 t :=
  before0_10_of m (dats m 0 c) (A_eq m c 10) (after0_10 m c) t d

/-- The class invariant, its two scratch buffers at some contents each. -/
theorem phiA_eq (c : Dev nD) : (Pipeline.ΦA spec0 c : sProp 𝕄)
    = iprop(((∃ X, owns (c : Thread nD τ) (Memref.whole cc0_scratch0) fullShare X)
        ∗ (∃ X, owns (c : Thread nD τ) (Memref.whole cc0_scratch1) fullShare X)) ∗ ∃ r, prngReg c r) := by
  unfold Pipeline.ΦA; rw [scopedRest0_eq]; simp only [owns_whole]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X))

set_option maxHeartbeats 1600000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, after0_4, after0_5, after0_6, after0_7, after0_8, after0_9, after0_10]
  rw [phiA_eq]
  unfold owns
  iintro ⟨⟨⟨⟨%S0, %s0, %hs0, HS0⟩, ⟨%S1, %s1, %hs1, HS1⟩⟩, HR⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  iapply (kernelRun c _ _ _ _ _ _ _ _ _ _ _ _ _ _ _ _ _ _ _ _ _ _ _ _ _ _ _ _ _ _ _ f0 f1 f2 f3 f4 f5 f6 f7 f8 f9 f10 _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; iexact H11
  isplitl [H12]
  · iexists _; iexact H12
  isplitl [HS0]
  · iexists _; iexact HS0
  isplitl [HS1]
  · iexists _; iexact HS1
  iintro ⟨H0, H1, H2, H3, H4, H5, H6, H7, H8, H9, H10, ⟨%e11, H11⟩, ⟨%e12, H12⟩, ⟨%e0, HS0⟩, ⟨%e1, HS1⟩⟩
  isplitl [HS0 HS1 HR]
  · isplitl [HS0 HS1]
    · isplitl [HS0]
      · iexists _; iexists e0; isplitr; · ipureintro; rfl
        iexact HS0
      iexists _; iexists e1; isplitr; · ipureintro; rfl
      iexact HS1
    iexact HR
  isplitl [Ho]
  · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; iexists e11; isplitr; · ipureintro; rfl
    iexact H11
  iexists _; iexists e12; isplitr; · ipureintro; rfl
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: the program runs to its end, every argument is as it was, and every semaphore counter is at zero. -/
theorem run_main : θ_run defs (onTc (τ := τ) (main (F := F))) (s₀ m ρ)
    (fun r => Pipeline.RDat.FramePostR cfg0 (fun c => (dats m 0 c).toRForget fgt) {main_v15} (fun c b => V0 m c (Proc.devRef .tc b)) r ∧ r.2.sem = fun _ => 0) :=
  Pipeline.θ_run_frame_around_T_forget (Q' := _) cfgs (dats m) (0 : Fin 1) launch0 defs₀ Variants.none fgt {main_v15} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.unary_writes, Finset.mem_singleton] at hb
      rw [Finset.mem_singleton]
      by_contra hne
      exact StableHlo.devRef_ne_of_ne hne hb)
    (hmain := hmain m Variants.none) (hA := A_eq m) (hΦ := fun _ _ => rfl)

/-- The frame: every argument ends as it was launched, and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c), ((h.1 c).2 main_arg8 (Finset.mem_sdiff.mpr ⟨Pipeline.mem_restRefs_of main_arg8 (by decide) (by decide), by decide⟩)).trans (V_main_arg8 m c), (Pipeline.RDat.FramePostR.arr_in h.1 c 9 rfl).trans ((A_eq m c 9).trans (V_main_arg9 m c)), ((h.1 c).2 main_arg10 (Finset.mem_sdiff.mpr ⟨Pipeline.mem_restRefs_of main_arg10 (by decide) (by decide), by decide⟩)).trans (V_main_arg10 m c)⟩, h.2⟩) (run_main m ρ)

end Cert.Proof.KernelFrame

end
-- ==== Proof.KernelIdealFrame.lean ====
/-
  The frame of `KernelIdeal`: the kernel runs to its end from any contents and leaves every argument as it was.
  Both results are forgotten here (nothing is said of what they hold), and so are the two scratch buffers.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameSuffix

@[expose] public section

set_option warn.classDefReducibility false

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources the assertions speak of. -/
local notation "𝕄" => MT nD τ sig Unit (Elt F) ℕ (UR sig nD τ) ℕ

/-- The loop over the four units of 128 tokens: before each trip the inputs are at their contents, the result block
    and the two scratch buffers at some contents. -/
@[sl_loop] noncomputable def loopInv_k0_t1 (c : Dev nD) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole) (v3 : IVec S128x128 32) (v4 : IVec S128x128 32) (v28 : IVec S128x128 32) (c64_i32_6 : BitVec 32) (v30 : IVec S128x128 32) (v37 : IVec S128x128 32) (v39 : BitVec 32) (v41 : BitVec 32) (v59 : IVec S64x64 32) (v60 : IVec S64x64 32)
    (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v28 c64_i32_6 v30 v37 v39 v41 v59 v60 where
  inv := fun k acc => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt F) arg14.view.ty, (arg14.view.loc (c : Thread nD τ) ↦[arg14.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)))
  step := fun k acc => by
    unfold k0_t1_body
    iintro ⟨H3, H4, H5, H6, H7, H8, H9, H10, H11, H12, H13, ⟨%f14, H14⟩, ⟨%f16, H16⟩, ⟨%f17, H17⟩⟩
    sl_exec
    sl_step
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _; iexact H14
    isplitl [H16]
    · iexists _; iexact H16
    iexists _; iexact H17

/-- Whether the call is the first of its head block: the condition under which the state is loaded. -/
def cond1 (i : grid0.Coords) : BitVec 1 :=
  let arg2 : BitVec 32 := BitVec.ofNat 32 (i 2).val
  let v0 : BitVec 1 := Scalar.cmpi .eq arg2 0#32
  let v1 : BitVec 32 := Scalar.extui v0
  let v2 : BitVec 1 := Scalar.cmpi .ne v1 0#32
  v2

set_option maxHeartbeats 1600000 in
/-- One call of the kernel's body: from the inputs at their contents and the results and scratch at any, it runs to
    its end and hands all of them back, the inputs unchanged. -/
theorem kernelRun (c : Dev nD) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole)
    (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (K : PUnit → sProp 𝕄) :
    iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))
      ∗ (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))) -∗ K ⟨⟩))
    ⊢ wp frame (wpE (defs₀ (F := F)) Variants.none c none) Set.univ (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rwkv7_chunked_eq_skeleton]; unfold cc0_rwkv7_chunked_skel
  iintro ⟨H3, H4, H5, H6, H7, H8, H9, H10, H11, H12, H13, ⟨%f14, H14⟩, ⟨%f15, H15⟩, ⟨%f16, H16⟩, ⟨%f17, H17⟩, Hk⟩
  by_cases h1 : cond1 i = 1#1 <;> by_cases h2 : k0_cond2 i = 1#1
  all_goals
    unfold cond1 at h1
    sl_exec
    sl_step
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _; iexact H14
    isplitl [H15]
    · iexists _; iexact H15
    isplitl [H16]
    · iexists _; iexact H16
    iexists _; iexact H17

variable (m : (ℓ : Loc nD τ sig) → Buf (Elt F) ℓ) (ρ : Dev nD → PrngReg)

/-- The two results are forgotten. -/
abbrev fgt : Fin 13 → Bool := fun w => decide (11 ≤ w.val)

/-- The proof data: the arrays as the region finds them, each input's block in its staging buffer after the body, and
    no contents named for the two results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- A point leaves the receptance codes' block as it found it. -/
theorem after0_0 (c : Dev nD) (t : Fin cfg0.N) : (dats m 0 c).after 0 t = iblk m c 0 t := by dsimp only [dats]
/-- A point leaves the key codes' block as it found it. -/
theorem after0_1 (c : Dev nD) (t : Fin cfg0.N) : (dats m 0 c).after 1 t = iblk m c 1 t := by dsimp only [dats]
/-- A point leaves the value codes' block as it found it. -/
theorem after0_2 (c : Dev nD) (t : Fin cfg0.N) : (dats m 0 c).after 2 t = iblk m c 2 t := by dsimp only [dats]
/-- A point leaves the receptance scales' block as it found it. -/
theorem after0_3 (c : Dev nD) (t : Fin cfg0.N) : (dats m 0 c).after 3 t = iblk m c 3 t := by dsimp only [dats]
/-- A point leaves the key scales' block as it found it. -/
theorem after0_4 (c : Dev nD) (t : Fin cfg0.N) : (dats m 0 c).after 4 t = iblk m c 4 t := by dsimp only [dats]
/-- A point leaves the value scales' block as it found it. -/
theorem after0_5 (c : Dev nD) (t : Fin cfg0.N) : (dats m 0 c).after 5 t = iblk m c 5 t := by dsimp only [dats]
/-- A point leaves the log decays' block as it found it. -/
theorem after0_6 (c : Dev nD) (t : Fin cfg0.N) : (dats m 0 c).after 6 t = iblk m c 6 t := by dsimp only [dats]
/-- A point leaves the removal keys' block as it found it. -/
theorem after0_7 (c : Dev nD) (t : Fin cfg0.N) : (dats m 0 c).after 7 t = iblk m c 7 t := by dsimp only [dats]
/-- A point leaves the learning rates' block as it found it. -/
theorem after0_8 (c : Dev nD) (t : Fin cfg0.N) : (dats m 0 c).after 8 t = iblk m c 8 t := by dsimp only [dats]
/-- A point leaves the initial states' block as it found it. -/
theorem after0_9 (c : Dev nD) (t : Fin cfg0.N) : (dats m 0 c).after 9 t = iblk m c 9 t := by dsimp only [dats]
/-- A point leaves the segment starts' block as it found it. -/
theorem after0_10 (c : Dev nD) (t : Fin cfg0.N) : (dats m 0 c).after 10 t = iblk m c 10 t := by dsimp only [dats]
/-- A point finds the receptance codes' block as it was fetched. -/
theorem before0_0 (c : Dev nD) (t : Fin cfg0.N) (d) : (dats m 0 c).before 0 t d = iblk m c 0 t :=
  before0_0_of m (dats m 0 c) (A_eq m c 0) (after0_0 m c) t d
/-- A point finds the key codes' block as it was fetched. -/
theorem before0_1 (c : Dev nD) (t : Fin cfg0.N) (d) : (dats m 0 c).before 1 t d = iblk m c 1 t :=
  before0_1_of m (dats m 0 c) (A_eq m c 1) (after0_1 m c) t d
/-- A point finds the value codes' block as it was fetched. -/
theorem before0_2 (c : Dev nD) (t : Fin cfg0.N) (d) : (dats m 0 c).before 2 t d = iblk m c 2 t :=
  before0_2_of m (dats m 0 c) (A_eq m c 2) (after0_2 m c) t d
/-- A point finds the receptance scales' block as it was fetched. -/
theorem before0_3 (c : Dev nD) (t : Fin cfg0.N) (d) : (dats m 0 c).before 3 t d = iblk m c 3 t :=
  before0_3_of m (dats m 0 c) (A_eq m c 3) (after0_3 m c) t d
/-- A point finds the key scales' block as it was fetched. -/
theorem before0_4 (c : Dev nD) (t : Fin cfg0.N) (d) : (dats m 0 c).before 4 t d = iblk m c 4 t :=
  before0_4_of m (dats m 0 c) (A_eq m c 4) (after0_4 m c) t d
/-- A point finds the value scales' block as it was fetched. -/
theorem before0_5 (c : Dev nD) (t : Fin cfg0.N) (d) : (dats m 0 c).before 5 t d = iblk m c 5 t :=
  before0_5_of m (dats m 0 c) (A_eq m c 5) (after0_5 m c) t d
/-- A point finds the log decays' block as it was fetched. -/
theorem before0_6 (c : Dev nD) (t : Fin cfg0.N) (d) : (dats m 0 c).before 6 t d = iblk m c 6 t :=
  before0_6_of m (dats m 0 c) (A_eq m c 6) (after0_6 m c) t d
/-- A point finds the removal keys' block as it was fetched. -/
theorem before0_7 (c : Dev nD) (t : Fin cfg0.N) (d) : (dats m 0 c).before 7 t d = iblk m c 7 t :=
  before0_7_of m (dats m 0 c) (A_eq m c 7) (after0_7 m c) t d
/-- A point finds the learning rates' block as it was fetched. -/
theorem before0_8 (c : Dev nD) (t : Fin cfg0.N) (d) : (dats m 0 c).before 8 t d = iblk m c 8 t :=
  before0_8_of m (dats m 0 c) (A_eq m c 8) (after0_8 m c) t d
/-- A point finds the initial states' block as it was fetched. -/
theorem before0_9 (c : Dev nD) (t : Fin cfg0.N) (d) : (dats m 0 c).before 9 t d = iblk m c 9 t :=
  before0_9_of m (dats m 0 c) (A_eq m c 9) (after0_9 m c) t d
/-- A point finds the segment starts' block as it was fetched. -/
theorem before0_10 (c : Dev nD) (t : Fin cfg0.N) (d) : (dats m 0 c).before 10 t d = iblk m c 10 t :=
  before0_10_of m (dats m 0 c) (A_eq m c 10) (after0_10 m c) t d

/-- The class invariant, its two scratch buffers at some contents each. -/
theorem phiA_eq (c : Dev nD) : (Pipeline.ΦA spec0 c : sProp 𝕄)
    = iprop(((∃ X, owns (c : Thread nD τ) (Memref.whole cc0_scratch0) fullShare X)
        ∗ (∃ X, owns (c : Thread nD τ) (Memref.whole cc0_scratch1) fullShare X)) ∗ ∃ r, prngReg c r) := by
  unfold Pipeline.ΦA; rw [scopedRest0_eq]; simp only [owns_whole]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ X, owns (c : Thread nD τ) (st0_12 t) fullShare X))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ (∃ X, owns (c : Thread nD τ) (st0_12 t) fullShare X))

set_option maxHeartbeats 1600000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, after0_4, after0_5, after0_6, after0_7, after0_8, after0_9, after0_10]
  rw [phiA_eq]
  unfold owns
  iintro ⟨⟨⟨⟨%S0, %s0, %hs0, HS0⟩, ⟨%S1, %s1, %hs1, HS1⟩⟩, HR⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  iapply (kernelRun c _ _ _ _ _ _ _ _ _ _ _ _ _ _ _ _ _ _ _ _ _ _ _ _ _ _ _ _ _ _ _ f0 f1 f2 f3 f4 f5 f6 f7 f8 f9 f10 _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; iexact H11
  isplitl [H12]
  · iexists _; iexact H12
  isplitl [HS0]
  · iexists _; iexact HS0
  isplitl [HS1]
  · iexists _; iexact HS1
  iintro ⟨H0, H1, H2, H3, H4, H5, H6, H7, H8, H9, H10, ⟨%e11, H11⟩, ⟨%e12, H12⟩, ⟨%e0, HS0⟩, ⟨%e1, HS1⟩⟩
  isplitl [HS0 HS1 HR]
  · isplitl [HS0 HS1]
    · isplitl [HS0]
      · iexists _; iexists e0; isplitr; · ipureintro; rfl
        iexact HS0
      iexists _; iexists e1; isplitr; · ipureintro; rfl
      iexact HS1
    iexact HR
  isplitl [Ho]
  · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; iexists e11; isplitr; · ipureintro; rfl
    iexact H11
  iexists _; iexists e12; isplitr; · ipureintro; rfl
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: the program runs to its end, every argument is as it was, and every semaphore counter is at zero. -/
theorem run_main : θ_run defs (onTc (τ := τ) (main (F := F))) (s₀ m ρ)
    (fun r => Pipeline.RDat.FramePostR cfg0 (fun c => (dats m 0 c).toRForget fgt) {main_v15} (fun c b => V0 m c (Proc.devRef .tc b)) r ∧ r.2.sem = fun _ => 0) :=
  Pipeline.θ_run_frame_around_T_forget (Q' := _) cfgs (dats m) (0 : Fin 1) launch0 defs₀ Variants.none fgt {main_v15} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.unary_writes, Finset.mem_singleton] at hb
      rw [Finset.mem_singleton]
      by_contra hne
      exact StableHlo.devRef_ne_of_ne hne hb)
    (hmain := hmain m Variants.none) (hA := A_eq m) (hΦ := fun _ _ => rfl)

/-- The frame: every argument ends as it was launched, and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c), ((h.1 c).2 main_arg5 (Finset.mem_sdiff.mpr ⟨Pipeline.mem_restRefs_of main_arg5 (by decide) (by decide), by decide⟩)).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c), ((h.1 c).2 main_arg8 (Finset.mem_sdiff.mpr ⟨Pipeline.mem_restRefs_of main_arg8 (by decide) (by decide), by decide⟩)).trans (V_main_arg8 m c), (Pipeline.RDat.FramePostR.arr_in h.1 c 9 rfl).trans ((A_eq m c 9).trans (V_main_arg9 m c)), ((h.1 c).2 main_arg10 (Finset.mem_sdiff.mpr ⟨Pipeline.mem_restRefs_of main_arg10 (by decide) (by decide), by decide⟩)).trans (V_main_arg10 m c)⟩, h.2⟩) (run_main m ρ)

end Cert.Proof.KernelIdealFrame

end
-- ==== Proof.Doubling.lean ====
/-
  The inverse of a unit upper triangular matrix by block doubling, over the reals.

  `M` is strictly upper triangular, `64 × 64`. Level `l` holds the inverse `T` of the identity plus `M`'s diagonal blocks
  of width `2 ^ l`; `O` is the part of `M` that the next level's blocks add, and `T - T O T` is the next level's inverse.
-/
module

public import Mathlib.Data.Matrix.Mul
public import Mathlib.Data.Real.Basic
public import Mathlib.Tactic.Ring
public import Mathlib.Tactic.NoncommRing
public import Mathlib.Tactic.LinearCombination

@[expose] public section

noncomputable section

namespace Cert.Proof.Doubling

/-- A `64 × 64` real matrix. -/
abbrev Mat := Matrix (Fin 64) (Fin 64) ℝ

/-- The part of `M` that lies in a diagonal block of width `2 * b` and in none of width `b`. -/
def off (b : ℕ) (M : Mat) : Mat := fun i j =>
  if i.val / (2 * b) = j.val / (2 * b) ∧ i.val / b ≠ j.val / b then M i j else 0

/-- The diagonal blocks of `M` of width `b`. -/
def diag (b : ℕ) (M : Mat) : Mat := fun i j => if i.val / b = j.val / b then M i j else 0

/-- Doubling once: from the inverse of blocks of width `b` to that of blocks of width `2 * b`. -/
def level (b : ℕ) (M T : Mat) : Mat := T - T * off b M * T

/-- What holds of the inverse at block width `b`. -/
structure Inv (b : ℕ) (M T : Mat) : Prop where
  blocks : ∀ i j, i.val / b ≠ j.val / b → T i j = 0
  inverse : (1 + diag b M) * T = 1

/-- The identity is the inverse at width one. -/
theorem inv_one {M : Mat} (hM : ∀ i j : Fin 64, ¬ i < j → M i j = 0) : Inv 1 M 1 where
  blocks i j h := by
    rw [Matrix.one_apply_ne]; rintro rfl; exact h rfl
  inverse := by
    have : diag 1 M = 0 := by
      funext i j; unfold diag; split
      · rename_i h
        simp only [Nat.div_one] at h
        exact hM i j (by rw [Fin.ext h]; exact lt_irrefl _)
      · rfl
    rw [this]; simp

/-- Between two entries of the added part the inverse has none: the first ends in the upper half of a doubled block, the
    second starts in the lower half of one. -/
theorem off_mul_off {b : ℕ} {M T : Mat} (hM : ∀ i j : Fin 64, ¬ i < j → M i j = 0)
    (hT : ∀ i j, i.val / b ≠ j.val / b → T i j = 0) : off b M * T * off b M = 0 := by
  funext i l
  rw [Matrix.mul_apply]
  refine Finset.sum_eq_zero fun k _ => ?_
  rw [Matrix.mul_apply]
  by_cases h2 : off b M k l = 0
  · rw [h2, mul_zero]
  refine mul_eq_zero_of_left (Finset.sum_eq_zero fun j _ => ?_) _
  by_cases h1 : off b M i j = 0
  · rw [h1, zero_mul]
  by_cases h : j.val / b = k.val / b
  swap
  · rw [hT j k h, mul_zero]
  exfalso
  have e1 : ∀ x : ℕ, x / (2 * b) = (x / b) / 2 := fun x => by rw [mul_comm, Nat.div_div_eq_div_mul]
  unfold off at h1 h2
  split at h1
  swap
  · exact h1 rfl
  split at h2
  swap
  · exact h2 rfl
  rename_i g1 g2
  have l1 : i < j := by by_contra hc; exact h1 (hM i j hc)
  have l2 : k < l := by by_contra hc; exact h2 (hM k l hc)
  have m1 : i.val / b ≤ j.val / b := Nat.div_le_div_right (le_of_lt l1)
  have m2 : k.val / b ≤ l.val / b := Nat.div_le_div_right (le_of_lt l2)
  simp only [e1] at g1 g2
  omega

/-- One doubling keeps what holds. -/
theorem inv_level {b : ℕ} {M T : Mat} (hM : ∀ i j : Fin 64, ¬ i < j → M i j = 0) (h : Inv b M T) :
    Inv (2 * b) M (level b M T) where
  blocks i j hij := by
    have e1 : ∀ x : ℕ, x / (2 * b) = (x / b) / 2 := fun x => by rw [mul_comm, Nat.div_div_eq_div_mul]
    unfold level
    rw [Matrix.sub_apply, h.blocks i j (fun e => hij (by rw [e1, e1, e])), Matrix.mul_apply, zero_sub, neg_eq_zero]
    refine Finset.sum_eq_zero fun k _ => ?_
    by_cases hk : k.val / b = j.val / b
    swap
    · rw [h.blocks k j hk, mul_zero]
    refine mul_eq_zero_of_left ?_ _
    rw [Matrix.mul_apply]
    refine Finset.sum_eq_zero fun l _ => ?_
    by_cases hl : i.val / b = l.val / b
    swap
    · rw [h.blocks i l hl, zero_mul]
    refine mul_eq_zero_of_right _ ?_
    unfold off
    rw [if_neg]
    rintro ⟨g, -⟩
    apply hij
    rw [e1, e1] at g ⊢
    rw [hl, g, hk]
  inverse := by
    have hd : diag (2 * b) M = diag b M + off b M := by
      have e1 : ∀ x : ℕ, x / (2 * b) = (x / b) / 2 := fun x => by rw [mul_comm, Nat.div_div_eq_div_mul]
      funext i j
      rw [Matrix.add_apply]
      unfold diag off
      simp only [e1]
      by_cases g : i.val / b = j.val / b
      · simp [g]
      · simp [g]
    have h0 := off_mul_off hM h.blocks
    have h1 := h.inverse
    have s1 : (1 + (diag b M + off b M)) * (T - T * off b M * T)
        = (1 + diag b M) * T - ((1 + diag b M) * T) * (off b M * T) + off b M * T - (off b M * T * off b M) * T := by
      noncomm_ring
    unfold level
    rw [hd, s1, h1, h0]
    simp

/-- Six doublings from the identity. -/
def inverse (M : Mat) : Mat :=
  level 32 M (level 16 M (level 8 M (level 4 M (level 2 M (level 1 M 1)))))

/-- They invert the identity plus `M`. -/
theorem one_add_mul_inverse {M : Mat} (hM : ∀ i j : Fin 64, ¬ i < j → M i j = 0) : (1 + M) * inverse M = 1 := by
  have h : Inv 64 M (inverse M) :=
    inv_level hM (inv_level hM (inv_level hM (inv_level hM (inv_level hM (inv_level hM (inv_one hM))))))
  have hd : diag 64 M = M := by
    funext i j; unfold diag
    rw [if_pos]; rw [Nat.div_eq_of_lt i.isLt, Nat.div_eq_of_lt j.isLt]
  have := h.inverse
  rwa [hd] at this

end Cert.Proof.Doubling

end
-- ==== Proof.Delta.lean ====
/-
  The delta-rule recurrence of one row of the state, over the reals, and the chunked form of 64 of its steps.

  `ℓ t j` is the logarithm of the decay, `κ` the removal key, `β` the replacement key, `k` the key, `r` the receptance (each a
  vector per token), `v` the row's value per token, `g t` whether token `t` starts a segment.
-/
module

public import proofs.«01_k».proof.Proof.Doubling
public import Mathlib.Analysis.SpecialFunctions.Exp
public import Mathlib.Algebra.BigOperators.Fin

@[expose] public section

noncomputable section

namespace Cert.Proof.Delta

open Finset

/-- The row the token works on: the initial row where the token starts a segment. -/
def enter (g : Bool) (x0 x : Fin 64 → ℝ) : Fin 64 → ℝ := if g then x0 else x

/-- One token: the row decays, loses what it holds at the removal key and gains the value at the key. -/
def step (g : Bool) (ℓ κ β k : Fin 64 → ℝ) (v : ℝ) (x0 x : Fin 64 → ℝ) : Fin 64 → ℝ := fun j =>
  enter g x0 x j * Real.exp (ℓ j) + (∑ l, enter g x0 x l * -κ l) * β j + v * k j

section
variable (g : ℕ → Bool) (ℓ κ β k : ℕ → Fin 64 → ℝ) (v : ℕ → ℝ) (x0 x : Fin 64 → ℝ)

/-- The row after `n` tokens. -/
def row : ℕ → Fin 64 → ℝ
  | 0 => x
  | n + 1 => step (g n) (ℓ n) (κ n) (β n) (k n) (v n) x0 (row n)

/-- How many of the tokens up to and including `t` start a segment. -/
def count (t : ℕ) : ℕ := ∑ s ∈ range (t + 1), if g s then 1 else 0

/-- The decay since the segment of token `t` began, token `t` included. -/
def decayIn (t : ℕ) (j : Fin 64) : ℝ := Real.exp (∑ s ∈ range (t + 1), if count g s = count g t then ℓ s j else 0)

/-- The same with token `t` left out. -/
def decayEx (t : ℕ) (j : Fin 64) : ℝ := Real.exp (∑ s ∈ range t, if count g s = count g t then ℓ s j else 0)

/-- What token `t` removes. -/
def removed (t : ℕ) : ℝ := ∑ l, enter (g t) x0 (row g ℓ κ β k v x0 x t) l * κ t l

/-- What the segment of token `t` began with. -/
def base (t : ℕ) : Fin 64 → ℝ := if count g t = 0 then x else x0

/-- Token `s`'s contribution, with the decay divided out. -/
def gain (s : ℕ) (j : Fin 64) : ℝ :=
  v s * (k s j / decayIn g ℓ s j) - removed g ℓ κ β k v x0 x s * (β s j / decayIn g ℓ s j)

/-- One more token adds one to the count if it starts a segment. -/
theorem count_succ (t : ℕ) : count g (t + 1) = count g t + if g (t + 1) then 1 else 0 := by
  unfold count; rw [sum_range_succ]

/-- The count at the first token. -/
theorem count_zero : count g 0 = if g 0 then 1 else 0 := by
  unfold count; rw [zero_add, sum_range_one]

/-- The count never falls. -/
theorem count_le {s t : ℕ} (h : s ≤ t) : count g s ≤ count g t := by
  induction h with
  | refl => exact le_rfl
  | step _ ih => rw [count_succ]; omega

/-- A token that starts a segment is the first of its count. -/
theorem count_lt_of_start {s t : ℕ} (h : s < t) (hg : g t = true) : count g s < count g t := by
  obtain ⟨u, rfl⟩ : ∃ u, t = u + 1 := ⟨t - 1, by omega⟩
  rw [count_succ, hg, if_pos rfl]
  have := count_le g (show s ≤ u by omega)
  omega

/-- At a token that starts a segment the count is not zero. -/
theorem count_pos_of_start {t : ℕ} (hg : g t = true) : count g t ≠ 0 := by
  cases t with
  | zero => rw [count_zero, hg]; simp
  | succ u => rw [count_succ, hg]; simp

/-- The decay with the token is the decay without it, times the token's own. -/
theorem decayIn_eq (t : ℕ) (j : Fin 64) : decayIn g ℓ t j = decayEx g ℓ t j * Real.exp (ℓ t j) := by
  unfold decayIn decayEx
  rw [sum_range_succ, if_pos rfl, Real.exp_add]

/-- The row after token `t`, as one step from the row before it. -/
theorem step_eq (t : ℕ) (j : Fin 64) : row g ℓ κ β k v x0 x (t + 1) j
    = enter (g t) x0 (row g ℓ κ β k v x0 x t) j * Real.exp (ℓ t j) - removed g ℓ κ β k v x0 x t * β t j + v t * k t j := by
  rw [row]
  unfold step removed
  simp only [mul_neg, Finset.sum_neg_distrib]
  ring

/-- The row before token `t` acts and after it, with the decay since the segment began factored out. -/
theorem unrolled (t : ℕ) (j : Fin 64) :
    enter (g t) x0 (row g ℓ κ β k v x0 x t) j
        = decayEx g ℓ t j * (base g x0 x t j + ∑ s ∈ range t, if count g s = count g t then gain g ℓ κ β k v x0 x s j else 0)
    ∧ row g ℓ κ β k v x0 x (t + 1) j
        = decayIn g ℓ t j * (base g x0 x t j + ∑ s ∈ range (t + 1), if count g s = count g t then gain g ℓ κ β k v x0 x s j else 0) := by
  have second : ∀ t, enter (g t) x0 (row g ℓ κ β k v x0 x t) j
        = decayEx g ℓ t j * (base g x0 x t j + ∑ s ∈ range t, if count g s = count g t then gain g ℓ κ β k v x0 x s j else 0)
      → row g ℓ κ β k v x0 x (t + 1) j
        = decayIn g ℓ t j * (base g x0 x t j + ∑ s ∈ range (t + 1), if count g s = count g t then gain g ℓ κ β k v x0 x s j else 0) := by
    intro t h
    have hE : decayIn g ℓ t j ≠ 0 := (Real.exp_pos _).ne'
    rw [step_eq, h, sum_range_succ, if_pos rfl]
    have hg : decayIn g ℓ t j * gain g ℓ κ β k v x0 x t j = v t * k t j - removed g ℓ κ β k v x0 x t * β t j := by
      unfold gain; field_simp
    rw [← add_assoc, mul_add (decayIn g ℓ t j) _ (gain g ℓ κ β k v x0 x t j), hg, decayIn_eq]
    ring
  have start : ∀ t, g t = true → enter (g t) x0 (row g ℓ κ β k v x0 x t) j
        = decayEx g ℓ t j * (base g x0 x t j + ∑ s ∈ range t, if count g s = count g t then gain g ℓ κ β k v x0 x s j else 0) := by
    intro t hg
    have z : ∀ f : ℕ → ℝ, (∑ s ∈ range t, if count g s = count g t then f s else 0) = 0 := fun f =>
      sum_eq_zero fun s hs => if_neg (count_lt_of_start g (mem_range.mp hs) hg).ne
    unfold decayEx base enter
    rw [z, z, if_neg (count_pos_of_start g hg), if_pos hg]
    simp
  induction t with
  | zero =>
    refine ⟨?_, ?_⟩
    · by_cases hg : g 0 = true
      · exact start 0 hg
      · unfold decayEx base enter
        rw [if_neg hg, if_pos (by rw [count_zero, if_neg hg])]
        simp [row]
    · apply second
      by_cases hg : g 0 = true
      · exact start 0 hg
      · unfold decayEx base enter
        rw [if_neg hg, if_pos (by rw [count_zero, if_neg hg])]
        simp [row]
  | succ t ih =>
    have key : enter (g (t + 1)) x0 (row g ℓ κ β k v x0 x (t + 1)) j
        = decayEx g ℓ (t + 1) j * (base g x0 x (t + 1) j
          + ∑ s ∈ range (t + 1), if count g s = count g (t + 1) then gain g ℓ κ β k v x0 x s j else 0) := by
      by_cases hg : g (t + 1) = true
      · exact start _ hg
      · have hc : count g (t + 1) = count g t := by rw [count_succ, if_neg hg, add_zero]
        have hx : enter (g (t + 1)) x0 (row g ℓ κ β k v x0 x (t + 1)) j = row g ℓ κ β k v x0 x (t + 1) j := by
          unfold enter; rw [if_neg hg]
        have hd : decayEx g ℓ (t + 1) j = decayIn g ℓ t j := by unfold decayEx decayIn; rw [hc]
        have hb : base g x0 x (t + 1) j = base g x0 x t j := by unfold base; rw [hc]
        rw [hx, hd, hb, hc]
        exact ih.2
    exact ⟨key, second _ key⟩

/-- What token `t` reads out of the row. -/
def readout (r : ℕ → Fin 64 → ℝ) (t : ℕ) : ℝ := ∑ j, row g ℓ κ β k v x0 x (t + 1) j * r t j

end

/-! ### The chunked form -/

section
variable (g : ℕ → Bool) (ℓ κ β k r : ℕ → Fin 64 → ℝ)

/-- The first of four token-by-token products, masked to tokens of one segment in order: what is removed with the removal
    keys. -/
def mba : Doubling.Mat := fun s t => if count g s = count g t ∧ s < t then
  ∑ j, (β s j * (decayIn g ℓ s j)⁻¹) * (κ t j * decayEx g ℓ t j) else 0
/-- The masked product of the keys with the removal keys. -/
def mka : Doubling.Mat := fun s t => if count g s = count g t ∧ s < t then
  ∑ j, (k s j * (decayIn g ℓ s j)⁻¹) * (κ t j * decayEx g ℓ t j) else 0
/-- The masked product of what is removed with the receptances. -/
def mbr : Doubling.Mat := fun s t => if count g s = count g t ∧ s ≤ t then
  ∑ j, (β s j * (decayIn g ℓ s j)⁻¹) * (r t j * decayIn g ℓ t j) else 0
/-- The masked product of the keys with the receptances. -/
def mkr : Doubling.Mat := fun s t => if count g s = count g t ∧ s ≤ t then
  ∑ j, (k s j * (decayIn g ℓ s j)⁻¹) * (r t j * decayIn g ℓ t j) else 0

variable (v : ℕ → ℝ) (x0 x : Fin 64 → ℝ)

/-- The base rows read at the removal keys. -/
def sa (t : Fin 64) : ℝ := ∑ j, base g x0 x t j * (κ t j * decayEx g ℓ t j)
/-- The base rows read at the receptances. -/
def sr (t : Fin 64) : ℝ := ∑ j, base g x0 x t j * (r t j * decayIn g ℓ t j)

/-- A sum over the tokens before `t` is a masked sum over all 64. -/
theorem sum_before (t : Fin 64) (f : ℕ → ℝ) :
    (∑ s ∈ range t, if count g s = count g t then f s else 0)
      = ∑ s : Fin 64, if count g s = count g t ∧ s < t then f s else 0 := by
  have h := Fin.sum_univ_eq_sum_range (fun s => if count g s = count g t ∧ s < t.val then f s else 0) 64
  refine Eq.trans ?_ h.symm
  have hs : range t ⊆ range 64 := range_subset_range.mpr t.isLt.le
  rw [← sum_subset hs (f := fun s => if count g s = count g t ∧ s < t.val then f s else 0)]
  · refine sum_congr rfl fun s hs => ?_
    simp only [mem_range.mp hs, and_true]
  · intro s _ hs
    rw [if_neg]; rintro ⟨-, h⟩; exact hs (mem_range.mpr h)

/-- A sum over the tokens up to and including `t` likewise. -/
theorem sum_upto (t : Fin 64) (f : ℕ → ℝ) :
    (∑ s ∈ range (t + 1), if count g s = count g t then f s else 0)
      = ∑ s : Fin 64, if count g s = count g t ∧ s ≤ t then f s else 0 := by
  have h := Fin.sum_univ_eq_sum_range (fun s => if count g s = count g t ∧ s ≤ t.val then f s else 0) 64
  refine Eq.trans ?_ h.symm
  have hs : range (t + 1) ⊆ range 64 := range_subset_range.mpr t.isLt
  rw [← sum_subset hs (f := fun s => if count g s = count g t ∧ s ≤ t.val then f s else 0)]
  · refine sum_congr rfl fun s hs => ?_
    simp only [Nat.lt_succ_iff.mp (mem_range.mp hs), and_true]
  · intro s _ hs
    rw [if_neg]; rintro ⟨-, h⟩; exact hs (mem_range.mpr (Nat.lt_succ_of_le h))

/-- The sum over masked tokens of gains, read at a vector, as two products with the token-by-token matrices. -/
theorem sum_gain (c : Fin 64 → Prop) [DecidablePred c] (q : Fin 64 → ℝ) :
    ∑ j, q j * (∑ s : Fin 64, if c s then gain g ℓ κ β k v x0 x s j else 0)
      = (∑ s : Fin 64, v s * (if c s then ∑ j, (k s j * (decayIn g ℓ s j)⁻¹) * q j else 0))
        - ∑ s : Fin 64, removed g ℓ κ β k v x0 x s * (if c s then ∑ j, (β s j * (decayIn g ℓ s j)⁻¹) * q j else 0) := by
  simp only [mul_sum]
  rw [sum_comm, ← sum_sub_distrib]
  refine sum_congr rfl fun s _ => ?_
  by_cases h : c s
  · simp only [if_pos h, mul_sum]
    rw [← sum_sub_distrib]
    refine sum_congr rfl fun j _ => ?_
    unfold gain; rw [div_eq_mul_inv, div_eq_mul_inv]; ring
  · simp [if_neg h]

/-- What a token removes, by what the tokens before it gave and removed. -/
theorem removed_eq (t : Fin 64) : removed g ℓ κ β k v x0 x t
    = sa g ℓ κ x0 x t + (∑ s : Fin 64, v s * mka g ℓ κ k s t)
      - ∑ s : Fin 64, removed g ℓ κ β k v x0 x s * mba g ℓ κ β s t := by
  have h : removed g ℓ κ β k v x0 x t = sa g ℓ κ x0 x t
      + ∑ j, (κ t j * decayEx g ℓ t j) * (∑ s : Fin 64, if count g s = count g t ∧ s < t then gain g ℓ κ β k v x0 x s j else 0) := by
    conv_lhs => unfold removed
    unfold sa
    rw [← sum_add_distrib]
    refine sum_congr rfl fun j _ => ?_
    rw [(unrolled g ℓ κ β k v x0 x t j).1, sum_before]
    ring
  rw [h, sum_gain, ← add_sub_assoc]
  rfl

/-- What a token reads, by what the tokens up to it gave and removed. -/
theorem readout_eq (t : Fin 64) : readout g ℓ κ β k v x0 x r t
    = sr g ℓ r x0 x t + (∑ s : Fin 64, v s * mkr g ℓ k r s t)
      - ∑ s : Fin 64, removed g ℓ κ β k v x0 x s * mbr g ℓ β r s t := by
  have h : readout g ℓ κ β k v x0 x r t = sr g ℓ r x0 x t
      + ∑ j, (r t j * decayIn g ℓ t j) * (∑ s : Fin 64, if count g s = count g t ∧ s ≤ t then gain g ℓ κ β k v x0 x s j else 0) := by
    conv_lhs => unfold readout
    unfold sr
    rw [← sum_add_distrib]
    refine sum_congr rfl fun j _ => ?_
    rw [(unrolled g ℓ κ β k v x0 x t j).2, sum_upto]
    ring
  rw [h, sum_gain, ← add_sub_assoc]
  rfl

/-- The row after the chunk, by what the tokens of its last segment gave and removed. -/
theorem row_eq (j : Fin 64) : row g ℓ κ β k v x0 x 64 j
    = (base g x0 x 63 j + (∑ s : Fin 64, (if count g s = count g 63 then v s else 0) * (k s j * (decayIn g ℓ s j)⁻¹))
      - ∑ s : Fin 64, (if count g s = count g 63 then removed g ℓ κ β k v x0 x s else 0) * (β s j * (decayIn g ℓ s j)⁻¹))
      * decayIn g ℓ 63 j := by
  rw [(unrolled g ℓ κ β k v x0 x 63 j).2, add_sub_assoc, ← sum_sub_distrib, mul_comm]
  congr 2
  rw [← Fin.sum_univ_eq_sum_range (fun s => if count g s = count g 63 then gain g ℓ κ β k v x0 x s j else 0) 64]
  refine sum_congr rfl fun s _ => ?_
  by_cases h : count g s = count g 63
  · simp only [if_pos h]; unfold gain; rw [div_eq_mul_inv, div_eq_mul_inv]
  · simp [if_neg h]

/-- The removals of the 64 tokens, solved for by the block-doubling inverse. -/
theorem removed_solved (t : Fin 64) : removed g ℓ κ β k v x0 x t
    = ∑ s : Fin 64, (sa g ℓ κ x0 x s + ∑ u : Fin 64, v u * mka g ℓ κ k u s)
        * Doubling.inverse (mba g ℓ κ β) s t := by
  have hM : ∀ i j : Fin 64, ¬ i < j → mba g ℓ κ β i j = 0 := fun i j h => by
    unfold mba; rw [if_neg]; rintro ⟨-, h'⟩; exact h h'
  have hI := Doubling.one_add_mul_inverse hM
  have hp : Matrix.vecMul (fun t : Fin 64 => removed g ℓ κ β k v x0 x t) (1 + mba g ℓ κ β)
      = fun s => sa g ℓ κ x0 x s + ∑ u : Fin 64, v u * mka g ℓ κ k u s := by
    funext s
    rw [Matrix.vecMul_add, Matrix.vecMul_one, Pi.add_apply]
    simp only [Matrix.vecMul, dotProduct]
    have := removed_eq g ℓ κ β k v x0 x s
    linarith
  have hq := congrArg (fun z => Matrix.vecMul z (Doubling.inverse (mba g ℓ κ β)) t) hp
  simp only [Matrix.vecMul_vecMul, hI, Matrix.vecMul_one] at hq
  rw [hq]
  simp only [Matrix.vecMul, dotProduct]

end

end Cert.Proof.Delta

end
-- ==== Proof.Masks.lean ====
/-
  The integer block masks of the block-doubling inverse, read at an index; and sums of products of reals among the
  extended reals.
-/
module

public import proofs.«01_k».proof.Proof.Gen.KernelIdeal.Skeleton
public import proofs.«01_k».proof.Proof.Delta
public import Idealize.ShloMosaic.Lib.Pointwise

@[expose] public section

set_option maxRecDepth 16384

noncomputable section

namespace Cert.Proof.Head

open Cert.KernelIdeal Cert.KernelIdeal.Gen
open Idealize.ShloMosaic Idealize.ShloMosaic.TcCoe

/-- A sum of reals among the extended reals. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- A sum of products of reals among the extended reals. -/
theorem coe_dot {ι : Type} (s : Finset ι) {f g : ι → EReal} {f' g' : ι → ℝ} (hf : ∀ x, f x = (f' x : EReal))
    (hg : ∀ x, g x = (g' x : EReal)) : (∑ x ∈ s, f x * g x) = ((∑ x ∈ s, f' x * g' x : ℝ) : EReal) := by
  rw [← coe_sum]
  exact Finset.sum_congr rfl fun x _ => by rw [hf, hg, EReal.coe_mul]

/-- A product kept where a 0-1 mask is positive. -/
theorem masked_dot {ι : Type} (s : Finset ι) {m : EReal} {c : Prop} [Decidable c] (hm : m = ((if c then (1 : ℝ) else 0 : ℝ) : EReal))
    {f g : ι → EReal} {f' g' : ι → ℝ} (hf : ∀ x, f x = (f' x : EReal)) (hg : ∀ x, g x = (g' x : EReal)) :
    (if 0 < m then ∑ x ∈ s, f x * g x else 0) = ((if c then ∑ x ∈ s, f' x * g' x else 0 : ℝ) : EReal) := by
  rw [coe_dot s hf hg, hm]
  by_cases h : c
  · rw [if_pos h, if_pos h, if_pos (by exact_mod_cast one_pos)]
  · rw [if_neg h, if_neg h, if_neg (by simp)]; rfl

/-- Division rounding down, as printed: the quotient rounded to zero, less one where the signs differ and the division is
    not exact. -/
def fdiv (x : IVec S64x64 32) (c : BitVec 32) : IVec S64x64 32 :=
  select (andi (cmpi .ne (subi (extui 32 (cmpi .sgt x (broadcast S64x64 0#32)) natLt_1_32) (extui 32 (cmpi .slt x (broadcast S64x64 0#32)) natLt_1_32))
      (broadcast S64x64 (Scalar.subi (Scalar.extui (Scalar.cmpi .sgt c 0#32)) (Scalar.extui (Scalar.cmpi .slt c 0#32)))))
    (cmpi .ne (remsi x (broadcast S64x64 c)) (broadcast S64x64 0#32)))
    (subi (divsi x (broadcast S64x64 c)) (broadcast S64x64 1#32)) (divsi x (broadcast S64x64 c))

/-- The mask of a level: same block of width `c`, different blocks of width `b`. -/
def msk (x y : IVec S64x64 32) (b c : BitVec 32) : IVec S64x64 1 :=
  andi (cmpi .eq (fdiv x c) (fdiv y c)) (cmpi .ne (fdiv x b) (fdiv y b))

/-- Row and column numbers. -/
def Rows (x : IVec S64x64 32) : Prop := ∀ i j : Fin 64, x (ix2 i j) = BitVec.ofNat 32 i.val
@[inherit_doc Rows] def Cols (x : IVec S64x64 32) : Prop := ∀ i j : Fin 64, x (ix2 i j) = BitVec.ofNat 32 j.val

/-- The printed division of a number below 64 by a power of two up to 64. -/
theorem fdiv_scalar (c : ℕ) (hc : c = 1 ∨ c = 2 ∨ c = 4 ∨ c = 8 ∨ c = 16 ∨ c = 32 ∨ c = 64) (n : Fin 64) :
    Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (Scalar.extui (Scalar.cmpi CmpIPredicate.sgt (BitVec.ofNat 32 c) 0#32))
                (Scalar.extui (Scalar.cmpi CmpIPredicate.slt (BitVec.ofNat 32 c) 0#32))))
            (IntOp.cmpi CmpIPredicate.ne (IntOp.remsi ArithUnit.vector (BitVec.ofNat 32 n.val) (BitVec.ofNat 32 c)) 0#32))
          (IntOp.subi (IntOp.divsi ArithUnit.vector (BitVec.ofNat 32 n.val) (BitVec.ofNat 32 c)) 1#32)
          (IntOp.divsi ArithUnit.vector (BitVec.ofNat 32 n.val) (BitVec.ofNat 32 c)) = BitVec.ofNat 32 (n.val / c) := by
  rcases hc with rfl | rfl | rfl | rfl | rfl | rfl | rfl <;> revert n <;> decide

/-- The mask of a level is set exactly where the level's part of the matrix lies. -/
theorem msk_apply {x y : IVec S64x64 32} (hx : Rows x) (hy : Cols y) (b : ℕ)
    (hb : b = 1 ∨ b = 2 ∨ b = 4 ∨ b = 8 ∨ b = 16 ∨ b = 32) (i j : Fin 64) :
    msk x y (BitVec.ofNat 32 b) (BitVec.ofNat 32 (2 * b)) (ix2 i j)
      = if i.val / (2 * b) = j.val / (2 * b) ∧ i.val / b ≠ j.val / b then 1#1 else 0#1 := by
  have hc : 2 * b = 1 ∨ 2 * b = 2 ∨ 2 * b = 4 ∨ 2 * b = 8 ∨ 2 * b = 16 ∨ 2 * b = 32 ∨ 2 * b = 64 := by omega
  have hb' : b = 1 ∨ b = 2 ∨ b = 4 ∨ b = 8 ∨ b = 16 ∨ b = 32 ∨ b = 64 := by omega
  pointwise [msk, fdiv]
  rw [hx i j, hy i j, fdiv_scalar _ hc i, fdiv_scalar _ hc j, fdiv_scalar _ hb' i, fdiv_scalar _ hb' j]
  have inj : ∀ m n : ℕ, m < 64 → n < 64 → (BitVec.ofNat 32 m = BitVec.ofNat 32 n ↔ m = n) := by
    intro m n hm hn
    constructor
    · intro h
      have := congrArg BitVec.toNat h
      simp only [BitVec.toNat_ofNat] at this
      omega
    · rintro rfl; rfl
  have li : ∀ c : ℕ, i.val / c < 64 := fun c => lt_of_le_of_lt (Nat.div_le_self _ _) i.isLt
  have lj : ∀ c : ℕ, j.val / c < 64 := fun c => lt_of_le_of_lt (Nat.div_le_self _ _) j.isLt
  simp only [IntOp.andi, IntOp.cmpi]
  by_cases h1 : i.val / (2 * b) = j.val / (2 * b) <;> by_cases h2 : i.val / b = j.val / b
  · simp [h1, h2]
  · have e2 : (BitVec.ofNat 32 (i.val / b) == BitVec.ofNat 32 (j.val / b)) = false :=
      beq_eq_false_iff_ne.mpr fun h => h2 ((inj _ _ (li b) (lj b)).mp h)
    simp [h1, h2, bne, e2]
  · have e1 : (BitVec.ofNat 32 (i.val / (2 * b)) == BitVec.ofNat 32 (j.val / (2 * b))) = false :=
      beq_eq_false_iff_ne.mpr fun h => h1 ((inj _ _ (li _) (lj _)).mp h)
    simp [h1, h2, bne, e1]
  · have e1 : (BitVec.ofNat 32 (i.val / (2 * b)) == BitVec.ofNat 32 (j.val / (2 * b))) = false :=
      beq_eq_false_iff_ne.mpr fun h => h1 ((inj _ _ (li _) (lj _)).mp h)
    simp [h1, h2, bne, e1]

/-- A block holds the reals `M`. -/
def Rd {φ : FTy} (v : FVec Ideal S64x64 φ) (M : Fin 64 → Fin 64 → ℝ) : Prop := ∀ i j : Fin 64, v (ix2 i j) = ((M i j : ℝ) : EReal)

/-- One printed doubling level: `t - t (m at the mask) t`. -/
def lvl (x y : IVec S64x64 32) (b c : BitVec 32) (m t : FVec Ideal S64x64 .f32) : FVec Ideal S64x64 .f32 :=
  subf t (matmul dot_S64x64_S64x64_S64x64_1_0_0_1_n_n (some .fp32) (matmul dot_S64x64_S64x64_S64x64_1_0_0_1_n_n (some .fp32) t
    (select (msk x y b c) m (broadcast S64x64 (Scalar.ofBits .f32 0x00000000#32))) (constant S64x64 .f32 0x00000000#32)) t
    (constant S64x64 .f32 0x00000000#32))

/-- A printed level is a level over the reals. -/
theorem lvl_rd {x y : IVec S64x64 32} (hx : Rows x) (hy : Cols y) (b : ℕ)
    (hb : b = 1 ∨ b = 2 ∨ b = 4 ∨ b = 8 ∨ b = 16 ∨ b = 32) {m t : FVec Ideal S64x64 .f32} {M T : Doubling.Mat}
    (hm : Rd m M) (ht : Rd t T) : Rd (lvl x y (BitVec.ofNat 32 b) (BitVec.ofNat 32 (2 * b)) m t) (Doubling.level b M T) := by
  intro i j
  have ho : ∀ l k : Fin 64, (Scalar.select (msk x y (BitVec.ofNat 32 b) (BitVec.ofNat 32 (2 * b)) (ix2 l k)) (t (ix2 i l) * m (ix2 l k)) (0 : EReal))
      = ((T i l * Doubling.off b M l k : ℝ) : EReal) := by
    intro l k
    rw [msk_apply hx hy b hb, hm l k, ht i l, ← EReal.coe_mul]
    unfold Doubling.off
    split <;> simp [Scalar.select]
  have e := coe_dot Finset.univ (fun k => ((Finset.sum_congr rfl fun l _ => ho l k).trans (coe_sum Finset.univ _))) (fun k => ht k j)
  pointwise [lvl]
  refine (congrArg₂ (· - ·) (ht i j) e).trans ?_
  rw [← EReal.coe_sub]
  simp only [Doubling.level, Matrix.sub_apply, Matrix.mul_apply]

end Cert.Proof.Head

end
-- ==== Proof.Chunk.lean ====
/-
  64 tokens of one head: the scalar forms the kernel computes, equal to the recurrence over the reals.
-/
module

public import proofs.«01_k».proof.Proof.Masks

@[expose] public section

noncomputable section

namespace Cert.Proof.Head

open Idealize.ShloMosaic

/-- One head's tokens and states over the reals: segment starts, log decays, removal keys, replacement keys, keys,
    receptances, values, the initial state and the state before the first token. -/
structure Data where
  g : ℕ → Bool
  ℓ : ℕ → Fin 64 → ℝ
  κ : ℕ → Fin 64 → ℝ
  β : ℕ → Fin 64 → ℝ
  k : ℕ → Fin 64 → ℝ
  r : ℕ → Fin 64 → ℝ
  v : Fin 64 → ℕ → ℝ
  x0 : Fin 64 → Fin 64 → ℝ
  x : Fin 64 → Fin 64 → ℝ

namespace Data

variable (D : Data)

/-- The state after `n` tokens. -/
def state (n : ℕ) (i : Fin 64) : Fin 64 → ℝ := Delta.row D.g D.ℓ D.κ D.β D.k (D.v i) (D.x0 i) (D.x i) n

/-- The result of token `t`. -/
def out (i : Fin 64) (t : ℕ) : ℝ := Delta.readout D.g D.ℓ D.κ D.β D.k (D.v i) (D.x0 i) (D.x i) D.r t

/-- What token `t` removes from row `i`. -/
def rem (i : Fin 64) (t : ℕ) : ℝ := Delta.removed D.g D.ℓ D.κ D.β D.k (D.v i) (D.x0 i) (D.x i) t

/-- The same head from token `n` on. -/
def drop (n : ℕ) : Data where
  g t := D.g (n + t)
  ℓ t := D.ℓ (n + t)
  κ t := D.κ (n + t)
  β t := D.β (n + t)
  k t := D.k (n + t)
  r t := D.r (n + t)
  v i t := D.v i (n + t)
  x0 := D.x0
  x := D.state n

/-- The states of the recurrence begun at token `n` are the states of the whole one, `n` tokens later. -/
theorem drop_state (n m : ℕ) (i : Fin 64) : (D.drop n).state m i = D.state (n + m) i := by
  induction m with
  | zero => rfl
  | succ m ih =>
    show Delta.step _ _ _ _ _ _ _ ((D.drop n).state m i) = Delta.step _ _ _ _ _ _ _ (D.state (n + m) i)
    rw [ih]; rfl

/-- The results of the recurrence begun at token `n` are those of the whole one, `n` tokens later. -/
theorem drop_out (n t : ℕ) (i : Fin 64) : (D.drop n).out i t = D.out i (n + t) := by
  have h := D.drop_state n (t + 1) i
  show (∑ j, (D.drop n).state (t + 1) i j * D.r (n + t) j) = ∑ j, D.state (n + t + 1) i j * D.r (n + t) j
  rw [h]; rfl

/-- The number of starts, as the kernel's float. -/
def cnt (t : ℕ) : EReal := ((Delta.count D.g t : ℝ) : EReal)

/-- The kernel's count is zero just when no start has come. -/
theorem cnt_zero_iff (t : ℕ) : D.cnt t = 0 ↔ Delta.count D.g t = 0 := by
  unfold cnt; exact_mod_cast Iff.rfl

/-- The kernel's count is positive just when a start has come. -/
theorem cnt_pos_iff (t : ℕ) : 0 < D.cnt t ↔ ¬ Delta.count D.g t = 0 := by
  unfold cnt
  rw [show (¬ Delta.count D.g t = 0) ↔ 0 < Delta.count D.g t from Nat.pos_iff_ne_zero.symm]
  exact_mod_cast Iff.rfl

/-- Two of the kernel's counts are equal just when the numbers of starts are. -/
theorem cnt_eq_iff (s t : ℕ) : D.cnt s = D.cnt t ↔ Delta.count D.g s = Delta.count D.g t := by
  unfold cnt; exact_mod_cast Iff.rfl

end Data

section
variable (D : Data)

/-- The base rows at the removal keys, chosen by the count. -/
theorem sa_core (i t : Fin 64) {n : EReal} {S S0 A : Fin 64 → EReal} (hn : n = D.cnt t) (hS : ∀ x, S x = (D.x i x : EReal))
    (hS0 : ∀ x, S0 x = (D.x0 i x : EReal)) (hA : ∀ x, A x = ((D.κ t x * Delta.decayEx D.g D.ℓ t x : ℝ) : EReal)) :
    (if n = 0 then ∑ x, S x * A x else ∑ x, S0 x * A x) = ((Delta.sa D.g D.ℓ D.κ (D.x0 i) (D.x i) t : ℝ) : EReal) := by
  rw [coe_dot _ hS hA, coe_dot _ hS0 hA, hn]
  unfold Delta.sa Delta.base
  by_cases h : Delta.count D.g t = 0
  · rw [if_pos ((D.cnt_zero_iff t).mpr h), if_pos h]
  · rw [if_neg (fun e => h ((D.cnt_zero_iff t).mp e)), if_neg h]

/-- The base rows at the receptances, chosen by the count. -/
theorem sr_core (i t : Fin 64) {n : EReal} {S S0 A : Fin 64 → EReal} (hn : n = D.cnt t) (hS : ∀ x, S x = (D.x i x : EReal))
    (hS0 : ∀ x, S0 x = (D.x0 i x : EReal)) (hA : ∀ x, A x = ((D.r t x * Delta.decayIn D.g D.ℓ t x : ℝ) : EReal)) :
    (if n = 0 then ∑ x, S x * A x else ∑ x, S0 x * A x) = ((Delta.sr D.g D.ℓ D.r (D.x0 i) (D.x i) t : ℝ) : EReal) := by
  rw [coe_dot _ hS hA, coe_dot _ hS0 hA, hn]
  unfold Delta.sr Delta.base
  by_cases h : Delta.count D.g t = 0
  · rw [if_pos ((D.cnt_zero_iff t).mpr h), if_pos h]
  · rw [if_neg (fun e => h ((D.cnt_zero_iff t).mp e)), if_neg h]

/-- The removed part, by the triangular inverse. -/
theorem p_core (i t : Fin 64) {A V : Fin 64 → EReal} {K T : Fin 64 → Fin 64 → EReal}
    (hA : ∀ s, A s = ((Delta.sa D.g D.ℓ D.κ (D.x0 i) (D.x i) s : ℝ) : EReal)) (hV : ∀ u, V u = ((D.v i u : ℝ) : EReal))
    (hK : ∀ u s, K u s = ((Delta.mka D.g D.ℓ D.κ D.k u s : ℝ) : EReal))
    (hT : ∀ s, T s t = ((Doubling.inverse (Delta.mba D.g D.ℓ D.κ D.β) s t : ℝ) : EReal)) :
    (∑ s, (A s + ∑ u, V u * K u s) * T s t) = ((D.rem i t : ℝ) : EReal) := by
  unfold Data.rem
  rw [Delta.removed_solved]
  refine coe_dot _ (fun s => ?_) hT
  rw [hA, coe_dot _ hV (fun u => hK u s), ← EReal.coe_add]

/-- The result of a token. -/
theorem y_core (i t : Fin 64) {R : EReal} {V P : Fin 64 → EReal} {KR BR : Fin 64 → EReal}
    (hR : R = ((Delta.sr D.g D.ℓ D.r (D.x0 i) (D.x i) t : ℝ) : EReal)) (hV : ∀ u, V u = ((D.v i u : ℝ) : EReal))
    (hP : ∀ u, P u = ((D.rem i u : ℝ) : EReal))
    (hK : ∀ u, KR u = ((Delta.mkr D.g D.ℓ D.k D.r u t : ℝ) : EReal))
    (hB : ∀ u, BR u = ((Delta.mbr D.g D.ℓ D.β D.r u t : ℝ) : EReal)) :
    R + ∑ u, V u * KR u - ∑ u, P u * BR u = ((D.out i t : ℝ) : EReal) := by
  unfold Data.out
  rw [Delta.readout_eq, hR, coe_dot _ hV hK, coe_dot _ hP hB, ← EReal.coe_add, ← EReal.coe_sub]
  rfl

/-- The state after 64 tokens. -/
theorem s_core (i j : Fin 64) {S S0 E : EReal} {V P K B : Fin 64 → EReal} {z l : EReal} {n : Fin 64 → EReal} (hz : z = 0) (hl : l = D.cnt 63)
    (hn : ∀ u, n u = D.cnt u) (hS : S = (D.x i j : EReal)) (hS0 : S0 = (D.x0 i j : EReal)) (hV : ∀ u, V u = ((D.v i u : ℝ) : EReal))
    (hP : ∀ u, P u = ((D.rem i u : ℝ) : EReal))
    (hK : ∀ u : Fin 64, K u = ((D.k u j * (Delta.decayIn D.g D.ℓ u j)⁻¹ : ℝ) : EReal))
    (hB : ∀ u : Fin 64, B u = ((D.β u j * (Delta.decayIn D.g D.ℓ u j)⁻¹ : ℝ) : EReal))
    (hE : E = ((Delta.decayIn D.g D.ℓ 63 j : ℝ) : EReal)) :
    ((if z < l then S0 else S) + ∑ u, (if n u = l then V u else 0) * K u - ∑ u, (if n u = l then P u else 0) * B u) * E
      = ((D.state 64 i j : ℝ) : EReal) := by
  unfold Data.state
  have sel : ∀ {X : Fin 64 → EReal} {x : Fin 64 → ℝ}, (∀ u, X u = ((x u : ℝ) : EReal)) → ∀ u,
      (if n u = l then X u else 0) = (((if Delta.count D.g u = Delta.count D.g 63 then x u else 0) : ℝ) : EReal) := by
    intro X x hX u
    rw [hn, hl, hX]
    by_cases h : Delta.count D.g u = Delta.count D.g 63
    · rw [if_pos ((D.cnt_eq_iff u 63).mpr h), if_pos h]
    · rw [if_neg (fun e => h ((D.cnt_eq_iff u 63).mp e)), if_neg h]; rfl
  have hb : (if z < l then S0 else S) = ((Delta.base D.g (D.x0 i) (D.x i) 63 j : ℝ) : EReal) := by
    rw [hz, hl, hS, hS0]
    unfold Delta.base
    by_cases h : Delta.count D.g 63 = 0
    · rw [if_neg (fun e => (D.cnt_pos_iff 63).mp e h), if_pos h]
    · rw [if_pos ((D.cnt_pos_iff 63).mpr h), if_neg h]
  rw [Delta.row_eq, hb, coe_dot _ (sel hV) hK, coe_dot _ (sel hP) hB, hE, ← EReal.coe_add, ← EReal.coe_sub, ← EReal.coe_mul]
  rfl

end

end Cert.Proof.Head

end
-- ==== Proof.Spec.lean ====
/-
  What both programs compute, from the arrays they are given: per batch entry and head one recurrence over the tokens.
-/
module

public import proofs.«01_k».proof.Proof.Chunk
public import Idealize.ShloMosaic.Lib.Pointwise

@[expose] public section

noncomputable section

namespace Cert.Proof

open Idealize.ShloMosaic Cert.Proof.Head

/-- The eleven arrays. -/
structure Arrays where
  r : (⟨4, ![12, 4096, 56, 64]⟩ : Shape).Idx → EReal
  k : (⟨4, ![12, 4096, 56, 64]⟩ : Shape).Idx → EReal
  v : (⟨4, ![12, 4096, 56, 64]⟩ : Shape).Idx → EReal
  rs : (⟨3, ![12, 4096, 56]⟩ : Shape).Idx → EReal
  ks : (⟨3, ![12, 4096, 56]⟩ : Shape).Idx → EReal
  vs : (⟨3, ![12, 4096, 56]⟩ : Shape).Idx → EReal
  w : (⟨4, ![12, 4096, 56, 64]⟩ : Shape).Idx → EReal
  kk : (⟨4, ![12, 4096, 56, 64]⟩ : Shape).Idx → EReal
  ic : (⟨4, ![12, 4096, 56, 64]⟩ : Shape).Idx → EReal
  s0 : (⟨4, ![12, 56, 64, 64]⟩ : Shape).Idx → EReal
  seg : (⟨2, ![12, 4096]⟩ : Shape).Idx → BitVec 1

/-- Every element of an array is a real number. -/
def Real' {ι : Type} (X : ι → EReal) : Prop := ∀ i, ((X i).toReal : EReal) = X i

/-- Every element of the float arrays is a real number, but for a log decay, which may be `⊥`. -/
structure Arrays.Real (A : Arrays) : Prop where
  r : Real' A.r
  k : Real' A.k
  v : Real' A.v
  rs : Real' A.rs
  ks : Real' A.ks
  vs : Real' A.vs
  w : ∀ i, A.w i ≠ ⊤
  kk : Real' A.kk
  ic : Real' A.ic
  s0 : Real' A.s0

/-- The exponential of a log decay is a real number. -/
theorem exp_real {x : EReal} (h : x ≠ ⊤) : ((Ideal.exp x).toReal : EReal) = Ideal.exp x := by
  induction x using EReal.rec with
  | bot => rfl
  | coe a => rfl
  | top => exact absurd rfl h

/-- Token `n`, among the 4096. -/
def tok (n : ℕ) : Fin 4096 := ⟨n % 4096, Nat.mod_lt _ (by decide)⟩

/-- A token's number below 4096 is the token. -/
theorem tok_of_lt {n : ℕ} (h : n < 4096) : tok n = ⟨n, h⟩ := Fin.ext (Nat.mod_eq_of_lt h)

/-- Batch entry `b`, head `h`: its recurrence. -/
def Arrays.data (A : Arrays) (b : Fin 12) (h : Fin 56) : Data where
  g n := decide (A.seg (ix2 b (tok n)) = 1#1)
  ℓ n j := -(Ideal.exp (A.w (ix4 b (tok n) h j))).toReal
  κ n j := (A.kk (ix4 b (tok n) h j)).toReal
  β n j := (A.kk (ix4 b (tok n) h j)).toReal * (A.ic (ix4 b (tok n) h j)).toReal
  k n j := (A.k (ix4 b (tok n) h j)).toReal * (A.ks (ix3 b (tok n) h)).toReal
  r n j := (A.r (ix4 b (tok n) h j)).toReal * (A.rs (ix3 b (tok n) h)).toReal
  v i n := (A.v (ix4 b (tok n) h i)).toReal * (A.vs (ix3 b (tok n) h)).toReal
  x0 i j := (A.s0 (ix4 b h i j)).toReal
  x i j := (A.s0 (ix4 b h i j)).toReal

/-- The results of every token. -/
def Arrays.y (A : Arrays) : (⟨4, ![12, 4096, 56, 64]⟩ : Shape).Idx → EReal :=
  fun i => ((A.data (i 0) (i 2)).out (i 3) (i 1).val : ℝ)

/-- The final states. -/
def Arrays.sf (A : Arrays) : (⟨4, ![12, 56, 64, 64]⟩ : Shape).Idx → EReal :=
  fun i => ((A.data (i 0) (i 1)).state 4096 (i 2) (i 3) : ℝ)

end Cert.Proof

end
-- ==== Proof.KernelBlocks.lean ====
/-
  The kernel's input blocks at a grid point, read off the program's arguments.
-/
module

public import proofs.«01_k».proof.Proof.Spec
public import proofs.«01_k».proof.Proof.Gen.KernelIdeal.Frame
public import proofs.«01_k».proof.Proof.Gen.KernelIdeal.Points
public import Idealize.ShloMosaic.Lib.Pipeline.ValueKit
public import Idealize.ShloMosaic.Lib.Claim

@[expose] public section

set_option maxRecDepth 16384

noncomputable section

namespace Cert.Proof.KI

open Cert.KernelIdeal Cert.KernelIdeal.Gen Cert.Proof.Head
open Idealize.ShloMosaic Idealize.ShloMosaic.TcCoe Idealize.SL.Sem

variable (m : (ℓ : Loc nD τ sig) → Buf (Elt Ideal) ℓ)

/-- The arrays the program is given. -/
def arrays (c : Dev nD) : Arrays where
  r := m ((c : Thread nD τ).loc main_arg0)
  k := m ((c : Thread nD τ).loc main_arg1)
  v := m ((c : Thread nD τ).loc main_arg2)
  rs := m ((c : Thread nD τ).loc main_arg3)
  ks := m ((c : Thread nD τ).loc main_arg4)
  vs := m ((c : Thread nD τ).loc main_arg5)
  w := m ((c : Thread nD τ).loc main_arg6)
  kk := m ((c : Thread nD τ).loc main_arg7)
  ic := m ((c : Thread nD τ).loc main_arg8)
  s0 := m ((c : Thread nD τ).loc main_arg9)
  seg := m ((c : Thread nD τ).loc main_arg10)

/-! ### The operands the host makes -/

/-- The receptance codes as the call receives them: the argument with the tokens moved to the last axis. -/
theorem V5_apply (c : Dev nD) (b : Fin 12) (n : Fin 4096) (h : Fin 56) (j : Fin 64) :
    V m c main_v5 (ix4 b h j n) = (arrays m c).r (ix4 b n h j) := by
  have e : V m c main_v5 = transpose S12x56x64x4096 [0, 2, 3, 1] (Host.convertf (F := Ideal) (φ := .f32) .fp8e4m3 (m ((c : Thread nD τ).loc main_arg0))) transposes_S12x4096x56x64_S12x56x64x4096_0_2_3_1 := by
    show StableHlo.after (List.flatten [hostOps0]) (fun b => m (c, b)) (Proc.devRef .tc main_v5) = _
    simp only [hostOps0, List.flatten_cons, List.flatten_nil, List.append_nil, List.cons_append, List.nil_append]
    after_results
  rw [e]
  pointwise [arrays]

/-- The key codes as the call receives them: the argument with the tokens moved to the last axis. -/
theorem V6_apply (c : Dev nD) (b : Fin 12) (n : Fin 4096) (h : Fin 56) (j : Fin 64) :
    V m c main_v6 (ix4 b h j n) = (arrays m c).k (ix4 b n h j) := by
  have e : V m c main_v6 = transpose S12x56x64x4096 [0, 2, 3, 1] (Host.convertf (F := Ideal) (φ := .f32) .fp8e4m3 (m ((c : Thread nD τ).loc main_arg1))) transposes_S12x4096x56x64_S12x56x64x4096_0_2_3_1 := by
    show StableHlo.after (List.flatten [hostOps0]) (fun b => m (c, b)) (Proc.devRef .tc main_v6) = _
    simp only [hostOps0, List.flatten_cons, List.flatten_nil, List.append_nil, List.cons_append, List.nil_append]
    after_results
  rw [e]
  pointwise [arrays]

/-- The value codes as the call receives them: the argument with the tokens moved to the last axis. -/
theorem V7_apply (c : Dev nD) (b : Fin 12) (n : Fin 4096) (h : Fin 56) (j : Fin 64) :
    V m c main_v7 (ix4 b h j n) = (arrays m c).v (ix4 b n h j) := by
  have e : V m c main_v7 = transpose S12x56x64x4096 [0, 2, 3, 1] (Host.convertf (F := Ideal) (φ := .f32) .fp8e4m3 (m ((c : Thread nD τ).loc main_arg2))) transposes_S12x4096x56x64_S12x56x64x4096_0_2_3_1 := by
    show StableHlo.after (List.flatten [hostOps0]) (fun b => m (c, b)) (Proc.devRef .tc main_v7) = _
    simp only [hostOps0, List.flatten_cons, List.flatten_nil, List.append_nil, List.cons_append, List.nil_append]
    after_results
  rw [e]
  pointwise [arrays]

/-- The log decays as the call receives them: the argument with the tokens moved to the last axis. -/
theorem V11_apply (c : Dev nD) (b : Fin 12) (n : Fin 4096) (h : Fin 56) (j : Fin 64) :
    V m c main_v11 (ix4 b h j n) = (arrays m c).w (ix4 b n h j) := by
  have e : V m c main_v11 = transpose S12x56x64x4096 [0, 2, 3, 1] (m ((c : Thread nD τ).loc main_arg6)) transposes_S12x4096x56x64_S12x56x64x4096_0_2_3_1 := by
    show StableHlo.after (List.flatten [hostOps0]) (fun b => m (c, b)) (Proc.devRef .tc main_v11) = _
    simp only [hostOps0, List.flatten_cons, List.flatten_nil, List.append_nil, List.cons_append, List.nil_append]
    after_results
  rw [e]
  pointwise [arrays]

/-- The removal keys as the call receives them: the argument with the tokens moved to the last axis. -/
theorem V12_apply (c : Dev nD) (b : Fin 12) (n : Fin 4096) (h : Fin 56) (j : Fin 64) :
    V m c main_v12 (ix4 b h j n) = (arrays m c).kk (ix4 b n h j) := by
  have e : V m c main_v12 = transpose S12x56x64x4096 [0, 2, 3, 1] (m ((c : Thread nD τ).loc main_arg7)) transposes_S12x4096x56x64_S12x56x64x4096_0_2_3_1 := by
    show StableHlo.after (List.flatten [hostOps0]) (fun b => m (c, b)) (Proc.devRef .tc main_v12) = _
    simp only [hostOps0, List.flatten_cons, List.flatten_nil, List.append_nil, List.cons_append, List.nil_append]
    after_results
  rw [e]
  pointwise [arrays]

/-- The learning rates as the call receives them: the argument with the tokens moved to the last axis. -/
theorem V13_apply (c : Dev nD) (b : Fin 12) (n : Fin 4096) (h : Fin 56) (j : Fin 64) :
    V m c main_v13 (ix4 b h j n) = (arrays m c).ic (ix4 b n h j) := by
  have e : V m c main_v13 = transpose S12x56x64x4096 [0, 2, 3, 1] (m ((c : Thread nD τ).loc main_arg8)) transposes_S12x4096x56x64_S12x56x64x4096_0_2_3_1 := by
    show StableHlo.after (List.flatten [hostOps0]) (fun b => m (c, b)) (Proc.devRef .tc main_v13) = _
    simp only [hostOps0, List.flatten_cons, List.flatten_nil, List.append_nil, List.cons_append, List.nil_append]
    after_results
  rw [e]
  pointwise [arrays]

/-- The receptance scales as the call receives them: the argument with the tokens moved to the last axis. -/
theorem V8_apply (c : Dev nD) (b : Fin 12) (n : Fin 4096) (h : Fin 56) :
    V m c main_v8 (ix3 b h n) = (arrays m c).rs (ix3 b n h) := by
  have e : V m c main_v8 = transpose S12x56x4096 [0, 2, 1] (m ((c : Thread nD τ).loc main_arg3)) transposes_S12x4096x56_S12x56x4096_0_2_1 := by
    show StableHlo.after (List.flatten [hostOps0]) (fun b => m (c, b)) (Proc.devRef .tc main_v8) = _
    simp only [hostOps0, List.flatten_cons, List.flatten_nil, List.append_nil, List.cons_append, List.nil_append]
    after_results
  rw [e]
  pointwise [arrays]

/-- The key scales as the call receives them: the argument with the tokens moved to the last axis. -/
theorem V9_apply (c : Dev nD) (b : Fin 12) (n : Fin 4096) (h : Fin 56) :
    V m c main_v9 (ix3 b h n) = (arrays m c).ks (ix3 b n h) := by
  have e : V m c main_v9 = transpose S12x56x4096 [0, 2, 1] (m ((c : Thread nD τ).loc main_arg4)) transposes_S12x4096x56_S12x56x4096_0_2_1 := by
    show StableHlo.after (List.flatten [hostOps0]) (fun b => m (c, b)) (Proc.devRef .tc main_v9) = _
    simp only [hostOps0, List.flatten_cons, List.flatten_nil, List.append_nil, List.cons_append, List.nil_append]
    after_results
  rw [e]
  pointwise [arrays]

/-- The value scales as the call receives them: the argument with the tokens moved to the last axis. -/
theorem V10_apply (c : Dev nD) (b : Fin 12) (n : Fin 4096) (h : Fin 56) :
    V m c main_v10 (ix3 b h n) = (arrays m c).vs (ix3 b n h) := by
  have e : V m c main_v10 = transpose S12x56x4096 [0, 2, 1] (m ((c : Thread nD τ).loc main_arg5)) transposes_S12x4096x56_S12x56x4096_0_2_1 := by
    show StableHlo.after (List.flatten [hostOps0]) (fun b => m (c, b)) (Proc.devRef .tc main_v10) = _
    simp only [hostOps0, List.flatten_cons, List.flatten_nil, List.append_nil, List.cons_append, List.nil_append]
    after_results
  rw [e]
  pointwise [arrays]

/-- An array of rows, given a unit middle axis, read at an index. -/
theorem rows_apply {α : Type} (v : S12x4096.Idx → α) (b : Fin 12) (n : Fin 4096) :
    shapeCast S12x1x4096 v shapeCasts_S12x4096_S12x1x4096 (ix3 b 0 n) = v (ix2 b n) := by
  refine shapeCast_apply v _ _ _ ?_
  rw [Shape.rowMajor_val_two, Shape.rowMajor_val_three]
  show b.val * 4096 + n.val = (b.val * 1 + 0) * 4096 + n.val
  omega

/-- A bit as a real number. -/
theorem bit_real (w : BitVec 1) : (((w.toNat : ℝ)) : EReal) = ((if w = 1#1 then (1 : ℝ) else 0 : ℝ) : EReal) := by
  rcases (by revert w; decide : ∀ w : BitVec 1, w = 0#1 ∨ w = 1#1) w with rfl | rfl <;> simp

/-- The segment starts as the call receives them: 1 where a segment starts, 0 elsewhere. -/
theorem V4_apply (c : Dev nD) (b : Fin 12) (n : Fin 4096) :
    V m c main_v4 (ix3 b 0 n) = ((if (arrays m c).seg (ix2 b n) = 1#1 then (1 : ℝ) else 0 : ℝ) : EReal) := by
  have e : V m c main_v4 = shapeCast S12x1x4096 (uitofp (F := Ideal) .f32 (m ((c : Thread nD τ).loc main_arg10))) shapeCasts_S12x4096_S12x1x4096 := by
    show StableHlo.after (List.flatten [hostOps0]) (fun b => m (c, b)) (Proc.devRef .tc main_v4) = _
    simp only [hostOps0, List.flatten_cons, List.flatten_nil, List.append_nil, List.cons_append, List.nil_append]
    after_results
    rfl
  exact ((congrFun e _).trans (rows_apply _ b n)).trans (bit_real ((arrays m c).seg (ix2 b n)))

/-- The batch entry of a grid point. -/
theorem coords0 (t : Fin cfg0.N) : (grid0.coords t 0).val = t.val / 56 := by
  revert t; exact (by decide +kernel : ∀ t : Fin grid0.N, (grid0.coords t 0).val = t.val / 56)
/-- The block of heads of a grid point. -/
theorem coords1 (t : Fin cfg0.N) : (grid0.coords t 1).val = t.val / 8 % 7 := by
  revert t; exact (by decide +kernel : ∀ t : Fin grid0.N, (grid0.coords t 1).val = t.val / 8 % 7)
/-- The block of tokens of a grid point. -/
theorem coords2 (t : Fin cfg0.N) : (grid0.coords t 2).val = t.val % 8 := by
  revert t; exact (by decide +kernel : ∀ t : Fin grid0.N, (grid0.coords t 2).val = t.val % 8)

/-- Which block of the receptance codes a grid point works on. -/
theorem place0 (t : Fin cfg0.N) : (cfg0.win 0).index t = ![t.val / 56, t.val / 8 % 7, 0, t.val % 8] := by
  revert t; exact (by decide +kernel : ∀ t : Fin grid0.N, win0_0.index t = ![t.val / 56, t.val / 8 % 7, 0, t.val % 8])
/-- Which block of the key codes a grid point works on. -/
theorem place1 (t : Fin cfg0.N) : (cfg0.win 1).index t = ![t.val / 56, t.val / 8 % 7, 0, t.val % 8] := by
  revert t; exact (by decide +kernel : ∀ t : Fin grid0.N, win0_1.index t = ![t.val / 56, t.val / 8 % 7, 0, t.val % 8])
/-- Which block of the value codes a grid point works on. -/
theorem place2 (t : Fin cfg0.N) : (cfg0.win 2).index t = ![t.val / 56, t.val / 8 % 7, 0, t.val % 8] := by
  revert t; exact (by decide +kernel : ∀ t : Fin grid0.N, win0_2.index t = ![t.val / 56, t.val / 8 % 7, 0, t.val % 8])
/-- Which block of the receptance scales a grid point works on. -/
theorem place3 (t : Fin cfg0.N) : (cfg0.win 3).index t = ![t.val / 56, t.val / 8 % 7, t.val % 8] := by
  revert t; exact (by decide +kernel : ∀ t : Fin grid0.N, win0_3.index t = ![t.val / 56, t.val / 8 % 7, t.val % 8])
/-- Which block of the key scales a grid point works on. -/
theorem place4 (t : Fin cfg0.N) : (cfg0.win 4).index t = ![t.val / 56, t.val / 8 % 7, t.val % 8] := by
  revert t; exact (by decide +kernel : ∀ t : Fin grid0.N, win0_4.index t = ![t.val / 56, t.val / 8 % 7, t.val % 8])
/-- Which block of the value scales a grid point works on. -/
theorem place5 (t : Fin cfg0.N) : (cfg0.win 5).index t = ![t.val / 56, t.val / 8 % 7, t.val % 8] := by
  revert t; exact (by decide +kernel : ∀ t : Fin grid0.N, win0_5.index t = ![t.val / 56, t.val / 8 % 7, t.val % 8])
/-- Which block of the log decays a grid point works on. -/
theorem place6 (t : Fin cfg0.N) : (cfg0.win 6).index t = ![t.val / 56, t.val / 8 % 7, 0, t.val % 8] := by
  revert t; exact (by decide +kernel : ∀ t : Fin grid0.N, win0_6.index t = ![t.val / 56, t.val / 8 % 7, 0, t.val % 8])
/-- Which block of the removal keys a grid point works on. -/
theorem place7 (t : Fin cfg0.N) : (cfg0.win 7).index t = ![t.val / 56, t.val / 8 % 7, 0, t.val % 8] := by
  revert t; exact (by decide +kernel : ∀ t : Fin grid0.N, win0_7.index t = ![t.val / 56, t.val / 8 % 7, 0, t.val % 8])
/-- Which block of the learning rates a grid point works on. -/
theorem place8 (t : Fin cfg0.N) : (cfg0.win 8).index t = ![t.val / 56, t.val / 8 % 7, 0, t.val % 8] := by
  revert t; exact (by decide +kernel : ∀ t : Fin grid0.N, win0_8.index t = ![t.val / 56, t.val / 8 % 7, 0, t.val % 8])
/-- Which block of the initial states a grid point works on. -/
theorem place9 (t : Fin cfg0.N) : (cfg0.win 9).index t = ![t.val / 56, t.val / 8 % 7, 0, 0] := by
  revert t; exact (by decide +kernel : ∀ t : Fin grid0.N, win0_9.index t = ![t.val / 56, t.val / 8 % 7, 0, 0])
/-- Which block of the segment starts a grid point works on. -/
theorem place10 (t : Fin cfg0.N) : (cfg0.win 10).index t = ![t.val / 56, 0, t.val % 8] := by
  revert t; exact (by decide +kernel : ∀ t : Fin grid0.N, win0_10.index t = ![t.val / 56, 0, t.val % 8])
/-- Which block of the results a grid point works on. -/
theorem place11 (t : Fin cfg0.N) : (cfg0.win 11).index t = ![t.val / 56, t.val / 8 % 7, 0, t.val % 8] := by
  revert t; exact (by decide +kernel : ∀ t : Fin grid0.N, win0_11.index t = ![t.val / 56, t.val / 8 % 7, 0, t.val % 8])
/-- Which block of the final states a grid point works on. -/
theorem place12 (t : Fin cfg0.N) : (cfg0.win 12).index t = ![t.val / 56, t.val / 8 % 7, 0, 0] := by
  revert t; exact (by decide +kernel : ∀ t : Fin grid0.N, win0_12.index t = ![t.val / 56, t.val / 8 % 7, 0, 0])

/-- The batch entry, the first head and the first token of a grid point. -/
def pb (t : Fin cfg0.N) : Fin 12 := ⟨t.val / 56, by have := lt_of_lt_of_eq t.isLt (show cfg0.N = 672 from rfl); omega⟩
/-- The head a grid point's row of heads stands for. -/
def ph (t : Fin cfg0.N) (h : Fin 8) : Fin 56 := ⟨8 * (t.val / 8 % 7) + h.val, by have := h.isLt; omega⟩
/-- The token a grid point's column of tokens stands for. -/
def pn (t : Fin cfg0.N) (q : Fin 512) : Fin 4096 := ⟨512 * (t.val % 8) + q.val, by have := q.isLt; omega⟩

/-! ### The blocks -/

/-- What the point's block of the receptance codes holds. -/
theorem blk0 (c : Dev nD) (t : Fin cfg0.N) (h : Fin 8) (j : Fin 64) (q : Fin 512) :
    iblk m c 0 t (ix4 0 h j q) = (arrays m c).r (ix4 (pb t) (pn t q) (ph t h) j) := by
  refine Eq.trans ?_ (V5_apply m c (pb t) (pn t q) (ph t h) j)
  have h0 := coords0 t; have h1 := coords1 t; have h2 := coords2 t
  blk_ext [iblk, place0 t, pb, pn, ph, V]
/-- What the point's block of the key codes holds. -/
theorem blk1 (c : Dev nD) (t : Fin cfg0.N) (h : Fin 8) (j : Fin 64) (q : Fin 512) :
    iblk m c 1 t (ix4 0 h j q) = (arrays m c).k (ix4 (pb t) (pn t q) (ph t h) j) := by
  refine Eq.trans ?_ (V6_apply m c (pb t) (pn t q) (ph t h) j)
  have h0 := coords0 t; have h1 := coords1 t; have h2 := coords2 t
  blk_ext [iblk, place1 t, pb, pn, ph, V]
/-- What the point's block of the value codes holds. -/
theorem blk2 (c : Dev nD) (t : Fin cfg0.N) (h : Fin 8) (j : Fin 64) (q : Fin 512) :
    iblk m c 2 t (ix4 0 h j q) = (arrays m c).v (ix4 (pb t) (pn t q) (ph t h) j) := by
  refine Eq.trans ?_ (V7_apply m c (pb t) (pn t q) (ph t h) j)
  have h0 := coords0 t; have h1 := coords1 t; have h2 := coords2 t
  blk_ext [iblk, place2 t, pb, pn, ph, V]
/-- What the point's block of the log decays holds. -/
theorem blk6 (c : Dev nD) (t : Fin cfg0.N) (h : Fin 8) (j : Fin 64) (q : Fin 512) :
    iblk m c 6 t (ix4 0 h j q) = (arrays m c).w (ix4 (pb t) (pn t q) (ph t h) j) := by
  refine Eq.trans ?_ (V11_apply m c (pb t) (pn t q) (ph t h) j)
  have h0 := coords0 t; have h1 := coords1 t; have h2 := coords2 t
  blk_ext [iblk, place6 t, pb, pn, ph, V]
/-- What the point's block of the removal keys holds. -/
theorem blk7 (c : Dev nD) (t : Fin cfg0.N) (h : Fin 8) (j : Fin 64) (q : Fin 512) :
    iblk m c 7 t (ix4 0 h j q) = (arrays m c).kk (ix4 (pb t) (pn t q) (ph t h) j) := by
  refine Eq.trans ?_ (V12_apply m c (pb t) (pn t q) (ph t h) j)
  have h0 := coords0 t; have h1 := coords1 t; have h2 := coords2 t
  blk_ext [iblk, place7 t, pb, pn, ph, V]
/-- What the point's block of the learning rates holds. -/
theorem blk8 (c : Dev nD) (t : Fin cfg0.N) (h : Fin 8) (j : Fin 64) (q : Fin 512) :
    iblk m c 8 t (ix4 0 h j q) = (arrays m c).ic (ix4 (pb t) (pn t q) (ph t h) j) := by
  refine Eq.trans ?_ (V13_apply m c (pb t) (pn t q) (ph t h) j)
  have h0 := coords0 t; have h1 := coords1 t; have h2 := coords2 t
  blk_ext [iblk, place8 t, pb, pn, ph, V]
/-- What the point's block of the receptance scales holds. -/
theorem blk3 (c : Dev nD) (t : Fin cfg0.N) (h : Fin 8) (q : Fin 512) :
    iblk m c 3 t (ix3 0 h q) = (arrays m c).rs (ix3 (pb t) (pn t q) (ph t h)) := by
  refine Eq.trans ?_ (V8_apply m c (pb t) (pn t q) (ph t h))
  have h0 := coords0 t; have h1 := coords1 t; have h2 := coords2 t
  blk_ext [iblk, place3 t, pb, pn, ph, V]
/-- What the point's block of the key scales holds. -/
theorem blk4 (c : Dev nD) (t : Fin cfg0.N) (h : Fin 8) (q : Fin 512) :
    iblk m c 4 t (ix3 0 h q) = (arrays m c).ks (ix3 (pb t) (pn t q) (ph t h)) := by
  refine Eq.trans ?_ (V9_apply m c (pb t) (pn t q) (ph t h))
  have h0 := coords0 t; have h1 := coords1 t; have h2 := coords2 t
  blk_ext [iblk, place4 t, pb, pn, ph, V]
/-- What the point's block of the value scales holds. -/
theorem blk5 (c : Dev nD) (t : Fin cfg0.N) (h : Fin 8) (q : Fin 512) :
    iblk m c 5 t (ix3 0 h q) = (arrays m c).vs (ix3 (pb t) (pn t q) (ph t h)) := by
  refine Eq.trans ?_ (V10_apply m c (pb t) (pn t q) (ph t h))
  have h0 := coords0 t; have h1 := coords1 t; have h2 := coords2 t
  blk_ext [iblk, place5 t, pb, pn, ph, V]
/-- What the point's block of the initial states holds. -/
theorem blk9 (c : Dev nD) (t : Fin cfg0.N) (h : Fin 8) (i j : Fin 64) :
    iblk m c 9 t (ix4 0 h i j) = (arrays m c).s0 (ix4 (pb t) (ph t h) i j) := by
  refine Eq.trans ?_ (congrFun (V_main_arg9 m c) _)
  have h0 := coords0 t; have h1 := coords1 t; have h2 := coords2 t
  blk_ext [iblk, place9 t, pb, pn, ph, V]
/-- What the point's block of the segment starts holds. -/
theorem blk10 (c : Dev nD) (t : Fin cfg0.N) (q : Fin 512) :
    iblk m c 10 t (ix3 0 0 q) = ((if (arrays m c).seg (ix2 (pb t) (pn t q)) = 1#1 then (1 : ℝ) else 0 : ℝ) : EReal) := by
  refine Eq.trans ?_ (V4_apply m c (pb t) (pn t q))
  have h0 := coords0 t; have h1 := coords1 t; have h2 := coords2 t
  blk_ext [iblk, place10 t, pb, pn, ph, V]

end Cert.Proof.KI

end
-- ==== Proof.Trip.lean ====
/-
  One trip of the head loop, its values by name: each block the trip computes, as a function of the blocks it reads. The
  names are those of the generated payloads.
-/
module

public import proofs.«01_k».proof.Proof.Masks

@[expose] public section

set_option maxRecDepth 16384

noncomputable section

namespace Cert.Proof.Head

open Cert.KernelIdeal Cert.KernelIdeal.Gen
open Idealize.ShloMosaic Idealize.ShloMosaic.TcCoe

/-- The zero block a product adds to. -/
def zero : FVec Ideal S64x64 .f32 := constant S64x64 .f32 0x00000000#32

/-- The blocks one trip of the head loop reads: row and column numbers, the identity, the start counts and the two masks of the unit,
    then its loads in order. -/
structure In where
  v59 : IVec S64x64 32
  v60 : IVec S64x64 32
  v64 : FVec Ideal S64x64 .f32
  v79 : FVec Ideal S128x128 .f32
  v87 : FVec Ideal S128x128 .f32
  v92 : FVec Ideal S128x128 .f32
  v201 : Vec Ideal S1x1x64x128 .bf16
  v206 : Vec Ideal S1x1x64x128 .bf16
  v224 : Vec Ideal S1x1x64x128 .fp8e4m3
  v228 : Vec Ideal S1x1x1x128 .f32
  v235 : Vec Ideal S1x1x64x128 .bf16
  v242 : Vec Ideal S1x1x64x128 .fp8e4m3
  v246 : Vec Ideal S1x1x1x128 .f32
  v253 : Vec Ideal S1x1x64x128 .fp8e4m3
  v257 : Vec Ideal S1x1x1x128 .f32
  v262 : Vec Ideal S1x1x64x64 .f32
  v265 : Vec Ideal S1x64x64 .f32

namespace In

variable (I : In)

/-- The decays since the segments began. -/
def v216 := k0_pay12 (F := Ideal) I.v87 I.v206
/-- Their reciprocals. -/
def v219 := k0_pay13 (F := Ideal) I.v87 I.v206
/-- The removal keys times the decays before the tokens. -/
def v221 := k0_pay14 (F := Ideal) I.v92 I.v201 I.v206
/-- The receptances times the decays. -/
def v232 := k0_pay15 (F := Ideal) I.v87 I.v206 I.v224 I.v228
/-- The keys of what is removed, over the decays. -/
def v239 := k0_pay16 (F := Ideal) I.v87 I.v201 I.v206 I.v235
/-- The keys over the decays. -/
def v250 := k0_pay17 (F := Ideal) I.v219 I.v242 I.v246
/-- The values. -/
def v260 := k0_pay18 (F := Ideal) I.v253 I.v257
/-- The initial state. -/
def v263 := k0_pay19 (F := Ideal) I.v262
/-- The state the trip enters with. -/
def v266 := k0_pay20 (F := Ideal) I.v265
/-- The decays, transposed. -/
def v267 := k0_pay21 (F := Ideal) I.v216
/-- First chunk: its columns of `v221`. -/
def v268 := k0_pay22 (F := Ideal) I.v221
/-- First chunk: its columns of `v232`. -/
def v269 := k0_pay23 (F := Ideal) I.v232
/-- First chunk: its columns of `v239`. -/
def v270 := k0_pay24 (F := Ideal) I.v239
/-- First chunk: its columns of `v250`. -/
def v271 := k0_pay25 (F := Ideal) I.v219 I.v242 I.v246
/-- First chunk: its columns of `v260`. -/
def v272 := k0_pay26 (F := Ideal) I.v253 I.v257
/-- First chunk: its part of the mask with the diagonal. -/
def v273 := k0_pay27 (F := Ideal) I.v87
/-- First chunk: the masked product of what is removed with the removal keys. -/
def v279 := k0_pay29 (F := Ideal) I.v92 I.v221 I.v239
/-- First chunk: its part of the mask without the diagonal, as bits. -/
def v281 := k0_pay30 (F := Ideal) I.v92
/-- First chunk: the masked product of the keys with the removal keys. -/
def v284 := k0_pay31 (F := Ideal) I.v268 I.v271 I.v281 zero
/-- First chunk: the masked product of what is removed with the receptances. -/
def v289 := k0_pay32 (F := Ideal) I.v269 I.v270 I.v273
/-- First chunk: the masked product of the keys with the receptances. -/
def v294 := k0_pay33 (F := Ideal) I.v269 I.v271 I.v273
/-- First chunk: the inverse after one level of doubling. -/
def v398 := lvl I.v59 I.v60 1#32 2#32 I.v279 I.v64
/-- First chunk: the inverse after two levels of doubling. -/
def v502 := lvl I.v59 I.v60 2#32 4#32 I.v279 I.v398
/-- First chunk: the inverse after three levels of doubling. -/
def v606 := lvl I.v59 I.v60 4#32 8#32 I.v279 I.v502
/-- First chunk: the inverse after four levels of doubling. -/
def v710 := lvl I.v59 I.v60 8#32 16#32 I.v279 I.v606
/-- First chunk: the inverse after five levels of doubling. -/
def v814 := lvl I.v59 I.v60 16#32 32#32 I.v279 I.v710
/-- First chunk: the inverse after six levels of doubling. -/
def v918 := lvl I.v59 I.v60 32#32 64#32 I.v279 I.v814
/-- First chunk: the start counts. -/
def v919 := k0_pay87 (F := Ideal) I.v79
/-- First chunk: the start count at its last token. -/
def v920 := k0_pay88 (F := Ideal) I.v79
/-- First chunk: which tokens no start has come before. -/
def v922 := k0_pay89 (F := Ideal) I.v79
/-- First chunk: the base rows read at the removal keys. -/
def v925 := k0_pay90 (F := Ideal) I.v79 I.v263 I.v266 I.v268
/-- First chunk: the tokens' results. -/
def v936 := k0_pay92 (F := Ideal) I.v263 I.v266 I.v269 I.v272 I.v284 I.v289 I.v294 I.v918 I.v922 I.v925
/-- The state after the first chunk. -/
def v954 := k0_pay93 (F := Ideal) I.v263 I.v266 I.v267 I.v270 I.v271 I.v272 I.v284 I.v918 I.v919 I.v920 I.v925
/-- Second chunk: its columns of `v221`. -/
def v955 := k0_pay94 (F := Ideal) I.v221
/-- Second chunk: its columns of `v232`. -/
def v956 := k0_pay95 (F := Ideal) I.v232
/-- Second chunk: its columns of `v239`. -/
def v957 := k0_pay96 (F := Ideal) I.v239
/-- Second chunk: its columns of `v250`. -/
def v958 := k0_pay97 (F := Ideal) I.v250
/-- Second chunk: its columns of `v260`. -/
def v959 := k0_pay98 (F := Ideal) I.v260
/-- Second chunk: its part of the mask with the diagonal. -/
def v960 := k0_pay99 (F := Ideal) I.v87
/-- Second chunk: the masked product of what is removed with the removal keys. -/
def v966 := k0_pay101 (F := Ideal) I.v92 I.v221 I.v239
/-- Second chunk: its part of the mask without the diagonal. -/
def v968 := k0_pay102 (F := Ideal) I.v92
/-- Second chunk: the product of the keys with the removal keys, unmasked. -/
def v969 := k0_pay103 (F := Ideal) I.v221 I.v250
/-- Second chunk: the masked product of the keys with the removal keys. -/
def v971 := k0_pay104 (F := Ideal) I.v968 I.v969
/-- Second chunk: the masked product of what is removed with the receptances. -/
def v976 := k0_pay105 (F := Ideal) I.v956 I.v957 I.v960
/-- Second chunk: the masked product of the keys with the receptances. -/
def v981 := k0_pay106 (F := Ideal) I.v956 I.v958 I.v960
/-- Second chunk: the inverse after one level of doubling. -/
def v1085 := lvl I.v59 I.v60 1#32 2#32 I.v966 I.v64
/-- Second chunk: the inverse after two levels of doubling. -/
def v1189 := lvl I.v59 I.v60 2#32 4#32 I.v966 I.v1085
/-- Second chunk: the inverse after three levels of doubling. -/
def v1293 := lvl I.v59 I.v60 4#32 8#32 I.v966 I.v1189
/-- Second chunk: the inverse after four levels of doubling. -/
def v1397 := lvl I.v59 I.v60 8#32 16#32 I.v966 I.v1293
/-- Second chunk: the inverse after five levels of doubling. -/
def v1501 := lvl I.v59 I.v60 16#32 32#32 I.v966 I.v1397
/-- Second chunk: the inverse after six levels of doubling. -/
def v1605 := lvl I.v59 I.v60 32#32 64#32 I.v966 I.v1501
/-- Second chunk: the start counts. -/
def v1606 := k0_pay160 (F := Ideal) I.v79
/-- Second chunk: the start count at its last token. -/
def v1607 := k0_pay161 (F := Ideal) I.v79
/-- Second chunk: which tokens no start has come before. -/
def v1609 := k0_pay162 (F := Ideal) I.v79
/-- Second chunk: the base rows read at the removal keys. -/
def v1612 := k0_pay163 (F := Ideal) I.v79 I.v263 I.v954 I.v955
/-- Second chunk: what each token removes. -/
def v1618 := k0_pay164 (F := Ideal) I.v959 I.v971 I.v1605 I.v1612
/-- Second chunk: which tokens belong to the last one's segment. -/
def v1631 := k0_pay166 (F := Ideal) I.v1606 I.v1607
/-- A block of zeros. -/
def v1632 := k0_pay167 (F := Ideal)
/-- The block of results the trip stores. -/
def y := k0_pay165 (F := Ideal) I.v263 I.v936 I.v954 I.v956 I.v959 I.v971 I.v976 I.v981 I.v1605 I.v1609 I.v1612 zero
/-- The state the trip stores. -/
def s := k0_pay7 (F := Ideal) I.v263 I.v267 I.v954 I.v957 I.v958 I.v959 I.v1607 I.v1618 I.v1631 v1632

end In

end Cert.Proof.Head

end
-- ==== Proof.Head.lean ====
/-
  One trip of the head loop over the reals: the block it stores holds the results of 128 tokens, the state it stores is the
  state after them.
-/
module

public import proofs.«01_k».proof.Proof.Trip
public import proofs.«01_k».proof.Proof.Chunk

@[expose] public section

set_option maxRecDepth 16384

noncomputable section

namespace Cert.Proof.Head

open Cert.KernelIdeal Cert.KernelIdeal.Gen
open Idealize.ShloMosaic Idealize.ShloMosaic.TcCoe

/-- The named constant's value. -/
theorem log2e_val : Named.named (F := Ideal) Cert.KernelIdeal.κ "log2e" (φ := .f32) 0x3FB8AA3B#32 = (((Real.log 2)⁻¹ : ℝ) : EReal) :=
  IdealRules.named_const.ideal_named_scalar _ _ _ _ rfl

/-- `exp2` of a real over `log 2`. -/
theorem exp2_val (x : ℝ) : (FloatOps.exp2 (F := Ideal) (φ := .f32) ((x * (Real.log 2)⁻¹ : ℝ) : EReal)) = ((Real.exp x : ℝ) : EReal) := by
  show Ideal.exp2 _ = _
  rw [Ideal.exp2_coe]
  congr 1
  show (2 : ℝ) ^ (x * (Real.log 2)⁻¹) = Real.exp x
  rw [Real.rpow_def_of_pos two_pos]
  congr 1
  have : Real.log 2 ≠ 0 := (Real.log_pos one_lt_two).ne'
  field_simp

/-- A sum over 128 tokens, by chunks. -/
theorem sum_128 (f : Fin 128 → EReal) : ∑ x, f x = ∑ s : Fin 64, f ⟨s.val, by omega⟩ + ∑ s : Fin 64, f ⟨64 + s.val, by omega⟩ := by
  rw [show (∑ x, f x) = ∑ x : Fin (64 + 64), f x from rfl, Fin.sum_univ_add]
  rfl

/-- A choice by a decided bit is a choice by the proposition. -/
theorem select_ofBool {p : Prop} [Decidable p] (a b : EReal) : Scalar.select (BitVec.ofBool (decide p)) a b = if p then a else b := by
  by_cases h : p <;> simp [Scalar.select, h]

/-- What the blocks a trip reads hold: 128 tokens of one head. -/
structure Hyp (I : In) (D : Data) : Prop where
  rows : Rows I.v59
  cols : Cols I.v60
  eye : Rd I.v64 (1 : Doubling.Mat)
  cnt0 : ∀ (p : Fin 128) (t : Fin 64), I.v79 (ix2 p ⟨t.val, by omega⟩) = D.cnt t
  cnt1 : ∀ (p : Fin 128) (t : Fin 64), I.v79 (ix2 p ⟨64 + t.val, by omega⟩) = (D.drop 64).cnt t
  in00 : ∀ s t : Fin 64, I.v87 (ix2 ⟨s.val, by omega⟩ ⟨t.val, by omega⟩)
    = ((if Delta.count D.g s = Delta.count D.g t ∧ s ≤ t then (1 : ℝ) else 0 : ℝ) : EReal)
  in11 : ∀ s t : Fin 64, I.v87 (ix2 ⟨64 + s.val, by omega⟩ ⟨64 + t.val, by omega⟩)
    = ((if Delta.count (D.drop 64).g s = Delta.count (D.drop 64).g t ∧ s ≤ t then (1 : ℝ) else 0 : ℝ) : EReal)
  in01 : ∀ s t : Fin 64, I.v87 (ix2 ⟨s.val, by omega⟩ ⟨64 + t.val, by omega⟩) = 0
  in10 : ∀ s t : Fin 64, I.v87 (ix2 ⟨64 + s.val, by omega⟩ ⟨t.val, by omega⟩) = 0
  ex00 : ∀ s t : Fin 64, I.v92 (ix2 ⟨s.val, by omega⟩ ⟨t.val, by omega⟩)
    = ((if Delta.count D.g s = Delta.count D.g t ∧ s < t then (1 : ℝ) else 0 : ℝ) : EReal)
  ex11 : ∀ s t : Fin 64, I.v92 (ix2 ⟨64 + s.val, by omega⟩ ⟨64 + t.val, by omega⟩)
    = ((if Delta.count (D.drop 64).g s = Delta.count (D.drop 64).g t ∧ s < t then (1 : ℝ) else 0 : ℝ) : EReal)
  ex01 : ∀ s t : Fin 64, I.v92 (ix2 ⟨s.val, by omega⟩ ⟨64 + t.val, by omega⟩) = 0
  ex10 : ∀ s t : Fin 64, I.v92 (ix2 ⟨64 + s.val, by omega⟩ ⟨t.val, by omega⟩) = 0
  w : ∀ (j : Fin 64) (q : Fin 128), ∃ a : ℝ, Ideal.exp (I.v206 (ix4 0 0 j q)) = (a : EReal) ∧ D.ℓ q j = -a
  κ : ∀ (j : Fin 64) (q : Fin 128), I.v201 (ix4 0 0 j q) = (D.κ q j : EReal)
  β : ∀ (j : Fin 64) (q : Fin 128), I.v201 (ix4 0 0 j q) * I.v235 (ix4 0 0 j q) = (D.β q j : EReal)
  k : ∀ (j : Fin 64) (q : Fin 128), I.v242 (ix4 0 0 j q) * I.v246 (ix4 0 0 0 q) = (D.k q j : EReal)
  r : ∀ (j : Fin 64) (q : Fin 128), I.v224 (ix4 0 0 j q) * I.v228 (ix4 0 0 0 q) = (D.r q j : EReal)
  v : ∀ (i : Fin 64) (q : Fin 128), I.v253 (ix4 0 0 i q) * I.v257 (ix4 0 0 0 q) = (D.v i q : EReal)
  x0 : ∀ i j : Fin 64, I.v262 (ix4 0 0 i j) = (D.x0 i j : EReal)
  x : ∀ i j : Fin 64, I.v265 (ix3 0 i j) = (D.x i j : EReal)

/-- A chunk's sum of masked log decays, in base two. -/
theorem decay_sum (D : Data) (c : Fin 64 → Prop) [DecidablePred c] (j : Fin 64) {W M : Fin 64 → EReal}
    (hW : ∀ s : Fin 64, W s = ((D.ℓ s j * (Real.log 2)⁻¹ : ℝ) : EReal)) (hM : ∀ s, M s = ((if c s then (1 : ℝ) else 0 : ℝ) : EReal)) :
    (∑ s, W s * M s) = (((∑ s : Fin 64, if c s then D.ℓ s j else 0) * (Real.log 2)⁻¹ : ℝ) : EReal) := by
  rw [coe_dot _ hW hM, Finset.sum_mul]
  congr 1
  refine Finset.sum_congr rfl fun s _ => ?_
  by_cases h : c s <;> simp [h]

section
variable {I : In} {D : Data} (H : Hyp I D)
include H

/-- The log decays in base two. -/
theorem w10 (j : Fin 64) (q : Fin 128) :
    (0 - Ideal.exp (I.v206 (ix4 0 0 j q))) * Named.named (F := Ideal) Cert.KernelIdeal.κ "log2e" (φ := .f32) 0x3FB8AA3B#32
      = ((D.ℓ q j * (Real.log 2)⁻¹ : ℝ) : EReal) := by
  obtain ⟨a, ha, hl⟩ := H.w j q
  rw [ha, log2e_val, hl, zero_sub, ← EReal.coe_neg, ← EReal.coe_mul]

/-- A product with a column of zeros is zero. -/
theorem zero_dot (j : Fin 64) {f : Fin 64 → EReal} {M : Fin 64 → EReal} (hM : ∀ s, M s = 0) : (∑ s, f s * M s) = 0 := by
  refine Finset.sum_eq_zero fun s _ => ?_
  rw [hM, mul_zero]

/-- The exponent of the decay, up to and including the token, over log 2, at a token of the first chunk. -/
theorem sum_in0 (j t : Fin 64) : (∑ x, (0 - Ideal.exp (I.v206 (ix4 0 0 j x))) * Named.named (F := Ideal) Cert.KernelIdeal.κ "log2e" (φ := .f32) 0x3FB8AA3B#32 * I.v87 (ix2 x ⟨t.val, by omega⟩))
    = (((∑ s ∈ Finset.range (t + 1), if Delta.count D.g s = Delta.count D.g t then D.ℓ s j else 0) * (Real.log 2)⁻¹ : ℝ) : EReal) := by
  rw [sum_128, zero_dot H j (fun s => H.in10 s t), add_zero, decay_sum D _ j (fun s => w10 H j ⟨s.val, by omega⟩) (fun s => H.in00 s t),
    Delta.sum_upto]

/-- The exponent of the decay, up to and including the token, over log 2, at a token of the second chunk. -/
theorem sum_in1 (j t : Fin 64) : (∑ x, (0 - Ideal.exp (I.v206 (ix4 0 0 j x))) * Named.named (F := Ideal) Cert.KernelIdeal.κ "log2e" (φ := .f32) 0x3FB8AA3B#32 * I.v87 (ix2 x ⟨64 + t.val, by omega⟩))
    = (((∑ s ∈ Finset.range (t + 1), if Delta.count (D.drop 64).g s = Delta.count (D.drop 64).g t then (D.drop 64).ℓ s j else 0) * (Real.log 2)⁻¹ : ℝ) : EReal) := by
  rw [sum_128, zero_dot H j (fun s => H.in01 s t), zero_add, decay_sum (D.drop 64) _ j (fun s => w10 H j ⟨64 + s.val, by omega⟩) (fun s => H.in11 s t),
    Delta.sum_upto]

/-- The exponent of the decay before the token, over log 2, at a token of the first chunk. -/
theorem sum_ex0 (j t : Fin 64) : (∑ x, (0 - Ideal.exp (I.v206 (ix4 0 0 j x))) * Named.named (F := Ideal) Cert.KernelIdeal.κ "log2e" (φ := .f32) 0x3FB8AA3B#32 * I.v92 (ix2 x ⟨t.val, by omega⟩))
    = (((∑ s ∈ Finset.range t, if Delta.count D.g s = Delta.count D.g t then D.ℓ s j else 0) * (Real.log 2)⁻¹ : ℝ) : EReal) := by
  rw [sum_128, zero_dot H j (fun s => H.ex10 s t), add_zero, decay_sum D _ j (fun s => w10 H j ⟨s.val, by omega⟩) (fun s => H.ex00 s t),
    Delta.sum_before]

/-- The exponent of the decay before the token, over log 2, at a token of the second chunk. -/
theorem sum_ex1 (j t : Fin 64) : (∑ x, (0 - Ideal.exp (I.v206 (ix4 0 0 j x))) * Named.named (F := Ideal) Cert.KernelIdeal.κ "log2e" (φ := .f32) 0x3FB8AA3B#32 * I.v92 (ix2 x ⟨64 + t.val, by omega⟩))
    = (((∑ s ∈ Finset.range t, if Delta.count (D.drop 64).g s = Delta.count (D.drop 64).g t then (D.drop 64).ℓ s j else 0) * (Real.log 2)⁻¹ : ℝ) : EReal) := by
  rw [sum_128, zero_dot H j (fun s => H.ex01 s t), zero_add, decay_sum (D.drop 64) _ j (fun s => w10 H j ⟨64 + s.val, by omega⟩) (fun s => H.ex11 s t),
    Delta.sum_before]

/-- Two to the power of minus an exponent over log 2 is the reciprocal of its exponential. -/
theorem exp2_neg (S : ℝ) : FloatOps.exp2 (F := Ideal) (φ := .f32) (0 - ((S * (Real.log 2)⁻¹ : ℝ) : EReal)) = (((Real.exp S)⁻¹ : ℝ) : EReal) := by
  rw [zero_sub, ← EReal.coe_neg, ← neg_mul, exp2_val, Real.exp_neg]

/-! ### The token blocks -/

/-- The decay since the segment began, at a token of the first chunk. -/
theorem in0 (j t : Fin 64) : I.v216 (ix2 j ⟨t.val, by omega⟩) = ((Delta.decayIn D.g D.ℓ t j : ℝ) : EReal) := by
  pointwise [In.v216, k0_pay12, k0_pay11, k0_pay10]
  rw [sum_in0 H, exp2_val]; rfl
/-- The decay since the segment began, at a token of the second chunk. -/
theorem in1 (j t : Fin 64) : I.v216 (ix2 j ⟨64 + t.val, by omega⟩) = ((Delta.decayIn (D.drop 64).g (D.drop 64).ℓ t j : ℝ) : EReal) := by
  pointwise [In.v216, k0_pay12, k0_pay11, k0_pay10]
  rw [sum_in1 H, exp2_val]; rfl
/-- The reciprocal of that decay, at a token of the first chunk. -/
theorem neg0 (j t : Fin 64) : I.v219 (ix2 j ⟨t.val, by omega⟩) = (((Delta.decayIn D.g D.ℓ t j)⁻¹ : ℝ) : EReal) := by
  pointwise [In.v219, k0_pay13, k0_pay11, k0_pay10]
  rw [sum_in0 H, exp2_neg H]; rfl
/-- The reciprocal of that decay, at a token of the second chunk. -/
theorem neg1 (j t : Fin 64) : I.v219 (ix2 j ⟨64 + t.val, by omega⟩) = (((Delta.decayIn (D.drop 64).g (D.drop 64).ℓ t j)⁻¹ : ℝ) : EReal) := by
  pointwise [In.v219, k0_pay13, k0_pay11, k0_pay10]
  rw [sum_in1 H, exp2_neg H]; rfl
/-- The removal key times the decay before the token, at a token of the first chunk. -/
theorem am0 (j t : Fin 64) : I.v221 (ix2 j ⟨t.val, by omega⟩) = ((D.κ t j * Delta.decayEx D.g D.ℓ t j : ℝ) : EReal) := by
  pointwise [In.v221, k0_pay14, k0_pay9, k0_pay10]
  rw [sum_ex0 H, exp2_val, H.κ, ← EReal.coe_mul]; rfl
/-- The removal key times the decay before the token, at a token of the second chunk. -/
theorem am1 (j t : Fin 64) : I.v221 (ix2 j ⟨64 + t.val, by omega⟩) = (((D.drop 64).κ t j * Delta.decayEx (D.drop 64).g (D.drop 64).ℓ t j : ℝ) : EReal) := by
  pointwise [In.v221, k0_pay14, k0_pay9, k0_pay10]
  rw [sum_ex1 H, exp2_val, H.κ, ← EReal.coe_mul]; rfl
/-- The receptance times the decay, at a token of the first chunk. -/
theorem rm0 (j t : Fin 64) : I.v232 (ix2 j ⟨t.val, by omega⟩) = ((D.r t j * Delta.decayIn D.g D.ℓ t j : ℝ) : EReal) := by
  pointwise [In.v232, k0_pay15, k0_pay12, k0_pay11, k0_pay10]
  rw [sum_in0 H, exp2_val, H.r, ← EReal.coe_mul]; rfl
/-- The receptance times the decay, at a token of the second chunk. -/
theorem rm1 (j t : Fin 64) : I.v232 (ix2 j ⟨64 + t.val, by omega⟩) = (((D.drop 64).r t j * Delta.decayIn (D.drop 64).g (D.drop 64).ℓ t j : ℝ) : EReal) := by
  pointwise [In.v232, k0_pay15, k0_pay12, k0_pay11, k0_pay10]
  rw [sum_in1 H, exp2_val, H.r, ← EReal.coe_mul]; rfl
/-- The key of what is removed, over the decay, at a token of the first chunk. -/
theorem bm0 (j t : Fin 64) : I.v239 (ix2 j ⟨t.val, by omega⟩) = ((D.β t j * (Delta.decayIn D.g D.ℓ t j)⁻¹ : ℝ) : EReal) := by
  pointwise [In.v239, k0_pay16, k0_pay13, k0_pay11, k0_pay10, k0_pay9]
  rw [sum_in0 H, exp2_neg H, H.β, ← EReal.coe_mul]; rfl
/-- The key of what is removed, over the decay, at a token of the second chunk. -/
theorem bm1 (j t : Fin 64) : I.v239 (ix2 j ⟨64 + t.val, by omega⟩) = (((D.drop 64).β t j * (Delta.decayIn (D.drop 64).g (D.drop 64).ℓ t j)⁻¹ : ℝ) : EReal) := by
  pointwise [In.v239, k0_pay16, k0_pay13, k0_pay11, k0_pay10, k0_pay9]
  rw [sum_in1 H, exp2_neg H, H.β, ← EReal.coe_mul]; rfl
/-- The key over the decay, at a token of the second chunk. -/
theorem km1 (j t : Fin 64) : I.v250 (ix2 j ⟨64 + t.val, by omega⟩) = (((D.drop 64).k t j * (Delta.decayIn (D.drop 64).g (D.drop 64).ℓ t j)⁻¹ : ℝ) : EReal) := by
  pointwise [In.v250, k0_pay17]
  rw [neg1 H, H.k, ← EReal.coe_mul]; rfl

/-! ### Chunk 0 -/

/-- The initial state. -/
theorem f263 (i j : Fin 64) : I.v263 (ix2 i j) = (D.x0 i j : EReal) := by
  pointwise [In.v263, k0_pay19]; exact H.x0 i j
/-- The state the trip enters with. -/
theorem f266 (i j : Fin 64) : I.v266 (ix2 i j) = (D.x i j : EReal) := by
  pointwise [In.v266, k0_pay20]; exact H.x i j
/-- The transposed decay, at a token of the first chunk. -/
theorem f267 (t j : Fin 64) : I.v267 (ix2 ⟨t.val, by omega⟩ j) = ((Delta.decayIn D.g D.ℓ t j : ℝ) : EReal) := by
  pointwise [In.v267, k0_pay21]; exact in0 H j t
/-- The transposed decay, at a token of the second chunk. -/
theorem f267' (t j : Fin 64) : I.v267 (ix2 ⟨64 + t.val, by omega⟩ j) = ((Delta.decayIn (D.drop 64).g (D.drop 64).ℓ t j : ℝ) : EReal) := by
  pointwise [In.v267, k0_pay21]; exact in1 H j t
/-- First chunk: the removal keys times the decays before the tokens. -/
theorem f268 (j t : Fin 64) : I.v268 (ix2 j t) = ((D.κ t j * Delta.decayEx D.g D.ℓ t j : ℝ) : EReal) := by
  pointwise [In.v268, k0_pay22]; exact am0 H j t
/-- First chunk: the receptances times the decays. -/
theorem f269 (j t : Fin 64) : I.v269 (ix2 j t) = ((D.r t j * Delta.decayIn D.g D.ℓ t j : ℝ) : EReal) := by
  pointwise [In.v269, k0_pay23]; exact rm0 H j t
/-- First chunk: the keys of what is removed, over the decays. -/
theorem f270 (j t : Fin 64) : I.v270 (ix2 j t) = ((D.β t j * (Delta.decayIn D.g D.ℓ t j)⁻¹ : ℝ) : EReal) := by
  pointwise [In.v270, k0_pay24]; exact bm0 H j t
/-- First chunk: the keys over the decays. -/
theorem f271 (j t : Fin 64) : I.v271 (ix2 j t) = ((D.k t j * (Delta.decayIn D.g D.ℓ t j)⁻¹ : ℝ) : EReal) := by
  pointwise [In.v271, k0_pay25, k0_pay17]
  rw [neg0 H, H.k, ← EReal.coe_mul]
/-- First chunk: the values. -/
theorem f272 (i t : Fin 64) : I.v272 (ix2 i t) = (D.v i t : EReal) := by
  pointwise [In.v272, k0_pay26, k0_pay18]; exact H.v i _
/-- First chunk: the masked product of what is removed with the removal keys. -/
theorem f279 : Rd I.v279 (Delta.mba D.g D.ℓ D.κ D.β) := by
  intro s t
  pointwise [In.v279, k0_pay29, k0_pay28, k0_pay24, k0_pay22]
  exact masked_dot _ (H.ex00 s t) (fun x => bm0 H x s) (fun x => am0 H x t)
/-- First chunk: the masked product of the keys with the removal keys. -/
theorem f284 : Rd I.v284 (Delta.mka D.g D.ℓ D.κ D.k) := by
  intro s t
  pointwise [In.v284, k0_pay31, zero, In.v281, k0_pay30, k0_pay28]
  exact masked_dot _ (H.ex00 s t) (fun x => f271 H x s) (fun x => f268 H x t)
/-- First chunk: the masked product of what is removed with the receptances. -/
theorem f289 : Rd I.v289 (Delta.mbr D.g D.ℓ D.β D.r) := by
  intro s t
  pointwise [In.v289, k0_pay32, In.v273, k0_pay27]
  exact masked_dot _ (H.in00 s t) (fun x => f270 H x s) (fun x => f269 H x t)
/-- First chunk: the masked product of the keys with the receptances. -/
theorem f294 : Rd I.v294 (Delta.mkr D.g D.ℓ D.k D.r) := by
  intro s t
  pointwise [In.v294, k0_pay33, In.v273, k0_pay27]
  exact masked_dot _ (H.in00 s t) (fun x => f271 H x s) (fun x => f269 H x t)
/-- First chunk: after six levels of doubling, the inverse of the unit triangular matrix. -/
theorem f918 : Rd I.v918 (Doubling.inverse (Delta.mba D.g D.ℓ D.κ D.β)) := by
  have l1 : Rd I.v398 _ := lvl_rd H.rows H.cols 1 (by decide) (f279 H) H.eye
  have l2 : Rd I.v502 _ := lvl_rd H.rows H.cols 2 (by decide) (f279 H) l1
  have l3 : Rd I.v606 _ := lvl_rd H.rows H.cols 4 (by decide) (f279 H) l2
  have l4 : Rd I.v710 _ := lvl_rd H.rows H.cols 8 (by decide) (f279 H) l3
  have l5 : Rd I.v814 _ := lvl_rd H.rows H.cols 16 (by decide) (f279 H) l4
  exact lvl_rd H.rows H.cols 32 (by decide) (f279 H) l5
/-- First chunk: the base rows read at the removal keys. -/
theorem f925 (i t : Fin 64) : I.v925 (ix2 i t) = ((Delta.sa D.g D.ℓ D.κ (D.x0 i) (D.x i) t : ℝ) : EReal) := by
  pointwise [In.v925, k0_pay90, k0_pay89, k0_pay87]
  exact sa_core D i t (H.cnt0 _ t) (f266 H i) (f263 H i) (fun x => f268 H x t)
/-- First chunk: what each token removes. -/
theorem p0 (i t : Fin 64) : (∑ s, (I.v925 (ix2 i s) + ∑ u, I.v272 (ix2 i u) * I.v284 (ix2 u s)) * I.v918 (ix2 s t)) = ((D.rem i t : ℝ) : EReal) :=
  p_core D i t (A := fun s => I.v925 (ix2 i s)) (V := fun u => I.v272 (ix2 i u)) (K := fun u s => I.v284 (ix2 u s)) (T := fun s t => I.v918 (ix2 s t)) (f925 H i) (f272 H i) (f284 H) (fun s => f918 H s t)
/-- First chunk: the tokens' results. -/
theorem f936 (i t : Fin 64) : I.v936 (ix2 i t) = (D.out i t : EReal) := by
  pointwise [In.v936, k0_pay92, k0_pay91, In.v922, k0_pay89, k0_pay87]
  refine y_core D i t ?_ (f272 H i) (p0 H i) (fun u => f294 H u t) (fun u => f289 H u t)
  exact sr_core D i t (H.cnt0 _ t) (f266 H i) (f263 H i) (fun x => f269 H x t)
/-- The state after the first chunk. -/
theorem f954 (i j : Fin 64) : I.v954 (ix2 i j) = ((D.drop 64).x i j : EReal) := by
  pointwise [In.v954, k0_pay93, k0_pay91, In.v919, In.v920, k0_pay87, k0_pay88]
  exact s_core D i j rfl (H.cnt0 ⟨i.val, by omega⟩ 63) (H.cnt0 ⟨i.val, by omega⟩) (f266 H i j) (f263 H i j) (f272 H i) (p0 H i) (fun u => f271 H j u) (fun u => f270 H j u)
    (f267 H 63 j)

/-! ### Chunk 1 -/

/-- Second chunk: the removal keys times the decays before the tokens. -/
theorem f955 (j t : Fin 64) : I.v955 (ix2 j t) = (((D.drop 64).κ t j * Delta.decayEx (D.drop 64).g (D.drop 64).ℓ t j : ℝ) : EReal) := by
  pointwise [In.v955, k0_pay94]; exact am1 H j t
/-- Second chunk: the receptances times the decays. -/
theorem f956 (j t : Fin 64) : I.v956 (ix2 j t) = (((D.drop 64).r t j * Delta.decayIn (D.drop 64).g (D.drop 64).ℓ t j : ℝ) : EReal) := by
  pointwise [In.v956, k0_pay95]; exact rm1 H j t
/-- Second chunk: the keys of what is removed, over the decays. -/
theorem f957 (j t : Fin 64) : I.v957 (ix2 j t) = (((D.drop 64).β t j * (Delta.decayIn (D.drop 64).g (D.drop 64).ℓ t j)⁻¹ : ℝ) : EReal) := by
  pointwise [In.v957, k0_pay96]; exact bm1 H j t
/-- Second chunk: the keys over the decays. -/
theorem f958 (j t : Fin 64) : I.v958 (ix2 j t) = (((D.drop 64).k t j * (Delta.decayIn (D.drop 64).g (D.drop 64).ℓ t j)⁻¹ : ℝ) : EReal) := by
  pointwise [In.v958, k0_pay97]; exact km1 H j t
/-- Second chunk: the values. -/
theorem f959 (i t : Fin 64) : I.v959 (ix2 i t) = ((D.drop 64).v i t : EReal) := by
  pointwise [In.v959, k0_pay98, In.v260, k0_pay18]; exact H.v i _
/-- Second chunk: the masked product of what is removed with the removal keys. -/
theorem f966 : Rd I.v966 (Delta.mba (D.drop 64).g (D.drop 64).ℓ (D.drop 64).κ (D.drop 64).β) := by
  intro s t
  pointwise [In.v966, k0_pay101, k0_pay100, k0_pay96, k0_pay94]
  exact masked_dot _ (H.ex11 s t) (fun x => bm1 H x s) (fun x => am1 H x t)
/-- Second chunk: the masked product of the keys with the removal keys. -/
theorem f971 : Rd I.v971 (Delta.mka (D.drop 64).g (D.drop 64).ℓ (D.drop 64).κ (D.drop 64).k) := by
  intro s t
  pointwise [In.v971, k0_pay104, In.v968, In.v969, k0_pay102, k0_pay103, k0_pay100, k0_pay97, k0_pay94]
  exact masked_dot _ (H.ex11 s t) (fun x => km1 H x s) (fun x => am1 H x t)
/-- Second chunk: the masked product of what is removed with the receptances. -/
theorem f976 : Rd I.v976 (Delta.mbr (D.drop 64).g (D.drop 64).ℓ (D.drop 64).β (D.drop 64).r) := by
  intro s t
  pointwise [In.v976, k0_pay105, In.v960, k0_pay99]
  exact masked_dot _ (H.in11 s t) (fun x => f957 H x s) (fun x => f956 H x t)
/-- Second chunk: the masked product of the keys with the receptances. -/
theorem f981 : Rd I.v981 (Delta.mkr (D.drop 64).g (D.drop 64).ℓ (D.drop 64).k (D.drop 64).r) := by
  intro s t
  pointwise [In.v981, k0_pay106, In.v960, k0_pay99]
  exact masked_dot _ (H.in11 s t) (fun x => f958 H x s) (fun x => f956 H x t)
/-- Second chunk: after six levels of doubling, the inverse of the unit triangular matrix. -/
theorem f1605 : Rd I.v1605 (Doubling.inverse (Delta.mba (D.drop 64).g (D.drop 64).ℓ (D.drop 64).κ (D.drop 64).β)) := by
  have l1 : Rd I.v1085 _ := lvl_rd H.rows H.cols 1 (by decide) (f966 H) H.eye
  have l2 : Rd I.v1189 _ := lvl_rd H.rows H.cols 2 (by decide) (f966 H) l1
  have l3 : Rd I.v1293 _ := lvl_rd H.rows H.cols 4 (by decide) (f966 H) l2
  have l4 : Rd I.v1397 _ := lvl_rd H.rows H.cols 8 (by decide) (f966 H) l3
  have l5 : Rd I.v1501 _ := lvl_rd H.rows H.cols 16 (by decide) (f966 H) l4
  exact lvl_rd H.rows H.cols 32 (by decide) (f966 H) l5
/-- Second chunk: the base rows read at the removal keys. -/
theorem f1612 (i t : Fin 64) : I.v1612 (ix2 i t) = ((Delta.sa (D.drop 64).g (D.drop 64).ℓ (D.drop 64).κ ((D.drop 64).x0 i) ((D.drop 64).x i) t : ℝ) : EReal) := by
  pointwise [In.v1612, k0_pay163, k0_pay162, k0_pay160]
  exact sa_core (D.drop 64) i t (H.cnt1 _ t) (f954 H i) (f263 H i) (fun x => f955 H x t)
/-- Second chunk: what each token removes, as a product. -/
theorem p1 (i t : Fin 64) : (∑ s, (I.v1612 (ix2 i s) + ∑ u, I.v959 (ix2 i u) * I.v971 (ix2 u s)) * I.v1605 (ix2 s t)) = (((D.drop 64).rem i t : ℝ) : EReal) :=
  p_core (D.drop 64) i t (A := fun s => I.v1612 (ix2 i s)) (V := fun u => I.v959 (ix2 i u)) (K := fun u s => I.v971 (ix2 u s)) (T := fun s t => I.v1605 (ix2 s t)) (f1612 H i) (f959 H i) (f971 H) (fun s => f1605 H s t)
/-- Second chunk: what each token removes, as the kernel's block holds it. -/
theorem f1618 (i t : Fin 64) : I.v1618 (ix2 i t) = (((D.drop 64).rem i t : ℝ) : EReal) := by
  pointwise [In.v1618, k0_pay164]
  exact p1 H i t

/-- The block of results the trip stores: the results of 128 tokens. -/
theorem y_eq (i : Fin 64) (q : Fin 128) : I.y (ix4 0 0 i q) = (D.out i q : EReal) := by
  pointwise [In.y, k0_pay165, k0_pay164, In.v1609, k0_pay162, k0_pay160, zero]
  by_cases h : q.val < 64
  · rw [dif_pos h]; exact f936 H i ⟨q.val, h⟩
  · rw [dif_neg h]
    have e : D.out i q = (D.drop 64).out i (⟨q.val - 64, by omega⟩ : Fin 64) := by
      rw [Data.drop_out]; congr 1; show q.val = 64 + (q.val - 64); omega
    rw [e]
    refine y_core (D.drop 64) i ⟨q.val - 64, by omega⟩ ?_ (f959 H i) (p1 H i) (fun u => f981 H u _) (fun u => f976 H u _)
    exact sr_core (D.drop 64) i _ (H.cnt1 _ ⟨q.val - 64, by omega⟩) (f954 H i) (f263 H i) (fun x => f956 H x _)

/-- The state the trip stores: the state after 128 tokens. -/
theorem s_eq (i j : Fin 64) : I.s (ix3 0 i j) = (D.state 128 i j : EReal) := by
  have h := s_core (D.drop 64) i j (z := (0 : EReal)) rfl (H.cnt1 ⟨i.val, by omega⟩ 63) (H.cnt1 ⟨i.val, by omega⟩) (f954 H i j) (f263 H i j) (f959 H i) (f1618 H i)
    (fun u => f958 H j u) (fun u => f957 H j u) (f267' H 63 j)
  rw [Data.drop_state] at h
  refine Eq.trans ?_ h
  pointwise [In.s, k0_pay7, In.v1632, k0_pay167, In.v1631, In.v1606, In.v1607, k0_pay166, k0_pay160, k0_pay161]

end

end Cert.Proof.Head

end
-- ==== Proof.TripPieces.lean ====
/-
  The values of one trip of the head loop, as the generated trip computes them, restated one at a time as the named values
  of `In` on the blocks the trip reads; and from them what the trip stores.
-/
module
public import proofs.«01_k».proof.Proof.Head
public import proofs.«01_k».proof.Proof.Gen.KernelIdeal.Loops
@[expose] public section
set_option maxRecDepth 16384
noncomputable section
namespace Cert.Proof.KI
open Cert.KernelIdeal Cert.KernelIdeal.Gen Cert.Proof.Head
open Idealize.ShloMosaic Idealize.ShloMosaic.TcCoe
/-- The blocks a trip of the head loop reads. -/
def tripIn (arg3 : Memref sig .tc .vmem S1x8x64x512 .fp8e4m3) (arg4 : Memref sig .tc .vmem S1x8x64x512 .fp8e4m3) (arg5 : Memref sig .tc .vmem S1x8x64x512 .fp8e4m3) (arg9 : Memref sig .tc .vmem S1x8x64x512 .bf16) (arg10 : Memref sig .tc .vmem S1x8x64x512 .bf16) (arg11 : Memref sig .tc .vmem S1x8x64x512 .bf16) (arg12 : Memref sig .tc .vmem S1x8x64x64 .f32) (arg16 : Memref sig .tc .vmem S8x64x64 .f32) (arg17 : Memref sig .tc .vmem S3x8x1x128 .f32) (v59 : IVec S64x64 32) (v60 : IVec S64x64 32) (k0_t1 : Fin k0_t1_loop.trips) (v79 : FVec Ideal S128x128 .f32) (v87 : FVec Ideal S128x128 .f32) (v92 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg17 : BufTy.Contents (Elt Ideal) arg17.view.ty) (k : Fin k0_t2_loop.trips) (f_arg16 : BufTy.Contents (Elt Ideal) arg16.view.ty) : In :=
  ⟨v59,
    v60,
    k0_pay3,
    v79,
    v87,
    v92,
    (arg10.view.readAt (Elt Ideal) (Rect.unit (s := S1x8x64x512) (k0_off3 k0_t1 k) S1x1x64x128.size (k0_off3_inb k0_t1 k)).toLoadRect X_arg10),
    (arg9.view.readAt (Elt Ideal) (Rect.unit (s := S1x8x64x512) (k0_off3 k0_t1 k) S1x1x64x128.size (k0_off3_inb k0_t1 k)).toLoadRect X_arg9),
    (arg3.view.readAt (Elt Ideal) (Rect.unit (s := S1x8x64x512) (k0_off3 k0_t1 k) S1x1x64x128.size (k0_off3_inb k0_t1 k)).toLoadRect X_arg3),
    (arg17.view.readAt (Elt Ideal) (Rect.unit (s := S3x8x1x128) (k0_off4 k) S1x1x1x128.size (k0_off4_inb k)).toLoadRect X_arg17),
    (arg11.view.readAt (Elt Ideal) (Rect.unit (s := S1x8x64x512) (k0_off3 k0_t1 k) S1x1x64x128.size (k0_off3_inb k0_t1 k)).toLoadRect X_arg11),
    (arg4.view.readAt (Elt Ideal) (Rect.unit (s := S1x8x64x512) (k0_off3 k0_t1 k) S1x1x64x128.size (k0_off3_inb k0_t1 k)).toLoadRect X_arg4),
    (arg17.view.readAt (Elt Ideal) (Rect.unit (s := S3x8x1x128) (k0_off5 k) S1x1x1x128.size (k0_off5_inb k)).toLoadRect X_arg17),
    (arg5.view.readAt (Elt Ideal) (Rect.unit (s := S1x8x64x512) (k0_off3 k0_t1 k) S1x1x64x128.size (k0_off3_inb k0_t1 k)).toLoadRect X_arg5),
    (arg17.view.readAt (Elt Ideal) (Rect.unit (s := S3x8x1x128) (k0_off6 k) S1x1x1x128.size (k0_off6_inb k)).toLoadRect X_arg17),
    (arg12.view.readAt (Elt Ideal) (Rect.unit (s := S1x8x64x64) (k0_off7 k) S1x1x64x64.size (k0_off7_inb k)).toLoadRect X_arg12),
    (arg16.view.readAt (Elt Ideal) (Rect.unit (s := S8x64x64) (k0_off8 k) S1x64x64.size (k0_off8_inb k)).toLoadRect f_arg16)⟩

section
variable (arg3 : Memref sig .tc .vmem S1x8x64x512 .fp8e4m3) (arg4 : Memref sig .tc .vmem S1x8x64x512 .fp8e4m3) (arg5 : Memref sig .tc .vmem S1x8x64x512 .fp8e4m3) (arg9 : Memref sig .tc .vmem S1x8x64x512 .bf16) (arg10 : Memref sig .tc .vmem S1x8x64x512 .bf16) (arg11 : Memref sig .tc .vmem S1x8x64x512 .bf16) (arg12 : Memref sig .tc .vmem S1x8x64x64 .f32) (arg16 : Memref sig .tc .vmem S8x64x64 .f32) (arg17 : Memref sig .tc .vmem S3x8x1x128 .f32) (v59 : IVec S64x64 32) (v60 : IVec S64x64 32) (k0_t1 : Fin k0_t1_loop.trips) (v79 : FVec Ideal S128x128 .f32) (v87 : FVec Ideal S128x128 .f32) (v92 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg17 : BufTy.Contents (Elt Ideal) arg17.view.ty) (k : Fin k0_t2_loop.trips) (f_arg16 : BufTy.Contents (Elt Ideal) arg16.view.ty)

/-- The trip's value of this name is that of `In.v250` on the blocks the trip reads. -/
theorem e_v250 : (trip_k0_t2.sl.v250 (F := Ideal) arg4 arg9 arg17 k0_t1 v87 X_arg4 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v250 :=
  (show (trip_k0_t2.sl.v250 (F := Ideal) arg4 arg9 arg17 k0_t1 v87 X_arg4 X_arg9 X_arg17 k) = k0_pay17 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v219 (tripIn arg3 arg4 arg5 arg9 arg10 arg11 arg12 arg16 arg17 v59 v60 k0_t1 v79 v87 v92 X_arg3 X_arg4 X_arg5 X_arg9 X_arg10 X_arg11 X_arg12 X_arg17 k f_arg16).v242 (tripIn arg3 arg4 arg5 arg9 arg10 arg11 arg12 arg16 arg17 v59 v60 k0_t1 v79 v87 v92 X_arg3 X_arg4 X_arg5 X_arg9 X_arg10 X_arg11 X_arg12 X_arg17 k f_arg16).v246 from rfl).trans (rfl)

/-- The trip's value of this name is that of `In.v260` on the blocks the trip reads. -/
theorem e_v260 : (trip_k0_t2.sl.v260 (F := Ideal) arg5 arg17 k0_t1 X_arg5 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v260 :=
  (show (trip_k0_t2.sl.v260 (F := Ideal) arg5 arg17 k0_t1 X_arg5 X_arg17 k) = k0_pay18 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v253 (tripIn arg3 arg4 arg5 arg9 arg10 arg11 arg12 arg16 arg17 v59 v60 k0_t1 v79 v87 v92 X_arg3 X_arg4 X_arg5 X_arg9 X_arg10 X_arg11 X_arg12 X_arg17 k f_arg16).v257 from rfl).trans (rfl)

/-- The trip's value of this name is that of `In.v263` on the blocks the trip reads. -/
theorem e_v263 : (trip_k0_t2.sl.v263 (F := Ideal) arg12 X_arg12 k) = (tripIn arg3 arg4 arg5 arg9 arg10 arg11 arg12 arg16 arg17 v59 v60 k0_t1 v79 v87 v92 X_arg3 X_arg4 X_arg5 X_arg9 X_arg10 X_arg11 X_arg12 X_arg17 k f_arg16).v263 :=
  (show (trip_k0_t2.sl.v263 (F := Ideal) arg12 X_arg12 k) = k0_pay19 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v262 from rfl).trans (rfl)

/-- The trip's value of this name is that of `In.v266` on the blocks the trip reads. -/
theorem e_v266 : (trip_k0_t2.sl.v266 (F := Ideal) arg16 k f_arg16) = (tripIn arg3 arg4 arg5 arg9 arg10 arg11 arg12 arg16 arg17 v59 v60 k0_t1 v79 v87 v92 X_arg3 X_arg4 X_arg5 X_arg9 X_arg10 X_arg11 X_arg12 X_arg17 k f_arg16).v266 :=
  (show (trip_k0_t2.sl.v266 (F := Ideal) arg16 k f_arg16) = k0_pay20 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v265 from rfl).trans (rfl)

/-- The trip's value of this name is that of `In.v267` on the blocks the trip reads. -/
theorem e_v267 : (trip_k0_t2.sl.v267 (F := Ideal) arg9 k0_t1 v87 X_arg9 k) = (tripIn arg3 arg4 arg5 arg9 arg10 arg11 arg12 arg16 arg17 v59 v60 k0_t1 v79 v87 v92 X_arg3 X_arg4 X_arg5 X_arg9 X_arg10 X_arg11 X_arg12 X_arg17 k f_arg16).v267 :=
  (show (trip_k0_t2.sl.v267 (F := Ideal) arg9 k0_t1 v87 X_arg9 k) = k0_pay21 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v216 from rfl).trans (rfl)

/-- The trip's value of this name is that of `In.v268` on the blocks the trip reads. -/
theorem e_v268 : (trip_k0_t2.sl.v268 (F := Ideal) arg9 arg10 k0_t1 v92 X_arg9 X_arg10 k) = (tripIn arg3 arg4 arg5 arg9 arg10 arg11 arg12 arg16 arg17 v59 v60 k0_t1 v79 v87 v92 X_arg3 X_arg4 X_arg5 X_arg9 X_arg10 X_arg11 X_arg12 X_arg17 k f_arg16).v268 :=
  (show (trip_k0_t2.sl.v268 (F := Ideal) arg9 arg10 k0_t1 v92 X_arg9 X_arg10 k) = k0_pay22 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v221 from rfl).trans (rfl)

/-- The trip's value of this name is that of `In.v269` on the blocks the trip reads. -/
theorem e_v269 : (trip_k0_t2.sl.v269 (F := Ideal) arg3 arg9 arg17 k0_t1 v87 X_arg3 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v269 :=
  (show (trip_k0_t2.sl.v269 (F := Ideal) arg3 arg9 arg17 k0_t1 v87 X_arg3 X_arg9 X_arg17 k) = k0_pay23 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v232 from rfl).trans (rfl)

/-- The trip's value of this name is that of `In.v270` on the blocks the trip reads. -/
theorem e_v270 : (trip_k0_t2.sl.v270 (F := Ideal) arg9 arg10 arg11 k0_t1 v87 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v270 :=
  (show (trip_k0_t2.sl.v270 (F := Ideal) arg9 arg10 arg11 k0_t1 v87 X_arg9 X_arg10 X_arg11 k) = k0_pay24 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v239 from rfl).trans (rfl)

/-- The trip's value of this name is that of `In.v271` on the blocks the trip reads. -/
theorem e_v271 : (trip_k0_t2.sl.v271 (F := Ideal) arg4 arg9 arg17 k0_t1 v87 X_arg4 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v271 :=
  (show (trip_k0_t2.sl.v271 (F := Ideal) arg4 arg9 arg17 k0_t1 v87 X_arg4 X_arg9 X_arg17 k) = k0_pay25 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v219 (tripIn arg3 arg4 arg5 arg9 arg10 arg11 arg12 arg16 arg17 v59 v60 k0_t1 v79 v87 v92 X_arg3 X_arg4 X_arg5 X_arg9 X_arg10 X_arg11 X_arg12 X_arg17 k f_arg16).v242 (tripIn arg3 arg4 arg5 arg9 arg10 arg11 arg12 arg16 arg17 v59 v60 k0_t1 v79 v87 v92 X_arg3 X_arg4 X_arg5 X_arg9 X_arg10 X_arg11 X_arg12 X_arg17 k f_arg16).v246 from rfl).trans (rfl)

/-- The trip's value of this name is that of `In.v272` on the blocks the trip reads. -/
theorem e_v272 : (trip_k0_t2.sl.v272 (F := Ideal) arg5 arg17 k0_t1 X_arg5 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v272 :=
  (show (trip_k0_t2.sl.v272 (F := Ideal) arg5 arg17 k0_t1 X_arg5 X_arg17 k) = k0_pay26 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v253 (tripIn arg3 arg4 arg5 arg9 arg10 arg11 arg12 arg16 arg17 v59 v60 k0_t1 v79 v87 v92 X_arg3 X_arg4 X_arg5 X_arg9 X_arg10 X_arg11 X_arg12 X_arg17 k f_arg16).v257 from rfl).trans (rfl)

/-- The trip's value of this name is that of `In.v273` on the blocks the trip reads. -/
theorem e_v273 : (trip_k0_t2.sl.v273 (F := Ideal) v87) = (tripIn arg3 arg4 arg5 arg9 arg10 arg11 arg12 arg16 arg17 v59 v60 k0_t1 v79 v87 v92 X_arg3 X_arg4 X_arg5 X_arg9 X_arg10 X_arg11 X_arg12 X_arg17 k f_arg16).v273 :=
  (show (trip_k0_t2.sl.v273 (F := Ideal) v87) = k0_pay27 (F := Ideal) v87 from rfl).trans (rfl)

/-- The trip's value of this name is that of `In.v279` on the blocks the trip reads. -/
theorem e_v279 : (trip_k0_t2.sl.v279 (F := Ideal) arg9 arg10 arg11 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v279 :=
  (show (trip_k0_t2.sl.v279 (F := Ideal) arg9 arg10 arg11 k0_t1 v87 v92 X_arg9 X_arg10 X_arg11 k) = k0_pay29 (F := Ideal) v92 (tripIn arg3 arg4 arg5 arg9 arg10 arg11 arg12 arg16 arg17 v59 v60 k0_t1 v79 v87 v92 X_arg3 X_arg4 X_arg5 X_arg9 X_arg10 X_arg11 X_arg12 X_arg17 k f_arg16).v221 (tripIn arg3 arg4 arg5 arg9 arg10 arg11 arg12 arg16 arg17 v59 v60 k0_t1 v79 v87 v92 X_arg3 X_arg4 X_arg5 X_arg9 X_arg10 X_arg11 X_arg12 X_arg17 k f_arg16).v239 from rfl).trans (rfl)

/-- The trip's value of this name is that of `In.v284` on the blocks the trip reads. -/
theorem e_v284 : (trip_k0_t2.sl.v284 (F := Ideal) arg4 arg9 arg10 arg17 k0_t1 v87 v92 X_arg4 X_arg9 X_arg10 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v284 :=
  (show (trip_k0_t2.sl.v284 (F := Ideal) arg4 arg9 arg10 arg17 k0_t1 v87 v92 X_arg4 X_arg9 X_arg10 X_arg17 k) = k0_pay31 (F := Ideal) (trip_k0_t2.sl.v268 (F := Ideal) arg9 arg10 k0_t1 v92 X_arg9 X_arg10 k) (trip_k0_t2.sl.v271 (F := Ideal) arg4 arg9 arg17 k0_t1 v87 X_arg4 X_arg9 X_arg17 k) (tripIn arg3 arg4 arg5 arg9 arg10 arg11 arg12 arg16 arg17 v59 v60 k0_t1 v79 v87 v92 X_arg3 X_arg4 X_arg5 X_arg9 X_arg10 X_arg11 X_arg12 X_arg17 k f_arg16).v281 zero from rfl).trans (by rw [e_v268 arg3 arg4 arg5 arg9 arg10 arg11 arg12 arg16 arg17 v59 v60 k0_t1 v79 v87 v92 X_arg3 X_arg4 X_arg5 X_arg9 X_arg10 X_arg11 X_arg12 X_arg17 k f_arg16, e_v271 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v289` on the blocks the trip reads. -/
theorem e_v289 : (trip_k0_t2.sl.v289 (F := Ideal) arg3 arg9 arg10 arg11 arg17 k0_t1 v87 X_arg3 X_arg9 X_arg10 X_arg11 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v289 :=
  (show (trip_k0_t2.sl.v289 (F := Ideal) arg3 arg9 arg10 arg11 arg17 k0_t1 v87 X_arg3 X_arg9 X_arg10 X_arg11 X_arg17 k) = k0_pay32 (F := Ideal) (trip_k0_t2.sl.v269 (F := Ideal) arg3 arg9 arg17 k0_t1 v87 X_arg3 X_arg9 X_arg17 k) (trip_k0_t2.sl.v270 (F := Ideal) arg9 arg10 arg11 k0_t1 v87 X_arg9 X_arg10 X_arg11 k) (trip_k0_t2.sl.v273 (F := Ideal) v87) from rfl).trans (by rw [e_v269 arg3 arg4 arg5 arg9 arg10 arg11 arg12 arg16 arg17 v59 v60 k0_t1 v79 v87 v92 X_arg3 X_arg4 X_arg5 X_arg9 X_arg10 X_arg11 X_arg12 X_arg17 k f_arg16, e_v270 arg3 arg4 arg5 arg9 arg10 arg11 arg12 arg16 arg17 v59 v60 k0_t1 v79 v87 v92 X_arg3 X_arg4 X_arg5 X_arg9 X_arg10 X_arg11 X_arg12 X_arg17 k f_arg16, e_v273 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v294` on the blocks the trip reads. -/
theorem e_v294 : (trip_k0_t2.sl.v294 (F := Ideal) arg3 arg4 arg9 arg17 k0_t1 v87 X_arg3 X_arg4 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v294 :=
  (show (trip_k0_t2.sl.v294 (F := Ideal) arg3 arg4 arg9 arg17 k0_t1 v87 X_arg3 X_arg4 X_arg9 X_arg17 k) = k0_pay33 (F := Ideal) (trip_k0_t2.sl.v269 (F := Ideal) arg3 arg9 arg17 k0_t1 v87 X_arg3 X_arg9 X_arg17 k) (trip_k0_t2.sl.v271 (F := Ideal) arg4 arg9 arg17 k0_t1 v87 X_arg4 X_arg9 X_arg17 k) (trip_k0_t2.sl.v273 (F := Ideal) v87) from rfl).trans (by rw [e_v269 arg3 arg4 arg5 arg9 arg10 arg11 arg12 arg16 arg17 v59 v60 k0_t1 v79 v87 v92 X_arg3 X_arg4 X_arg5 X_arg9 X_arg10 X_arg11 X_arg12 X_arg17 k f_arg16, e_v271 arg3 arg4 arg5 arg9 arg10 arg11 arg12 arg16 arg17 v59 v60 k0_t1 v79 v87 v92 X_arg3 X_arg4 X_arg5 X_arg9 X_arg10 X_arg11 X_arg12 X_arg17 k f_arg16, e_v273 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v398` on the blocks the trip reads. -/
theorem e_v398 : (trip_k0_t2.sl.v398 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v398 :=
  (show (trip_k0_t2.sl.v398 (F := Ideal) arg9 arg10 arg11 v59 v60 k0_t1 v87 v92 X_arg9 X_arg10 X_arg11 k) = lvl v59 v60 1#32 2#32 (trip_k0_t2.sl.v279 (F := Ideal) arg9 arg10 arg11 k0_t1 v87 v92 X_arg9 X_arg10 X_arg11 k) k0_pay3 from rfl).trans (by rw [e_v279 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v502` on the blocks the trip reads. -/
theorem e_v502 : (trip_k0_t2.sl.v502 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v502 :=
  (show (trip_k0_t2.sl.v502 (F := Ideal) arg9 arg10 arg11 v59 v60 k0_t1 v87 v92 X_arg9 X_arg10 X_arg11 k) = lvl v59 v60 2#32 4#32 (trip_k0_t2.sl.v279 (F := Ideal) arg9 arg10 arg11 k0_t1 v87 v92 X_arg9 X_arg10 X_arg11 k) (trip_k0_t2.sl.v398 (F := Ideal) arg9 arg10 arg11 v59 v60 k0_t1 v87 v92 X_arg9 X_arg10 X_arg11 k) from rfl).trans (by rw [e_v279 arg3 arg4 arg5 arg9 arg10 arg11 arg12 arg16 arg17 v59 v60 k0_t1 v79 v87 v92 X_arg3 X_arg4 X_arg5 X_arg9 X_arg10 X_arg11 X_arg12 X_arg17 k f_arg16, e_v398 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v606` on the blocks the trip reads. -/
theorem e_v606 : (trip_k0_t2.sl.v606 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v606 :=
  (show (trip_k0_t2.sl.v606 (F := Ideal) arg9 arg10 arg11 v59 v60 k0_t1 v87 v92 X_arg9 X_arg10 X_arg11 k) = lvl v59 v60 4#32 8#32 (trip_k0_t2.sl.v279 (F := Ideal) arg9 arg10 arg11 k0_t1 v87 v92 X_arg9 X_arg10 X_arg11 k) (trip_k0_t2.sl.v502 (F := Ideal) arg9 arg10 arg11 v59 v60 k0_t1 v87 v92 X_arg9 X_arg10 X_arg11 k) from rfl).trans (by rw [e_v279 arg3 arg4 arg5 arg9 arg10 arg11 arg12 arg16 arg17 v59 v60 k0_t1 v79 v87 v92 X_arg3 X_arg4 X_arg5 X_arg9 X_arg10 X_arg11 X_arg12 X_arg17 k f_arg16, e_v502 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v710` on the blocks the trip reads. -/
theorem e_v710 : (trip_k0_t2.sl.v710 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v710 :=
  (show (trip_k0_t2.sl.v710 (F := Ideal) arg9 arg10 arg11 v59 v60 k0_t1 v87 v92 X_arg9 X_arg10 X_arg11 k) = lvl v59 v60 8#32 16#32 (trip_k0_t2.sl.v279 (F := Ideal) arg9 arg10 arg11 k0_t1 v87 v92 X_arg9 X_arg10 X_arg11 k) (trip_k0_t2.sl.v606 (F := Ideal) arg9 arg10 arg11 v59 v60 k0_t1 v87 v92 X_arg9 X_arg10 X_arg11 k) from rfl).trans (by rw [e_v279 arg3 arg4 arg5 arg9 arg10 arg11 arg12 arg16 arg17 v59 v60 k0_t1 v79 v87 v92 X_arg3 X_arg4 X_arg5 X_arg9 X_arg10 X_arg11 X_arg12 X_arg17 k f_arg16, e_v606 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v814` on the blocks the trip reads. -/
theorem e_v814 : (trip_k0_t2.sl.v814 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v814 :=
  (show (trip_k0_t2.sl.v814 (F := Ideal) arg9 arg10 arg11 v59 v60 k0_t1 v87 v92 X_arg9 X_arg10 X_arg11 k) = lvl v59 v60 16#32 32#32 (trip_k0_t2.sl.v279 (F := Ideal) arg9 arg10 arg11 k0_t1 v87 v92 X_arg9 X_arg10 X_arg11 k) (trip_k0_t2.sl.v710 (F := Ideal) arg9 arg10 arg11 v59 v60 k0_t1 v87 v92 X_arg9 X_arg10 X_arg11 k) from rfl).trans (by rw [e_v279 arg3 arg4 arg5 arg9 arg10 arg11 arg12 arg16 arg17 v59 v60 k0_t1 v79 v87 v92 X_arg3 X_arg4 X_arg5 X_arg9 X_arg10 X_arg11 X_arg12 X_arg17 k f_arg16, e_v710 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v918` on the blocks the trip reads. -/
theorem e_v918 : (trip_k0_t2.sl.v918 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v918 :=
  (show (trip_k0_t2.sl.v918 (F := Ideal) arg9 arg10 arg11 v59 v60 k0_t1 v87 v92 X_arg9 X_arg10 X_arg11 k) = lvl v59 v60 32#32 64#32 (trip_k0_t2.sl.v279 (F := Ideal) arg9 arg10 arg11 k0_t1 v87 v92 X_arg9 X_arg10 X_arg11 k) (trip_k0_t2.sl.v814 (F := Ideal) arg9 arg10 arg11 v59 v60 k0_t1 v87 v92 X_arg9 X_arg10 X_arg11 k) from rfl).trans (by rw [e_v279 arg3 arg4 arg5 arg9 arg10 arg11 arg12 arg16 arg17 v59 v60 k0_t1 v79 v87 v92 X_arg3 X_arg4 X_arg5 X_arg9 X_arg10 X_arg11 X_arg12 X_arg17 k f_arg16, e_v814 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v919` on the blocks the trip reads. -/
theorem e_v919 : (trip_k0_t2.sl.v919 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v919 :=
  (show (trip_k0_t2.sl.v919 (F := Ideal) v79) = k0_pay87 (F := Ideal) v79 from rfl).trans (rfl)

/-- The trip's value of this name is that of `In.v920` on the blocks the trip reads. -/
theorem e_v920 : (trip_k0_t2.sl.v920 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v920 :=
  (show (trip_k0_t2.sl.v920 (F := Ideal) v79) = k0_pay88 (F := Ideal) v79 from rfl).trans (rfl)

/-- The trip's value of this name is that of `In.v922` on the blocks the trip reads. -/
theorem e_v922 : (trip_k0_t2.sl.v922 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v922 :=
  (show (trip_k0_t2.sl.v922 (F := Ideal) v79) = k0_pay89 (F := Ideal) v79 from rfl).trans (rfl)

/-- The trip's value of this name is that of `In.v925` on the blocks the trip reads. -/
theorem e_v925 : (trip_k0_t2.sl.v925 (F := Ideal) arg9 arg10 arg12 arg16 k0_t1 v79 v92 X_arg9 X_arg10 X_arg12 k f_arg16) = (tripIn arg3 arg4 arg5 arg9 arg10 arg11 arg12 arg16 arg17 v59 v60 k0_t1 v79 v87 v92 X_arg3 X_arg4 X_arg5 X_arg9 X_arg10 X_arg11 X_arg12 X_arg17 k f_arg16).v925 :=
  (show (trip_k0_t2.sl.v925 (F := Ideal) arg9 arg10 arg12 arg16 k0_t1 v79 v92 X_arg9 X_arg10 X_arg12 k f_arg16) = k0_pay90 (F := Ideal) v79 (trip_k0_t2.sl.v263 (F := Ideal) arg12 X_arg12 k) (trip_k0_t2.sl.v266 (F := Ideal) arg16 k f_arg16) (trip_k0_t2.sl.v268 (F := Ideal) arg9 arg10 k0_t1 v92 X_arg9 X_arg10 k) from rfl).trans (by rw [e_v263 arg3 arg4 arg5 arg9 arg10 arg11 arg12 arg16 arg17 v59 v60 k0_t1 v79 v87 v92 X_arg3 X_arg4 X_arg5 X_arg9 X_arg10 X_arg11 X_arg12 X_arg17 k f_arg16, e_v266 arg3 arg4 arg5 arg9 arg10 arg11 arg12 arg16 arg17 v59 v60 k0_t1 v79 v87 v92 X_arg3 X_arg4 X_arg5 X_arg9 X_arg10 X_arg11 X_arg12 X_arg17 k f_arg16, e_v268 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v936` on the blocks the trip reads. -/
theorem e_v936 : (trip_k0_t2.sl.v936 (F := Ideal) arg3 arg4 arg5 arg9 arg10 arg11 arg12 arg16 arg17 v59 v60 k0_t1 v79 v87 v92 X_arg3 X_arg4 X_arg5 X_arg9 X_arg10 X_arg11 X_arg12 X_arg17 k f_arg16) = (tripIn arg3 arg4 arg5 arg9 arg10 arg11 arg12 arg16 arg17 v59 v60 k0_t1 v79 v87 v92 X_arg3 X_arg4 X_arg5 X_arg9 X_arg10 X_arg11 X_arg12 X_arg17 k f_arg16).v936 :=
  (show (trip_k0_t2.sl.v936 (F := Ideal) arg3 arg4 arg5 arg9 arg10 arg11 arg12 arg16 arg17 v59 v60 k0_t1 v79 v87 v92 X_arg3 X_arg4 X_arg5 X_arg9 X_arg10 X_arg11 X_arg12 X_arg17 k f_arg16) = k0_pay92 (F := Ideal) (trip_k0_t2.sl.v263 (F := Ideal) arg12 X_arg12 k) (trip_k0_t2.sl.v266 (F := Ideal) arg16 k f_arg16) (trip_k0_t2.sl.v269 (F := Ideal) arg3 arg9 arg17 k0_t1 v87 X_arg3 X_arg9 X_arg17 k) (trip_k0_t2.sl.v272 (F := Ideal) arg5 arg17 k0_t1 X_arg5 X_arg17 k) (trip_k0_t2.sl.v284 (F := Ideal) arg4 arg9 arg10 arg17 k0_t1 v87 v92 X_arg4 X_arg9 X_arg10 X_arg17 k) (trip_k0_t2.sl.v289 (F := Ideal) arg3 arg9 arg10 arg11 arg17 k0_t1 v87 X_arg3 X_arg9 X_arg10 X_arg11 X_arg17 k) (trip_k0_t2.sl.v294 (F := Ideal) arg3 arg4 arg9 arg17 k0_t1 v87 X_arg3 X_arg4 X_arg9 X_arg17 k) (trip_k0_t2.sl.v918 (F := Ideal) arg9 arg10 arg11 v59 v60 k0_t1 v87 v92 X_arg9 X_arg10 X_arg11 k) (trip_k0_t2.sl.v922 (F := Ideal) v79) (trip_k0_t2.sl.v925 (F := Ideal) arg9 arg10 arg12 arg16 k0_t1 v79 v92 X_arg9 X_arg10 X_arg12 k f_arg16) from rfl).trans (by rw [e_v263 arg3 arg4 arg5 arg9 arg10 arg11 arg12 arg16 arg17 v59 v60 k0_t1 v79 v87 v92 X_arg3 X_arg4 X_arg5 X_arg9 X_arg10 X_arg11 X_arg12 X_arg17 k f_arg16, e_v266 arg3 arg4 arg5 arg9 arg10 arg11 arg12 arg16 arg17 v59 v60 k0_t1 v79 v87 v92 X_arg3 X_arg4 X_arg5 X_arg9 X_arg10 X_arg11 X_arg12 X_arg17 k f_arg16, e_v269 arg3 arg4 arg5 arg9 arg10 arg11 arg12 arg16 arg17 v59 v60 k0_t1 v79 v87 v92 X_arg3 X_arg4 X_arg5 X_arg9 X_arg10 X_arg11 X_arg12 X_arg17 k f_arg16, e_v272 arg3 arg4 arg5 arg9 arg10 arg11 arg12 arg16 arg17 v59 v60 k0_t1 v79 v87 v92 X_arg3 X_arg4 X_arg5 X_arg9 X_arg10 X_arg11 X_arg12 X_arg17 k f_arg16, e_v284 arg3 arg4 arg5 arg9 arg10 arg11 arg12 arg16 arg17 v59 v60 k0_t1 v79 v87 v92 X_arg3 X_arg4 X_arg5 X_arg9 X_arg10 X_arg11 X_arg12 X_arg17 k f_arg16, e_v289 arg3 arg4 arg5 arg9 arg10 arg11 arg12 arg16 arg17 v59 v60 k0_t1 v79 v87 v92 X_arg3 X_arg4 X_arg5 X_arg9 X_arg10 X_arg11 X_arg12 X_arg17 k f_arg16, e_v294 arg3 arg4 arg5 arg9 arg10 arg11 arg12 arg16 arg17 v59 v60 k0_t1 v79 v87 v92 X_arg3 X_arg4 X_arg5 X_arg9 X_arg10 X_arg11 X_arg12 X_arg17 k f_arg16, e_v918 arg3 arg4 arg5 arg9 arg10 arg11 arg12 arg16 arg17 v59 v60 k0_t1 v79 v87 v92 X_arg3 X_arg4 X_arg5 X_arg9 X_arg10 X_arg11 X_arg12 X_arg17 k f_arg16, e_v922 arg3 arg4 arg5 arg9 arg10 arg11 arg12 arg16 arg17 v59 v60 k0_t1 v79 v87 v92 X_arg3 X_arg4 X_arg5 X_arg9 X_arg10 X_arg11 X_arg12 X_arg17 k f_arg16, e_v925 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v954` on the blocks the trip reads. -/
theorem e_v954 : (trip_k0_t2.sl.v954 (F := Ideal) arg4 arg5 arg9 arg10 arg11 arg12 arg16 arg17 v59 v60 k0_t1 v79 v87 v92 X_arg4 X_arg5 X_arg9 X_arg10 X_arg11 X_arg12 X_arg17 k f_arg16) = (tripIn arg3 arg4 arg5 arg9 arg10 arg11 arg12 arg16 arg17 v59 v60 k0_t1 v79 v87 v92 X_arg3 X_arg4 X_arg5 X_arg9 X_arg10 X_arg11 X_arg12 X_arg17 k f_arg16).v954 :=
  (show (trip_k0_t2.sl.v954 (F := Ideal) arg4 arg5 arg9 arg10 arg11 arg12 arg16 arg17 v59 v60 k0_t1 v79 v87 v92 X_arg4 X_arg5 X_arg9 X_arg10 X_arg11 X_arg12 X_arg17 k f_arg16) = k0_pay93 (F := Ideal) (trip_k0_t2.sl.v263 (F := Ideal) arg12 X_arg12 k) (trip_k0_t2.sl.v266 (F := Ideal) arg16 k f_arg16) (trip_k0_t2.sl.v267 (F := Ideal) arg9 k0_t1 v87 X_arg9 k) (trip_k0_t2.sl.v270 (F := Ideal) arg9 arg10 arg11 k0_t1 v87 X_arg9 X_arg10 X_arg11 k) (trip_k0_t2.sl.v271 (F := Ideal) arg4 arg9 arg17 k0_t1 v87 X_arg4 X_arg9 X_arg17 k) (trip_k0_t2.sl.v272 (F := Ideal) arg5 arg17 k0_t1 X_arg5 X_arg17 k) (trip_k0_t2.sl.v284 (F := Ideal) arg4 arg9 arg10 arg17 k0_t1 v87 v92 X_arg4 X_arg9 X_arg10 X_arg17 k) (trip_k0_t2.sl.v918 (F := Ideal) arg9 arg10 arg11 v59 v60 k0_t1 v87 v92 X_arg9 X_arg10 X_arg11 k) (trip_k0_t2.sl.v919 (F := Ideal) v79) (trip_k0_t2.sl.v920 (F := Ideal) v79) (trip_k0_t2.sl.v925 (F := Ideal) arg9 arg10 arg12 arg16 k0_t1 v79 v92 X_arg9 X_arg10 X_arg12 k f_arg16) from rfl).trans (by rw [e_v263 arg3 arg4 arg5 arg9 arg10 arg11 arg12 arg16 arg17 v59 v60 k0_t1 v79 v87 v92 X_arg3 X_arg4 X_arg5 X_arg9 X_arg10 X_arg11 X_arg12 X_arg17 k f_arg16, e_v266 arg3 arg4 arg5 arg9 arg10 arg11 arg12 arg16 arg17 v59 v60 k0_t1 v79 v87 v92 X_arg3 X_arg4 X_arg5 X_arg9 X_arg10 X_arg11 X_arg12 X_arg17 k f_arg16, e_v267 arg3 arg4 arg5 arg9 arg10 arg11 arg12 arg16 arg17 v59 v60 k0_t1 v79 v87 v92 X_arg3 X_arg4 X_arg5 X_arg9 X_arg10 X_arg11 X_arg12 X_arg17 k f_arg16, e_v270 arg3 arg4 arg5 arg9 arg10 arg11 arg12 arg16 arg17 v59 v60 k0_t1 v79 v87 v92 X_arg3 X_arg4 X_arg5 X_arg9 X_arg10 X_arg11 X_arg12 X_arg17 k f_arg16, e_v271 arg3 arg4 arg5 arg9 arg10 arg11 arg12 arg16 arg17 v59 v60 k0_t1 v79 v87 v92 X_arg3 X_arg4 X_arg5 X_arg9 X_arg10 X_arg11 X_arg12 X_arg17 k f_arg16, e_v272 arg3 arg4 arg5 arg9 arg10 arg11 arg12 arg16 arg17 v59 v60 k0_t1 v79 v87 v92 X_arg3 X_arg4 X_arg5 X_arg9 X_arg10 X_arg11 X_arg12 X_arg17 k f_arg16, e_v284 arg3 arg4 arg5 arg9 arg10 arg11 arg12 arg16 arg17 v59 v60 k0_t1 v79 v87 v92 X_arg3 X_arg4 X_arg5 X_arg9 X_arg10 X_arg11 X_arg12 X_arg17 k f_arg16, e_v918 arg3 arg4 arg5 arg9 arg10 arg11 arg12 arg16 arg17 v59 v60 k0_t1 v79 v87 v92 X_arg3 X_arg4 X_arg5 X_arg9 X_arg10 X_arg11 X_arg12 X_arg17 k f_arg16, e_v919 arg3 arg4 arg5 arg9 arg10 arg11 arg12 arg16 arg17 v59 v60 k0_t1 v79 v87 v92 X_arg3 X_arg4 X_arg5 X_arg9 X_arg10 X_arg11 X_arg12 X_arg17 k f_arg16, e_v920 arg3 arg4 arg5 arg9 arg10 arg11 arg12 arg16 arg17 v59 v60 k0_t1 v79 v87 v92 X_arg3 X_arg4 X_arg5 X_arg9 X_arg10 X_arg11 X_arg12 X_arg17 k f_arg16, e_v925 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v955` on the blocks the trip reads. -/
theorem e_v955 : (trip_k0_t2.sl.v955 (F := Ideal) arg9 arg10 k0_t1 v92 X_arg9 X_arg10 k) = (tripIn arg3 arg4 arg5 arg9 arg10 arg11 arg12 arg16 arg17 v59 v60 k0_t1 v79 v87 v92 X_arg3 X_arg4 X_arg5 X_arg9 X_arg10 X_arg11 X_arg12 X_arg17 k f_arg16).v955 :=
  (show (trip_k0_t2.sl.v955 (F := Ideal) arg9 arg10 k0_t1 v92 X_arg9 X_arg10 k) = k0_pay94 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v221 from rfl).trans (rfl)

/-- The trip's value of this name is that of `In.v956` on the blocks the trip reads. -/
theorem e_v956 : (trip_k0_t2.sl.v956 (F := Ideal) arg3 arg9 arg17 k0_t1 v87 X_arg3 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v956 :=
  (show (trip_k0_t2.sl.v956 (F := Ideal) arg3 arg9 arg17 k0_t1 v87 X_arg3 X_arg9 X_arg17 k) = k0_pay95 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v232 from rfl).trans (rfl)

/-- The trip's value of this name is that of `In.v957` on the blocks the trip reads. -/
theorem e_v957 : (trip_k0_t2.sl.v957 (F := Ideal) arg9 arg10 arg11 k0_t1 v87 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v957 :=
  (show (trip_k0_t2.sl.v957 (F := Ideal) arg9 arg10 arg11 k0_t1 v87 X_arg9 X_arg10 X_arg11 k) = k0_pay96 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v239 from rfl).trans (rfl)

/-- The trip's value of this name is that of `In.v958` on the blocks the trip reads. -/
theorem e_v958 : (trip_k0_t2.sl.v958 (F := Ideal) arg4 arg9 arg17 k0_t1 v87 X_arg4 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v958 :=
  (show (trip_k0_t2.sl.v958 (F := Ideal) arg4 arg9 arg17 k0_t1 v87 X_arg4 X_arg9 X_arg17 k) = k0_pay97 (F := Ideal) (trip_k0_t2.sl.v250 (F := Ideal) arg4 arg9 arg17 k0_t1 v87 X_arg4 X_arg9 X_arg17 k) from rfl).trans (by rw [e_v250 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v959` on the blocks the trip reads. -/
theorem e_v959 : (trip_k0_t2.sl.v959 (F := Ideal) arg5 arg17 k0_t1 X_arg5 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v959 :=
  (show (trip_k0_t2.sl.v959 (F := Ideal) arg5 arg17 k0_t1 X_arg5 X_arg17 k) = k0_pay98 (F := Ideal) (trip_k0_t2.sl.v260 (F := Ideal) arg5 arg17 k0_t1 X_arg5 X_arg17 k) from rfl).trans (by rw [e_v260 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v960` on the blocks the trip reads. -/
theorem e_v960 : (trip_k0_t2.sl.v960 (F := Ideal) v87) = (tripIn arg3 arg4 arg5 arg9 arg10 arg11 arg12 arg16 arg17 v59 v60 k0_t1 v79 v87 v92 X_arg3 X_arg4 X_arg5 X_arg9 X_arg10 X_arg11 X_arg12 X_arg17 k f_arg16).v960 :=
  (show (trip_k0_t2.sl.v960 (F := Ideal) v87) = k0_pay99 (F := Ideal) v87 from rfl).trans (rfl)

/-- The trip's value of this name is that of `In.v966` on the blocks the trip reads. -/
theorem e_v966 : (trip_k0_t2.sl.v966 (F := Ideal) arg9 arg10 arg11 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v966 :=
  (show (trip_k0_t2.sl.v966 (F := Ideal) arg9 arg10 arg11 k0_t1 v87 v92 X_arg9 X_arg10 X_arg11 k) = k0_pay101 (F := Ideal) v92 (tripIn arg3 arg4 arg5 arg9 arg10 arg11 arg12 arg16 arg17 v59 v60 k0_t1 v79 v87 v92 X_arg3 X_arg4 X_arg5 X_arg9 X_arg10 X_arg11 X_arg12 X_arg17 k f_arg16).v221 (tripIn arg3 arg4 arg5 arg9 arg10 arg11 arg12 arg16 arg17 v59 v60 k0_t1 v79 v87 v92 X_arg3 X_arg4 X_arg5 X_arg9 X_arg10 X_arg11 X_arg12 X_arg17 k f_arg16).v239 from rfl).trans (rfl)

/-- The trip's value of this name is that of `In.v969` on the blocks the trip reads. -/
theorem e_v969 : (trip_k0_t2.sl.v969 (F := Ideal) arg4 arg9 arg10 arg17 k0_t1 v87 v92 X_arg4 X_arg9 X_arg10 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v969 :=
  (show (trip_k0_t2.sl.v969 (F := Ideal) arg4 arg9 arg10 arg17 k0_t1 v87 v92 X_arg4 X_arg9 X_arg10 X_arg17 k) = k0_pay103 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v221 (trip_k0_t2.sl.v250 (F := Ideal) arg4 arg9 arg17 k0_t1 v87 X_arg4 X_arg9 X_arg17 k) from rfl).trans (by rw [e_v250 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v971` on the blocks the trip reads. -/
theorem e_v971 : (trip_k0_t2.sl.v971 (F := Ideal) arg4 arg9 arg10 arg17 k0_t1 v87 v92 X_arg4 X_arg9 X_arg10 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v971 :=
  (show (trip_k0_t2.sl.v971 (F := Ideal) arg4 arg9 arg10 arg17 k0_t1 v87 v92 X_arg4 X_arg9 X_arg10 X_arg17 k) = k0_pay104 (F := Ideal) (tripIn arg3 arg4 arg5 arg9 arg10 arg11 arg12 arg16 arg17 v59 v60 k0_t1 v79 v87 v92 X_arg3 X_arg4 X_arg5 X_arg9 X_arg10 X_arg11 X_arg12 X_arg17 k f_arg16).v968 (trip_k0_t2.sl.v969 (F := Ideal) arg4 arg9 arg10 arg17 k0_t1 v87 v92 X_arg4 X_arg9 X_arg10 X_arg17 k) from rfl).trans (by rw [e_v969 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v976` on the blocks the trip reads. -/
theorem e_v976 : (trip_k0_t2.sl.v976 (F := Ideal) arg3 arg9 arg10 arg11 arg17 k0_t1 v87 X_arg3 X_arg9 X_arg10 X_arg11 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v976 :=
  (show (trip_k0_t2.sl.v976 (F := Ideal) arg3 arg9 arg10 arg11 arg17 k0_t1 v87 X_arg3 X_arg9 X_arg10 X_arg11 X_arg17 k) = k0_pay105 (F := Ideal) (trip_k0_t2.sl.v956 (F := Ideal) arg3 arg9 arg17 k0_t1 v87 X_arg3 X_arg9 X_arg17 k) (trip_k0_t2.sl.v957 (F := Ideal) arg9 arg10 arg11 k0_t1 v87 X_arg9 X_arg10 X_arg11 k) (trip_k0_t2.sl.v960 (F := Ideal) v87) from rfl).trans (by rw [e_v956 arg3 arg4 arg5 arg9 arg10 arg11 arg12 arg16 arg17 v59 v60 k0_t1 v79 v87 v92 X_arg3 X_arg4 X_arg5 X_arg9 X_arg10 X_arg11 X_arg12 X_arg17 k f_arg16, e_v957 arg3 arg4 arg5 arg9 arg10 arg11 arg12 arg16 arg17 v59 v60 k0_t1 v79 v87 v92 X_arg3 X_arg4 X_arg5 X_arg9 X_arg10 X_arg11 X_arg12 X_arg17 k f_arg16, e_v960 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v981` on the blocks the trip reads. -/
theorem e_v981 : (trip_k0_t2.sl.v981 (F := Ideal) arg3 arg4 arg9 arg17 k0_t1 v87 X_arg3 X_arg4 X_arg9 X_arg17 k) = (tripIn arg3 arg4 arg5 arg9 arg10 arg11 arg12 arg16 arg17 v59 v60 k0_t1 v79 v87 v92 X_arg3 X_arg4 X_arg5 X_arg9 X_arg10 X_arg11 X_arg12 X_arg17 k f_arg16).v981 :=
  (show (trip_k0_t2.sl.v981 (F := Ideal) arg3 arg4 arg9 arg17 k0_t1 v87 X_arg3 X_arg4 X_arg9 X_arg17 k) = k0_pay106 (F := Ideal) (trip_k0_t2.sl.v956 (F := Ideal) arg3 arg9 arg17 k0_t1 v87 X_arg3 X_arg9 X_arg17 k) (trip_k0_t2.sl.v958 (F := Ideal) arg4 arg9 arg17 k0_t1 v87 X_arg4 X_arg9 X_arg17 k) (trip_k0_t2.sl.v960 (F := Ideal) v87) from rfl).trans (by rw [e_v956 arg3 arg4 arg5 arg9 arg10 arg11 arg12 arg16 arg17 v59 v60 k0_t1 v79 v87 v92 X_arg3 X_arg4 X_arg5 X_arg9 X_arg10 X_arg11 X_arg12 X_arg17 k f_arg16, e_v958 arg3 arg4 arg5 arg9 arg10 arg11 arg12 arg16 arg17 v59 v60 k0_t1 v79 v87 v92 X_arg3 X_arg4 X_arg5 X_arg9 X_arg10 X_arg11 X_arg12 X_arg17 k f_arg16, e_v960 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1085` on the blocks the trip reads. -/
theorem e_v1085 : (trip_k0_t2.sl.v1085 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v1085 :=
  (show (trip_k0_t2.sl.v1085 (F := Ideal) arg9 arg10 arg11 v59 v60 k0_t1 v87 v92 X_arg9 X_arg10 X_arg11 k) = lvl v59 v60 1#32 2#32 (trip_k0_t2.sl.v966 (F := Ideal) arg9 arg10 arg11 k0_t1 v87 v92 X_arg9 X_arg10 X_arg11 k) k0_pay3 from rfl).trans (by rw [e_v966 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1189` on the blocks the trip reads. -/
theorem e_v1189 : (trip_k0_t2.sl.v1189 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v1189 :=
  (show (trip_k0_t2.sl.v1189 (F := Ideal) arg9 arg10 arg11 v59 v60 k0_t1 v87 v92 X_arg9 X_arg10 X_arg11 k) = lvl v59 v60 2#32 4#32 (trip_k0_t2.sl.v966 (F := Ideal) arg9 arg10 arg11 k0_t1 v87 v92 X_arg9 X_arg10 X_arg11 k) (trip_k0_t2.sl.v1085 (F := Ideal) arg9 arg10 arg11 v59 v60 k0_t1 v87 v92 X_arg9 X_arg10 X_arg11 k) from rfl).trans (by rw [e_v966 arg3 arg4 arg5 arg9 arg10 arg11 arg12 arg16 arg17 v59 v60 k0_t1 v79 v87 v92 X_arg3 X_arg4 X_arg5 X_arg9 X_arg10 X_arg11 X_arg12 X_arg17 k f_arg16, e_v1085 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1293` on the blocks the trip reads. -/
theorem e_v1293 : (trip_k0_t2.sl.v1293 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v1293 :=
  (show (trip_k0_t2.sl.v1293 (F := Ideal) arg9 arg10 arg11 v59 v60 k0_t1 v87 v92 X_arg9 X_arg10 X_arg11 k) = lvl v59 v60 4#32 8#32 (trip_k0_t2.sl.v966 (F := Ideal) arg9 arg10 arg11 k0_t1 v87 v92 X_arg9 X_arg10 X_arg11 k) (trip_k0_t2.sl.v1189 (F := Ideal) arg9 arg10 arg11 v59 v60 k0_t1 v87 v92 X_arg9 X_arg10 X_arg11 k) from rfl).trans (by rw [e_v966 arg3 arg4 arg5 arg9 arg10 arg11 arg12 arg16 arg17 v59 v60 k0_t1 v79 v87 v92 X_arg3 X_arg4 X_arg5 X_arg9 X_arg10 X_arg11 X_arg12 X_arg17 k f_arg16, e_v1189 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1397` on the blocks the trip reads. -/
theorem e_v1397 : (trip_k0_t2.sl.v1397 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v1397 :=
  (show (trip_k0_t2.sl.v1397 (F := Ideal) arg9 arg10 arg11 v59 v60 k0_t1 v87 v92 X_arg9 X_arg10 X_arg11 k) = lvl v59 v60 8#32 16#32 (trip_k0_t2.sl.v966 (F := Ideal) arg9 arg10 arg11 k0_t1 v87 v92 X_arg9 X_arg10 X_arg11 k) (trip_k0_t2.sl.v1293 (F := Ideal) arg9 arg10 arg11 v59 v60 k0_t1 v87 v92 X_arg9 X_arg10 X_arg11 k) from rfl).trans (by rw [e_v966 arg3 arg4 arg5 arg9 arg10 arg11 arg12 arg16 arg17 v59 v60 k0_t1 v79 v87 v92 X_arg3 X_arg4 X_arg5 X_arg9 X_arg10 X_arg11 X_arg12 X_arg17 k f_arg16, e_v1293 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1501` on the blocks the trip reads. -/
theorem e_v1501 : (trip_k0_t2.sl.v1501 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v1501 :=
  (show (trip_k0_t2.sl.v1501 (F := Ideal) arg9 arg10 arg11 v59 v60 k0_t1 v87 v92 X_arg9 X_arg10 X_arg11 k) = lvl v59 v60 16#32 32#32 (trip_k0_t2.sl.v966 (F := Ideal) arg9 arg10 arg11 k0_t1 v87 v92 X_arg9 X_arg10 X_arg11 k) (trip_k0_t2.sl.v1397 (F := Ideal) arg9 arg10 arg11 v59 v60 k0_t1 v87 v92 X_arg9 X_arg10 X_arg11 k) from rfl).trans (by rw [e_v966 arg3 arg4 arg5 arg9 arg10 arg11 arg12 arg16 arg17 v59 v60 k0_t1 v79 v87 v92 X_arg3 X_arg4 X_arg5 X_arg9 X_arg10 X_arg11 X_arg12 X_arg17 k f_arg16, e_v1397 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1605` on the blocks the trip reads. -/
theorem e_v1605 : (trip_k0_t2.sl.v1605 (F := Ideal) arg9 arg10 arg11 v59 v60 k0_t1 v87 v92 X_arg9 X_arg10 X_arg11 k) = (tripIn arg3 arg4 arg5 arg9 arg10 arg11 arg12 arg16 arg17 v59 v60 k0_t1 v79 v87 v92 X_arg3 X_arg4 X_arg5 X_arg9 X_arg10 X_arg11 X_arg12 X_arg17 k f_arg16).v1605 :=
  (show (trip_k0_t2.sl.v1605 (F := Ideal) arg9 arg10 arg11 v59 v60 k0_t1 v87 v92 X_arg9 X_arg10 X_arg11 k) = lvl v59 v60 32#32 64#32 (trip_k0_t2.sl.v966 (F := Ideal) arg9 arg10 arg11 k0_t1 v87 v92 X_arg9 X_arg10 X_arg11 k) (trip_k0_t2.sl.v1501 (F := Ideal) arg9 arg10 arg11 v59 v60 k0_t1 v87 v92 X_arg9 X_arg10 X_arg11 k) from rfl).trans (by rw [e_v966 arg3 arg4 arg5 arg9 arg10 arg11 arg12 arg16 arg17 v59 v60 k0_t1 v79 v87 v92 X_arg3 X_arg4 X_arg5 X_arg9 X_arg10 X_arg11 X_arg12 X_arg17 k f_arg16, e_v1501 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1606` on the blocks the trip reads. -/
theorem e_v1606 : (trip_k0_t2.sl.v1606 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v1606 :=
  (show (trip_k0_t2.sl.v1606 (F := Ideal) v79) = k0_pay160 (F := Ideal) v79 from rfl).trans (rfl)

/-- The trip's value of this name is that of `In.v1607` on the blocks the trip reads. -/
theorem e_v1607 : (trip_k0_t2.sl.v1607 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v1607 :=
  (show (trip_k0_t2.sl.v1607 (F := Ideal) v79) = k0_pay161 (F := Ideal) v79 from rfl).trans (rfl)

/-- The trip's value of this name is that of `In.v1609` on the blocks the trip reads. -/
theorem e_v1609 : (trip_k0_t2.sl.v1609 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v1609 :=
  (show (trip_k0_t2.sl.v1609 (F := Ideal) v79) = k0_pay162 (F := Ideal) v79 from rfl).trans (rfl)

/-- The trip's value of this name is that of `In.v1612` on the blocks the trip reads. -/
theorem e_v1612 : (trip_k0_t2.sl.v1612 (F := Ideal) arg4 arg5 arg9 arg10 arg11 arg12 arg16 arg17 v59 v60 k0_t1 v79 v87 v92 X_arg4 X_arg5 X_arg9 X_arg10 X_arg11 X_arg12 X_arg17 k f_arg16) = (tripIn arg3 arg4 arg5 arg9 arg10 arg11 arg12 arg16 arg17 v59 v60 k0_t1 v79 v87 v92 X_arg3 X_arg4 X_arg5 X_arg9 X_arg10 X_arg11 X_arg12 X_arg17 k f_arg16).v1612 :=
  (show (trip_k0_t2.sl.v1612 (F := Ideal) arg4 arg5 arg9 arg10 arg11 arg12 arg16 arg17 v59 v60 k0_t1 v79 v87 v92 X_arg4 X_arg5 X_arg9 X_arg10 X_arg11 X_arg12 X_arg17 k f_arg16) = k0_pay163 (F := Ideal) v79 (trip_k0_t2.sl.v263 (F := Ideal) arg12 X_arg12 k) (trip_k0_t2.sl.v954 (F := Ideal) arg4 arg5 arg9 arg10 arg11 arg12 arg16 arg17 v59 v60 k0_t1 v79 v87 v92 X_arg4 X_arg5 X_arg9 X_arg10 X_arg11 X_arg12 X_arg17 k f_arg16) (trip_k0_t2.sl.v955 (F := Ideal) arg9 arg10 k0_t1 v92 X_arg9 X_arg10 k) from rfl).trans (by rw [e_v263 arg3 arg4 arg5 arg9 arg10 arg11 arg12 arg16 arg17 v59 v60 k0_t1 v79 v87 v92 X_arg3 X_arg4 X_arg5 X_arg9 X_arg10 X_arg11 X_arg12 X_arg17 k f_arg16, e_v954 arg3 arg4 arg5 arg9 arg10 arg11 arg12 arg16 arg17 v59 v60 k0_t1 v79 v87 v92 X_arg3 X_arg4 X_arg5 X_arg9 X_arg10 X_arg11 X_arg12 X_arg17 k f_arg16, e_v955 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1618` on the blocks the trip reads. -/
theorem e_v1618 : (trip_k0_t2.sl.r_5 (F := Ideal) arg4 arg5 arg9 arg10 arg11 arg12 arg16 arg17 v59 v60 k0_t1 v79 v87 v92 X_arg4 X_arg5 X_arg9 X_arg10 X_arg11 X_arg12 X_arg17 k f_arg16) = (tripIn arg3 arg4 arg5 arg9 arg10 arg11 arg12 arg16 arg17 v59 v60 k0_t1 v79 v87 v92 X_arg3 X_arg4 X_arg5 X_arg9 X_arg10 X_arg11 X_arg12 X_arg17 k f_arg16).v1618 :=
  (show (trip_k0_t2.sl.r_5 (F := Ideal) arg4 arg5 arg9 arg10 arg11 arg12 arg16 arg17 v59 v60 k0_t1 v79 v87 v92 X_arg4 X_arg5 X_arg9 X_arg10 X_arg11 X_arg12 X_arg17 k f_arg16) = k0_pay164 (F := Ideal) (trip_k0_t2.sl.v959 (F := Ideal) arg5 arg17 k0_t1 X_arg5 X_arg17 k) (trip_k0_t2.sl.v971 (F := Ideal) arg4 arg9 arg10 arg17 k0_t1 v87 v92 X_arg4 X_arg9 X_arg10 X_arg17 k) (trip_k0_t2.sl.v1605 (F := Ideal) arg9 arg10 arg11 v59 v60 k0_t1 v87 v92 X_arg9 X_arg10 X_arg11 k) (trip_k0_t2.sl.v1612 (F := Ideal) arg4 arg5 arg9 arg10 arg11 arg12 arg16 arg17 v59 v60 k0_t1 v79 v87 v92 X_arg4 X_arg5 X_arg9 X_arg10 X_arg11 X_arg12 X_arg17 k f_arg16) from rfl).trans (by rw [e_v959 arg3 arg4 arg5 arg9 arg10 arg11 arg12 arg16 arg17 v59 v60 k0_t1 v79 v87 v92 X_arg3 X_arg4 X_arg5 X_arg9 X_arg10 X_arg11 X_arg12 X_arg17 k f_arg16, e_v971 arg3 arg4 arg5 arg9 arg10 arg11 arg12 arg16 arg17 v59 v60 k0_t1 v79 v87 v92 X_arg3 X_arg4 X_arg5 X_arg9 X_arg10 X_arg11 X_arg12 X_arg17 k f_arg16, e_v1605 arg3 arg4 arg5 arg9 arg10 arg11 arg12 arg16 arg17 v59 v60 k0_t1 v79 v87 v92 X_arg3 X_arg4 X_arg5 X_arg9 X_arg10 X_arg11 X_arg12 X_arg17 k f_arg16, e_v1612 arg3 arg4 arg5 arg9 arg10 arg11 arg12 arg16 arg17 v59 v60 k0_t1 v79 v87 v92 X_arg3 X_arg4 X_arg5 X_arg9 X_arg10 X_arg11 X_arg12 X_arg17 k f_arg16]; rfl)

/-- The trip's value of this name is that of `In.v1631` on the blocks the trip reads. -/
theorem e_v1631 : (trip_k0_t2.sl.r_6 (F := Ideal) v79) = (tripIn arg3 arg4 arg5 arg9 arg10 arg11 arg12 arg16 arg17 v59 v60 k0_t1 v79 v87 v92 X_arg3 X_arg4 X_arg5 X_arg9 X_arg10 X_arg11 X_arg12 X_arg17 k f_arg16).v1631 :=
  (show (trip_k0_t2.sl.r_6 (F := Ideal) v79) = k0_pay166 (F := Ideal) (trip_k0_t2.sl.v1606 (F := Ideal) v79) (trip_k0_t2.sl.v1607 (F := Ideal) v79) from rfl).trans (by rw [e_v1606 arg3 arg4 arg5 arg9 arg10 arg11 arg12 arg16 arg17 v59 v60 k0_t1 v79 v87 v92 X_arg3 X_arg4 X_arg5 X_arg9 X_arg10 X_arg11 X_arg12 X_arg17 k f_arg16, e_v1607 arg3 arg4 arg5 arg9 arg10 arg11 arg12 arg16 arg17 v59 v60 k0_t1 v79 v87 v92 X_arg3 X_arg4 X_arg5 X_arg9 X_arg10 X_arg11 X_arg12 X_arg17 k f_arg16]; rfl)

end

/-- What a trip of the head loop stores. -/
theorem tripL_eq (𝒱 : Variants) (c : Dev nD) (bd : Option 𝒱.V) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole) (v59 : IVec S64x64 32) (v60 : IVec S64x64 32) (k0_t1 : Fin k0_t1_loop.trips) (v70 : BitVec 32) (v79 : FVec Ideal S128x128 .f32) (v87 : FVec Ideal S128x128 .f32) (v92 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg17 : BufTy.Contents (Elt Ideal) arg17.view.ty) (k : Fin k0_t2_loop.trips) (f_arg14 : BufTy.Contents (Elt Ideal) arg14.view.ty) (f_arg16 : BufTy.Contents (Elt Ideal) arg16.view.ty) :
    tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v59 v60 k0_t1 v70 v79 v87 v92 X_arg3 X_arg4 X_arg5 X_arg9 X_arg10 X_arg11 X_arg12 X_arg17 k f_arg14 f_arg16
      = ([⟨Rect.unit (s := S1x8x64x512) (k0_off3 k0_t1 k) S1x1x64x128.size (k0_off3_inb k0_t1 k), (tripIn arg3 arg4 arg5 arg9 arg10 arg11 arg12 arg16 arg17 v59 v60 k0_t1 v79 v87 v92 X_arg3 X_arg4 X_arg5 X_arg9 X_arg10 X_arg11 X_arg12 X_arg17 k f_arg16).y⟩],
        [⟨Rect.unit (s := S8x64x64) (k0_off8 k) S1x64x64.size (k0_off8_inb k), (tripIn arg3 arg4 arg5 arg9 arg10 arg11 arg12 arg16 arg17 v59 v60 k0_t1 v79 v87 v92 X_arg3 X_arg4 X_arg5 X_arg9 X_arg10 X_arg11 X_arg12 X_arg17 k f_arg16).s⟩]) := by
  have h1 : k0_pay165 (F := Ideal) (trip_k0_t2.sl.v263 (F := Ideal) arg12 X_arg12 k) (trip_k0_t2.sl.v936 (F := Ideal) arg3 arg4 arg5 arg9 arg10 arg11 arg12 arg16 arg17 v59 v60 k0_t1 v79 v87 v92 X_arg3 X_arg4 X_arg5 X_arg9 X_arg10 X_arg11 X_arg12 X_arg17 k f_arg16) (trip_k0_t2.sl.v954 (F := Ideal) arg4 arg5 arg9 arg10 arg11 arg12 arg16 arg17 v59 v60 k0_t1 v79 v87 v92 X_arg4 X_arg5 X_arg9 X_arg10 X_arg11 X_arg12 X_arg17 k f_arg16) (trip_k0_t2.sl.v956 (F := Ideal) arg3 arg9 arg17 k0_t1 v87 X_arg3 X_arg9 X_arg17 k) (trip_k0_t2.sl.v959 (F := Ideal) arg5 arg17 k0_t1 X_arg5 X_arg17 k) (trip_k0_t2.sl.v971 (F := Ideal) arg4 arg9 arg10 arg17 k0_t1 v87 v92 X_arg4 X_arg9 X_arg10 X_arg17 k) (trip_k0_t2.sl.v976 (F := Ideal) arg3 arg9 arg10 arg11 arg17 k0_t1 v87 X_arg3 X_arg9 X_arg10 X_arg11 X_arg17 k) (trip_k0_t2.sl.v981 (F := Ideal) arg3 arg4 arg9 arg17 k0_t1 v87 X_arg3 X_arg4 X_arg9 X_arg17 k) (trip_k0_t2.sl.v1605 (F := Ideal) arg9 arg10 arg11 v59 v60 k0_t1 v87 v92 X_arg9 X_arg10 X_arg11 k) (trip_k0_t2.sl.v1609 (F := Ideal) v79) (trip_k0_t2.sl.v1612 (F := Ideal) arg4 arg5 arg9 arg10 arg11 arg12 arg16 arg17 v59 v60 k0_t1 v79 v87 v92 X_arg4 X_arg5 X_arg9 X_arg10 X_arg11 X_arg12 X_arg17 k f_arg16) zero = (tripIn arg3 arg4 arg5 arg9 arg10 arg11 arg12 arg16 arg17 v59 v60 k0_t1 v79 v87 v92 X_arg3 X_arg4 X_arg5 X_arg9 X_arg10 X_arg11 X_arg12 X_arg17 k f_arg16).y := by
    rw [e_v263 arg3 arg4 arg5 arg9 arg10 arg11 arg12 arg16 arg17 v59 v60 k0_t1 v79 v87 v92 X_arg3 X_arg4 X_arg5 X_arg9 X_arg10 X_arg11 X_arg12 X_arg17 k f_arg16, e_v936 arg3 arg4 arg5 arg9 arg10 arg11 arg12 arg16 arg17 v59 v60 k0_t1 v79 v87 v92 X_arg3 X_arg4 X_arg5 X_arg9 X_arg10 X_arg11 X_arg12 X_arg17 k f_arg16, e_v954 arg3 arg4 arg5 arg9 arg10 arg11 arg12 arg16 arg17 v59 v60 k0_t1 v79 v87 v92 X_arg3 X_arg4 X_arg5 X_arg9 X_arg10 X_arg11 X_arg12 X_arg17 k f_arg16, e_v956 arg3 arg4 arg5 arg9 arg10 arg11 arg12 arg16 arg17 v59 v60 k0_t1 v79 v87 v92 X_arg3 X_arg4 X_arg5 X_arg9 X_arg10 X_arg11 X_arg12 X_arg17 k f_arg16, e_v959 arg3 arg4 arg5 arg9 arg10 arg11 arg12 arg16 arg17 v59 v60 k0_t1 v79 v87 v92 X_arg3 X_arg4 X_arg5 X_arg9 X_arg10 X_arg11 X_arg12 X_arg17 k f_arg16, e_v971 arg3 arg4 arg5 arg9 arg10 arg11 arg12 arg16 arg17 v59 v60 k0_t1 v79 v87 v92 X_arg3 X_arg4 X_arg5 X_arg9 X_arg10 X_arg11 X_arg12 X_arg17 k f_arg16, e_v976 arg3 arg4 arg5 arg9 arg10 arg11 arg12 arg16 arg17 v59 v60 k0_t1 v79 v87 v92 X_arg3 X_arg4 X_arg5 X_arg9 X_arg10 X_arg11 X_arg12 X_arg17 k f_arg16, e_v981 arg3 arg4 arg5 arg9 arg10 arg11 arg12 arg16 arg17 v59 v60 k0_t1 v79 v87 v92 X_arg3 X_arg4 X_arg5 X_arg9 X_arg10 X_arg11 X_arg12 X_arg17 k f_arg16, e_v1605 arg3 arg4 arg5 arg9 arg10 arg11 arg12 arg16 arg17 v59 v60 k0_t1 v79 v87 v92 X_arg3 X_arg4 X_arg5 X_arg9 X_arg10 X_arg11 X_arg12 X_arg17 k f_arg16, e_v1609 arg3 arg4 arg5 arg9 arg10 arg11 arg12 arg16 arg17 v59 v60 k0_t1 v79 v87 v92 X_arg3 X_arg4 X_arg5 X_arg9 X_arg10 X_arg11 X_arg12 X_arg17 k f_arg16, e_v1612 arg3 arg4 arg5 arg9 arg10 arg11 arg12 arg16 arg17 v59 v60 k0_t1 v79 v87 v92 X_arg3 X_arg4 X_arg5 X_arg9 X_arg10 X_arg11 X_arg12 X_arg17 k f_arg16]; rfl
  have h2 : k0_pay7 (F := Ideal) (trip_k0_t2.sl.v263 (F := Ideal) arg12 X_arg12 k) (trip_k0_t2.sl.v267 (F := Ideal) arg9 k0_t1 v87 X_arg9 k) (trip_k0_t2.sl.v954 (F := Ideal) arg4 arg5 arg9 arg10 arg11 arg12 arg16 arg17 v59 v60 k0_t1 v79 v87 v92 X_arg4 X_arg5 X_arg9 X_arg10 X_arg11 X_arg12 X_arg17 k f_arg16) (trip_k0_t2.sl.v957 (F := Ideal) arg9 arg10 arg11 k0_t1 v87 X_arg9 X_arg10 X_arg11 k) (trip_k0_t2.sl.v958 (F := Ideal) arg4 arg9 arg17 k0_t1 v87 X_arg4 X_arg9 X_arg17 k) (trip_k0_t2.sl.v959 (F := Ideal) arg5 arg17 k0_t1 X_arg5 X_arg17 k) (trip_k0_t2.sl.v1607 (F := Ideal) v79) (trip_k0_t2.sl.r_5 (F := Ideal) arg4 arg5 arg9 arg10 arg11 arg12 arg16 arg17 v59 v60 k0_t1 v79 v87 v92 X_arg4 X_arg5 X_arg9 X_arg10 X_arg11 X_arg12 X_arg17 k f_arg16) (trip_k0_t2.sl.r_6 (F := Ideal) v79) (k0_pay167 (F := Ideal)) = (tripIn arg3 arg4 arg5 arg9 arg10 arg11 arg12 arg16 arg17 v59 v60 k0_t1 v79 v87 v92 X_arg3 X_arg4 X_arg5 X_arg9 X_arg10 X_arg11 X_arg12 X_arg17 k f_arg16).s := by
    rw [e_v263 arg3 arg4 arg5 arg9 arg10 arg11 arg12 arg16 arg17 v59 v60 k0_t1 v79 v87 v92 X_arg3 X_arg4 X_arg5 X_arg9 X_arg10 X_arg11 X_arg12 X_arg17 k f_arg16, e_v267 arg3 arg4 arg5 arg9 arg10 arg11 arg12 arg16 arg17 v59 v60 k0_t1 v79 v87 v92 X_arg3 X_arg4 X_arg5 X_arg9 X_arg10 X_arg11 X_arg12 X_arg17 k f_arg16, e_v954 arg3 arg4 arg5 arg9 arg10 arg11 arg12 arg16 arg17 v59 v60 k0_t1 v79 v87 v92 X_arg3 X_arg4 X_arg5 X_arg9 X_arg10 X_arg11 X_arg12 X_arg17 k f_arg16, e_v957 arg3 arg4 arg5 arg9 arg10 arg11 arg12 arg16 arg17 v59 v60 k0_t1 v79 v87 v92 X_arg3 X_arg4 X_arg5 X_arg9 X_arg10 X_arg11 X_arg12 X_arg17 k f_arg16, e_v958 arg3 arg4 arg5 arg9 arg10 arg11 arg12 arg16 arg17 v59 v60 k0_t1 v79 v87 v92 X_arg3 X_arg4 X_arg5 X_arg9 X_arg10 X_arg11 X_arg12 X_arg17 k f_arg16, e_v959 arg3 arg4 arg5 arg9 arg10 arg11 arg12 arg16 arg17 v59 v60 k0_t1 v79 v87 v92 X_arg3 X_arg4 X_arg5 X_arg9 X_arg10 X_arg11 X_arg12 X_arg17 k f_arg16, e_v1607 arg3 arg4 arg5 arg9 arg10 arg11 arg12 arg16 arg17 v59 v60 k0_t1 v79 v87 v92 X_arg3 X_arg4 X_arg5 X_arg9 X_arg10 X_arg11 X_arg12 X_arg17 k f_arg16, e_v1618 arg3 arg4 arg5 arg9 arg10 arg11 arg12 arg16 arg17 v59 v60 k0_t1 v79 v87 v92 X_arg3 X_arg4 X_arg5 X_arg9 X_arg10 X_arg11 X_arg12 X_arg17 k f_arg16, e_v1631 arg3 arg4 arg5 arg9 arg10 arg11 arg12 arg16 arg17 v59 v60 k0_t1 v79 v87 v92 X_arg3 X_arg4 X_arg5 X_arg9 X_arg10 X_arg11 X_arg12 X_arg17 k f_arg16]; rfl
  rw [← h1, ← h2]
  unfold tripL_k0_t2 trip_k0_t2
  refine Prod.ext ?_ ?_
  · exact rfl
  · exact rfl

end Cert.Proof.KI

end
-- ==== Proof.UnitMasks.lean ====
/-
  The masks and the counts of a unit of 128 tokens, read at an index.
-/
module

public import proofs.«01_k».proof.Proof.Head

@[expose] public section

set_option maxRecDepth 16384

noncomputable section

namespace Cert.Proof.Head

open Cert.KernelIdeal Cert.KernelIdeal.Gen
open Idealize.ShloMosaic Idealize.ShloMosaic.TcCoe

/-- Row and column numbers of the 128 by 128 blocks. -/
def i3 : IVec S128x128 32 := iota .tc S128x128 32 [0] iota_S128x128_d0_w32
@[inherit_doc i3] def i4 : IVec S128x128 32 := iota .tc S128x128 32 [1] iota_S128x128_d1_w32

/-- The mask of the chunk of 64 tokens, as the kernel computes it. -/
def blk : IVec S128x128 1 := k0_pay1 i4 k0_pay201 64#32 k0_pay202 k0_pay203 (Scalar.extui (Scalar.cmpi .sgt 64#32 0#32)) (Scalar.extui (Scalar.cmpi .slt 64#32 0#32))

/-- The triangle the counts are taken with. -/
def tri : FVec Ideal S128x128 .f32 := k0_pay2 i3 i4 k0_pay201 64#32 k0_pay202 k0_pay203 (Scalar.extui (Scalar.cmpi .sgt 64#32 0#32)) (Scalar.extui (Scalar.cmpi .slt 64#32 0#32))

/-- The printed division of a number below 128 by 64. -/
theorem fdiv128 (n : Fin 128) :
    Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n.val) 64#32) 0#32))
          (IntOp.subi (IntOp.divsi ArithUnit.vector (BitVec.ofNat 32 n.val) 64#32) 1#32)
          (IntOp.divsi ArithUnit.vector (BitVec.ofNat 32 n.val) 64#32) = BitVec.ofNat 32 (n.val / 64) := by
  revert n; decide

/-- Comparisons of numbers below 128. -/
theorem eq128 (m n : Fin 128) : IntOp.cmpi CmpIPredicate.eq (BitVec.ofNat 32 (m.val / 64)) (BitVec.ofNat 32 (n.val / 64)) = if m.val / 64 = n.val / 64 then 1#1 else 0#1 := by
  have hm : m.val / 64 < 128 := by omega
  have hn : n.val / 64 < 128 := by omega
  have e : (BitVec.ofNat 32 (m.val / 64) == BitVec.ofNat 32 (n.val / 64)) = decide (m.val / 64 = n.val / 64) := by
    rw [Bool.eq_iff_iff, beq_iff_eq, decide_eq_true_eq]
    constructor
    · intro h
      have := congrArg BitVec.toNat h
      simp only [BitVec.toNat_ofNat] at this
      omega
    · intro h; rw [h]
  simp only [IntOp.cmpi, e]
  by_cases h : m.val / 64 = n.val / 64 <;> simp [h]

/-- At most, on token numbers. -/
theorem sle128 (m n : Fin 128) : IntOp.cmpi CmpIPredicate.sle (BitVec.ofNat 32 m.val) (BitVec.ofNat 32 n.val) = if m ≤ n then 1#1 else 0#1 := by
  have h1 : (BitVec.ofNat 32 m.val).toInt = m.val := by
    have hl : m.val < 128 := m.isLt
    rw [BitVec.toInt_eq_toNat_cond, BitVec.toNat_ofNat]; omega
  have h2 : (BitVec.ofNat 32 n.val).toInt = n.val := by
    have hl : n.val < 128 := n.isLt
    rw [BitVec.toInt_eq_toNat_cond, BitVec.toNat_ofNat]; omega
  have e : (BitVec.ofNat 32 m.val).sle (BitVec.ofNat 32 n.val) = decide (m ≤ n) := by
    rw [BitVec.sle, h1, h2, decide_eq_decide, Fin.le_def]; omega
  simp only [IntOp.cmpi, e]
  by_cases h : m ≤ n <;> simp [h]

/-- Less than, on token numbers. -/
theorem slt128 (m n : Fin 128) : IntOp.cmpi CmpIPredicate.slt (BitVec.ofNat 32 m.val) (BitVec.ofNat 32 n.val) = if m < n then 1#1 else 0#1 := by
  have h1 : (BitVec.ofNat 32 m.val).toInt = m.val := by
    have hl : m.val < 128 := m.isLt
    rw [BitVec.toInt_eq_toNat_cond, BitVec.toNat_ofNat]; omega
  have h2 : (BitVec.ofNat 32 n.val).toInt = n.val := by
    have hl : n.val < 128 := n.isLt
    rw [BitVec.toInt_eq_toNat_cond, BitVec.toNat_ofNat]; omega
  have e : (BitVec.ofNat 32 m.val).slt (BitVec.ofNat 32 n.val) = decide (m < n) := by
    rw [BitVec.slt, h1, h2, decide_eq_decide, Fin.lt_def]; omega
  simp only [IntOp.cmpi, e]
  by_cases h : m < n <;> simp [h]

/-- The chunk mask is set exactly where row and column lie in the same chunk. -/
theorem blk_apply (p q : Fin 128) : blk (ix2 p q) = if p.val / 64 = q.val / 64 then 1#1 else 0#1 := by
  pointwise [blk, k0_pay1, i4, k0_pay201, k0_pay202, k0_pay203]
  rw [fdiv128, fdiv128, eq128]

/-- The triangle is 1 at a row of the column's chunk up to the column, 0 elsewhere. -/
theorem tri_apply (p q : Fin 128) : tri (ix2 p q) = ((if p.val / 64 = q.val / 64 ∧ p ≤ q then (1 : ℝ) else 0 : ℝ) : EReal) := by
  have e := blk_apply p q
  unfold blk i4 at e
  pointwise [tri, k0_pay2, i3, i4]
  rw [e, sle128]
  by_cases h1 : p.val / 64 = q.val / 64 <;> by_cases h2 : p ≤ q <;> simp [h1, h2, IntOp.andi, Scalar.select]

/-- The number of starts up to a token, as a sum over the chunk. -/
theorem count_sum (g : ℕ → Bool) (t : Fin 64) :
    (∑ s : Fin 64, (((if g s then (1 : ℝ) else 0 : ℝ) : EReal) * ((if s ≤ t then (1 : ℝ) else 0 : ℝ) : EReal))) = ((Delta.count g t : ℝ) : EReal) := by
  rw [coe_dot Finset.univ (fun _ => rfl) (fun _ => rfl)]
  congr 1
  have h : ∀ s : Fin 64, ((if g s then (1 : ℝ) else 0) * (if s ≤ t then (1 : ℝ) else 0)) = (fun n : ℕ => if n ≤ t.val then (if g n then (1 : ℝ) else 0) else 0) s.val := by
    intro s
    by_cases h : s ≤ t
    · simp [h]
    · simp [h, show ¬ s.val ≤ t.val from h]
  rw [Finset.sum_congr rfl fun s _ => h s, Fin.sum_univ_eq_sum_range (fun n : ℕ => if n ≤ t.val then (if g n then (1 : ℝ) else 0) else 0) 64, ← Finset.sum_filter]
  have e : (Finset.range 64).filter (fun n => n ≤ t.val) = Finset.range (t.val + 1) := by
    ext n; simp only [Finset.mem_filter, Finset.mem_range]; omega
  rw [e]
  unfold Delta.count
  push_cast
  rfl

section
variable {v : FVec Ideal S1x1x128 .f32} {D : Data} (hv : ∀ q : Fin 128, v (ix3 0 0 q) = ((if D.g q then (1 : ℝ) else 0 : ℝ) : EReal))
include hv

/-- The counts of chunk 0. -/
theorem cnt_lo (p : Fin 128) (t : Fin 64) : k0_pay168 tri v (ix2 p ⟨t.val, by omega⟩) = D.cnt t := by
  pointwise [k0_pay168]
  rw [sum_128, ← add_zero (D.cnt t)]
  refine congrArg₂ (· + ·) ((Finset.sum_congr rfl fun s _ => ?_).trans (count_sum D.g t)) (Finset.sum_eq_zero fun s _ => ?_)
  · rw [hv, tri_apply]
    congr 2
    have : (s.val / 64 = t.val / 64) := by omega
    simp [this]
  · have : ¬ ((64 + s.val) / 64 = t.val / 64) := by omega
    rw [tri_apply, if_neg (fun h => this h.1)]
    exact mul_zero _

/-- The counts of chunk 1. -/
theorem cnt_hi (p : Fin 128) (t : Fin 64) : k0_pay168 tri v (ix2 p ⟨64 + t.val, by omega⟩) = (D.drop 64).cnt t := by
  pointwise [k0_pay168]
  rw [sum_128, ← zero_add ((D.drop 64).cnt t)]
  refine congrArg₂ (· + ·) (Finset.sum_eq_zero fun s _ => ?_) ((Finset.sum_congr rfl fun s _ => ?_).trans (count_sum (D.drop 64).g t))
  · have : ¬ (s.val / 64 = (64 + t.val) / 64) := by omega
    rw [tri_apply, if_neg (fun h => this h.1)]
    exact mul_zero _
  · rw [hv, tri_apply]
    congr 2
    have : ((64 + s.val) / 64 = (64 + t.val) / 64) := by omega
    simp [this]

/-- The inclusive mask. -/
theorem in_apply (p q : Fin 128) : k0_pay170 i3 i4 blk tri v (ix2 p q)
    = if p.val / 64 = q.val / 64 ∧ k0_pay168 tri v (ix2 p q) = k0_pay168 tri v (ix2 q p) ∧ p ≤ q then 1 else 0 := by
  pointwise [k0_pay170, k0_pay169, i3, i4]
  rw [blk_apply, sle128]
  by_cases h1 : p.val / 64 = q.val / 64 <;> by_cases h2 : p ≤ q <;> by_cases h3 : k0_pay168 tri v (ix2 p q) = k0_pay168 tri v (ix2 q p) <;>
    simp [h1, h2, h3, IntOp.andi, Scalar.select]

/-- The exclusive mask. -/
theorem ex_apply (p q : Fin 128) : k0_pay171 i3 i4 blk tri v (ix2 p q)
    = if p.val / 64 = q.val / 64 ∧ k0_pay168 tri v (ix2 p q) = k0_pay168 tri v (ix2 q p) ∧ p < q then 1 else 0 := by
  pointwise [k0_pay171, k0_pay169, i3, i4]
  rw [blk_apply, slt128]
  by_cases h1 : p.val / 64 = q.val / 64 <;> by_cases h2 : p < q <;> by_cases h3 : k0_pay168 tri v (ix2 p q) = k0_pay168 tri v (ix2 q p) <;>
    simp [h1, h2, h3, IntOp.andi, Scalar.select]

/-- The masks and the counts are those a trip wants. -/
structure MaskHyp (v79 v87 v92 : FVec Ideal S128x128 .f32) (D : Data) : Prop where
  cnt0 : ∀ (p : Fin 128) (t : Fin 64), v79 (ix2 p ⟨t.val, by omega⟩) = D.cnt t
  cnt1 : ∀ (p : Fin 128) (t : Fin 64), v79 (ix2 p ⟨64 + t.val, by omega⟩) = (D.drop 64).cnt t
  in00 : ∀ s t : Fin 64, v87 (ix2 ⟨s.val, by omega⟩ ⟨t.val, by omega⟩)
    = ((if Delta.count D.g s = Delta.count D.g t ∧ s ≤ t then (1 : ℝ) else 0 : ℝ) : EReal)
  in11 : ∀ s t : Fin 64, v87 (ix2 ⟨64 + s.val, by omega⟩ ⟨64 + t.val, by omega⟩)
    = ((if Delta.count (D.drop 64).g s = Delta.count (D.drop 64).g t ∧ s ≤ t then (1 : ℝ) else 0 : ℝ) : EReal)
  in01 : ∀ s t : Fin 64, v87 (ix2 ⟨s.val, by omega⟩ ⟨64 + t.val, by omega⟩) = 0
  in10 : ∀ s t : Fin 64, v87 (ix2 ⟨64 + s.val, by omega⟩ ⟨t.val, by omega⟩) = 0
  ex00 : ∀ s t : Fin 64, v92 (ix2 ⟨s.val, by omega⟩ ⟨t.val, by omega⟩)
    = ((if Delta.count D.g s = Delta.count D.g t ∧ s < t then (1 : ℝ) else 0 : ℝ) : EReal)
  ex11 : ∀ s t : Fin 64, v92 (ix2 ⟨64 + s.val, by omega⟩ ⟨64 + t.val, by omega⟩)
    = ((if Delta.count (D.drop 64).g s = Delta.count (D.drop 64).g t ∧ s < t then (1 : ℝ) else 0 : ℝ) : EReal)
  ex01 : ∀ s t : Fin 64, v92 (ix2 ⟨s.val, by omega⟩ ⟨64 + t.val, by omega⟩) = 0
  ex10 : ∀ s t : Fin 64, v92 (ix2 ⟨64 + s.val, by omega⟩ ⟨t.val, by omega⟩) = 0

/-- The masks and counts a unit computes are those its trips want. -/
theorem maskHyp : MaskHyp (k0_pay168 tri v) (k0_pay170 i3 i4 blk tri v) (k0_pay171 i3 i4 blk tri v) D where
  cnt0 := cnt_lo hv
  cnt1 := cnt_hi hv
  in00 s t := by
    refine (in_apply hv _ _).trans ?_
    have e : (s.val / 64 = t.val / 64) := by omega
    have l : ((⟨s.val, by omega⟩ : Fin 128) ≤ ⟨t.val, by omega⟩) ↔ s ≤ t := by simp only [Fin.le_def]
    rw [if_congr (and_congr (iff_of_true e trivial) (and_congr ((iff_of_eq (congrArg₂ (· = ·) (cnt_lo hv _ t) (cnt_lo hv _ s))).trans ((D.cnt_eq_iff _ _).trans eq_comm)) l)) rfl rfl]
    simp only [true_and]
    split <;> simp
  in11 s t := by
    refine (in_apply hv _ _).trans ?_
    have e : ((64 + s.val) / 64 = (64 + t.val) / 64) := by omega
    have l : ((⟨64 + s.val, by omega⟩ : Fin 128) ≤ ⟨64 + t.val, by omega⟩) ↔ s ≤ t := by simp only [Fin.le_def]; omega
    rw [if_congr (and_congr (iff_of_true e trivial) (and_congr ((iff_of_eq (congrArg₂ (· = ·) (cnt_hi hv _ t) (cnt_hi hv _ s))).trans (((D.drop 64).cnt_eq_iff _ _).trans eq_comm)) l)) rfl rfl]
    simp only [true_and]
    split <;> simp
  in01 s t := by
    rw [in_apply hv, if_neg]
    rintro ⟨h, -⟩
    simp only at h; omega
  in10 s t := by
    rw [in_apply hv, if_neg]
    rintro ⟨h, -⟩
    simp only at h; omega
  ex00 s t := by
    refine (ex_apply hv _ _).trans ?_
    have e : (s.val / 64 = t.val / 64) := by omega
    have l : ((⟨s.val, by omega⟩ : Fin 128) < ⟨t.val, by omega⟩) ↔ s < t := by simp only [Fin.lt_def]
    rw [if_congr (and_congr (iff_of_true e trivial) (and_congr ((iff_of_eq (congrArg₂ (· = ·) (cnt_lo hv _ t) (cnt_lo hv _ s))).trans ((D.cnt_eq_iff _ _).trans eq_comm)) l)) rfl rfl]
    simp only [true_and]
    split <;> simp
  ex11 s t := by
    refine (ex_apply hv _ _).trans ?_
    have e : ((64 + s.val) / 64 = (64 + t.val) / 64) := by omega
    have l : ((⟨64 + s.val, by omega⟩ : Fin 128) < ⟨64 + t.val, by omega⟩) ↔ s < t := by simp only [Fin.lt_def]; omega
    rw [if_congr (and_congr (iff_of_true e trivial) (and_congr ((iff_of_eq (congrArg₂ (· = ·) (cnt_hi hv _ t) (cnt_hi hv _ s))).trans (((D.drop 64).cnt_eq_iff _ _).trans eq_comm)) l)) rfl rfl]
    simp only [true_and]
    split <;> simp
  ex01 s t := by
    rw [ex_apply hv, if_neg]
    rintro ⟨h, -⟩
    simp only at h; omega
  ex10 s t := by
    rw [ex_apply hv, if_neg]
    rintro ⟨h, -⟩
    simp only at h; omega

end

/-- The unit matrix. -/
theorem eye_rd : Rd (k0_pay3 (F := Ideal)) (1 : Doubling.Mat) := by
  intro i j
  pointwise [k0_pay3]
  have h : ∀ i j : Fin 64, IntOp.cmpi CmpIPredicate.eq (BitVec.ofNat 32 i.val) (BitVec.ofNat 32 j.val) = if i = j then 1#1 else 0#1 := by decide
  rw [h]
  by_cases e : i = j
  · subst e; simp [Scalar.select]
  · simp [Scalar.select, e]

/-- The numbers along the first axis are the row numbers. -/
theorem rows_iota : Rows (iota .tc S64x64 32 [0] iota_S64x64_d0_w32) := by
  intro i j; pointwise
/-- The numbers along the second axis are the column numbers. -/
theorem cols_iota : Cols (iota .tc S64x64 32 [1] iota_S64x64_d1_w32) := by
  intro i j; pointwise

end Cert.Proof.Head

end
-- ==== Proof.Heads.lean ====
/-
  The loop over the heads of a block: what the result block and the states hold after it.
-/
module

public import proofs.«01_k».proof.Proof.TripPieces
public import proofs.«01_k».proof.Proof.UnitMasks
public import Idealize.ShloMosaic.Lib.WritesUnit

@[expose] public section

set_option maxRecDepth 16384

noncomputable section

namespace Cert.Proof.KI

open Cert.KernelIdeal Cert.KernelIdeal.Gen Cert.Proof.Head
open Idealize.ShloMosaic Idealize.ShloMosaic.TcCoe

/-- What the blocks of a call hold: 512 tokens of eight heads. -/
structure BlockHyp (B3 B4 B5 : Vec Ideal S1x8x64x512 .fp8e4m3) (B6 B7 B8 : Vec Ideal S1x8x512 .f32) (B9 B10 B11 : Vec Ideal S1x8x64x512 .bf16)
    (B12 : Vec Ideal S1x8x64x64 .f32) (B13 : Vec Ideal S1x1x512 .f32) (D : Fin 8 → Data) : Prop where
  r : ∀ (h : Fin 8) (j : Fin 64) (q : Fin 512), B3 (ix4 0 h j q) * B6 (ix3 0 h q) = ((D h).r q j : EReal)
  k : ∀ (h : Fin 8) (j : Fin 64) (q : Fin 512), B4 (ix4 0 h j q) * B7 (ix3 0 h q) = ((D h).k q j : EReal)
  v : ∀ (h : Fin 8) (i : Fin 64) (q : Fin 512), B5 (ix4 0 h i q) * B8 (ix3 0 h q) = ((D h).v i q : EReal)
  w : ∀ (h : Fin 8) (j : Fin 64) (q : Fin 512), ∃ a : ℝ, Ideal.exp (B9 (ix4 0 h j q)) = (a : EReal) ∧ (D h).ℓ q j = -a
  κ : ∀ (h : Fin 8) (j : Fin 64) (q : Fin 512), B10 (ix4 0 h j q) = ((D h).κ q j : EReal)
  β : ∀ (h : Fin 8) (j : Fin 64) (q : Fin 512), B10 (ix4 0 h j q) * B11 (ix4 0 h j q) = ((D h).β q j : EReal)
  x0 : ∀ (h : Fin 8) (i j : Fin 64), B12 (ix4 0 h i j) = ((D h).x0 i j : EReal)
  g : ∀ (h : Fin 8) (q : Fin 512), B13 (ix3 0 0 q) = ((if (D h).g q then (1 : ℝ) else 0 : ℝ) : EReal)

/-! ### Where the loads and the stores lie -/

/-- The loop over units has four trips. -/
theorem trips1 (u : Fin k0_t1_loop.trips) : u.val < 4 := lt_of_lt_of_eq u.isLt (by decide)
/-- The loop over heads has eight trips. -/
theorem trips2 (k : Fin k0_t2_loop.trips) : k.val < 8 := lt_of_lt_of_eq k.isLt (by decide)

/-- Where a unit's segment starts lie in their block. -/
theorem off1_val (u : Fin k0_t1_loop.trips) : k0_off1 u = ![0, 0, 128 * u.val] := by
  revert u; decide
/-- Where a unit's scales lie in their block. -/
theorem off2_val (u : Fin k0_t1_loop.trips) : k0_off2 u = ![0, 0, 128 * u.val] := by
  revert u; decide
/-- Where a head's 128 tokens of a unit lie in their block. -/
theorem off3_val (u : Fin k0_t1_loop.trips) (k : Fin k0_t2_loop.trips) : k0_off3 u k = ![0, k.val, 0, 128 * u.val] := by
  revert u k; decide
/-- Where a head's receptance scales lie in scratch memory. -/
theorem off4_val (k : Fin k0_t2_loop.trips) : k0_off4 k = ![0, k.val, 0, 0] := by
  revert k; decide
/-- Where a head's key scales lie in scratch memory. -/
theorem off5_val (k : Fin k0_t2_loop.trips) : k0_off5 k = ![1, k.val, 0, 0] := by
  revert k; decide
/-- Where a head's value scales lie in scratch memory. -/
theorem off6_val (k : Fin k0_t2_loop.trips) : k0_off6 k = ![2, k.val, 0, 0] := by
  revert k; decide
/-- Where a head's initial state lies in its block. -/
theorem off7_val (k : Fin k0_t2_loop.trips) : k0_off7 k = ![0, k.val, 0, 0] := by
  revert k; decide
/-- Where a head's state lies in scratch memory. -/
theorem off8_val (k : Fin k0_t2_loop.trips) : k0_off8 k = ![k.val, 0, 0] := by
  revert k; decide

/-- The place in an array of four axes of an element of a rectangle, by its offsets. -/
theorem idx4 {d : Fin 4 → ℕ} {o z : Fin 4 → ℕ} (inb : ∀ a, o a + z a ≤ d a) (o' : Fin 4 → ℕ) (ho : o = o') (x : (⟨4, z⟩ : Shape).Idx) (y : (⟨4, d⟩ : Shape).Idx)
    (h : ∀ a, (y a).val = o' a + (x a).val) : (Rect.unit (s := ⟨4, d⟩) o z inb).toLoadRect.idx x = y := by
  subst ho
  refine funext fun a => Fin.ext ?_
  show o a + 1 * (x a).val = (y a).val
  rw [h a, one_mul]
/-- The place in an array of three axes of an element of a rectangle, by its offsets. -/
theorem idx3 {d : Fin 3 → ℕ} {o z : Fin 3 → ℕ} (inb : ∀ a, o a + z a ≤ d a) (o' : Fin 3 → ℕ) (ho : o = o') (x : (⟨3, z⟩ : Shape).Idx) (y : (⟨3, d⟩ : Shape).Idx)
    (h : ∀ a, (y a).val = o' a + (x a).val) : (Rect.unit (s := ⟨3, d⟩) o z inb).toLoadRect.idx x = y := by
  subst ho
  refine funext fun a => Fin.ext ?_
  show o a + 1 * (x a).val = (y a).val
  rw [h a, one_mul]

section
variable (𝒱 : Variants) (c : Dev nD) (bd : Option 𝒱.V) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole) (v59 : IVec S64x64 32) (v60 : IVec S64x64 32) (k0_t1 : Fin k0_t1_loop.trips) (v70 : BitVec 32) (v79 : FVec Ideal S128x128 .f32) (v87 : FVec Ideal S128x128 .f32) (v92 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg17 : BufTy.Contents (Elt Ideal) arg17.view.ty)
  {B3 B4 B5 : Vec Ideal S1x8x64x512 .fp8e4m3} {B6 B7 B8 : Vec Ideal S1x8x512 .f32} {B9 B10 B11 : Vec Ideal S1x8x64x512 .bf16}
  {B12 : Vec Ideal S1x8x64x64 .f32} {B13 : Vec Ideal S1x1x512 .f32} {D : Fin 8 → Data}

/-- The unit's tokens of a head, with the state before them. -/
def unitD (D : Fin 8 → Data) (u : Fin k0_t1_loop.trips) (k : Fin k0_t2_loop.trips) : Data := (D ⟨k.val, trips2 k⟩).drop (128 * u.val)

/-- Where the loads of a trip's blocks lie. -/
theorem ld4 {e : EltTy} (M : Memref sig .tc .vmem S1x8x64x512 e) (X : BufTy.Contents (Elt Ideal) M.view.ty) (u : Fin k0_t1_loop.trips) (k : Fin k0_t2_loop.trips)
    (j : Fin 64) (q : Fin 128) :
    M.view.readAt (Elt Ideal) (Rect.unit (s := S1x8x64x512) (k0_off3 u k) S1x1x64x128.size (k0_off3_inb u k)).toLoadRect X (ix4 0 0 j q)
      = M.view.read (Elt Ideal) X (ix4 0 ⟨k.val, trips2 k⟩ j ⟨128 * u.val + q.val, by have := trips1 u; omega⟩) :=
  congrArg (M.view.read (Elt Ideal) X) (idx4 _ _ (off3_val u k) _ _ fun a => by fin_cases a <;> simp [ix4])

/-- The blocks a trip reads hold the unit's tokens of its head. -/
theorem hyp_of (u : Fin k0_t1_loop.trips) (k : Fin k0_t2_loop.trips) (f_arg16 : BufTy.Contents (Elt Ideal) arg16.view.ty)
    (H : BlockHyp (arg3.view.read (Elt Ideal) X_arg3) (arg4.view.read (Elt Ideal) X_arg4) (arg5.view.read (Elt Ideal) X_arg5) B6 B7 B8 (arg9.view.read (Elt Ideal) X_arg9) (arg10.view.read (Elt Ideal) X_arg10) (arg11.view.read (Elt Ideal) X_arg11) (arg12.view.read (Elt Ideal) X_arg12) B13 D)
    (hr : ∀ (h : Fin 8) (q : Fin 128), arg17.view.read (Elt Ideal) X_arg17 (ix4 0 h 0 q) = B6 (ix3 0 h ⟨128 * u.val + q.val, by have := trips1 u; omega⟩))
    (hk : ∀ (h : Fin 8) (q : Fin 128), arg17.view.read (Elt Ideal) X_arg17 (ix4 1 h 0 q) = B7 (ix3 0 h ⟨128 * u.val + q.val, by have := trips1 u; omega⟩))
    (hv : ∀ (h : Fin 8) (q : Fin 128), arg17.view.read (Elt Ideal) X_arg17 (ix4 2 h 0 q) = B8 (ix3 0 h ⟨128 * u.val + q.val, by have := trips1 u; omega⟩))
    (h59 : Rows v59) (h60 : Cols v60) (hm : MaskHyp v79 v87 v92 (unitD D u k))
    (hx : ∀ i j : Fin 64, arg16.view.read (Elt Ideal) f_arg16 (ix3 ⟨k.val, trips2 k⟩ i j) = ((D ⟨k.val, trips2 k⟩).state (128 * u.val) i j : EReal)) :
    Hyp (tripIn arg3 arg4 arg5 arg9 arg10 arg11 arg12 arg16 arg17 v59 v60 u v79 v87 v92 X_arg3 X_arg4 X_arg5 X_arg9 X_arg10 X_arg11 X_arg12 X_arg17 k f_arg16) (unitD D u k) where
  rows := h59
  cols := h60
  eye := eye_rd
  cnt0 := hm.cnt0
  cnt1 := hm.cnt1
  in00 := hm.in00
  in11 := hm.in11
  in01 := hm.in01
  in10 := hm.in10
  ex00 := hm.ex00
  ex11 := hm.ex11
  ex01 := hm.ex01
  ex10 := hm.ex10
  w j q := by
    obtain ⟨a, h1, h2⟩ := H.w ⟨k.val, trips2 k⟩ j ⟨128 * u.val + q.val, by have := trips1 u; omega⟩
    exact ⟨a, (congrArg (fun x : EReal => Ideal.exp x) (ld4 arg9 X_arg9 u k j q)).trans h1, h2⟩
  κ j q := (ld4 arg10 X_arg10 u k j q).trans (H.κ ⟨k.val, trips2 k⟩ j ⟨128 * u.val + q.val, by have := trips1 u; omega⟩)
  β j q := (congrArg₂ (fun a b : EReal => a * b) (ld4 arg10 X_arg10 u k j q) (ld4 arg11 X_arg11 u k j q)).trans (H.β ⟨k.val, trips2 k⟩ j ⟨128 * u.val + q.val, by have := trips1 u; omega⟩)
  k j q := (congrArg₂ (fun a b : EReal => a * b) (ld4 arg4 X_arg4 u k j q) ((congrArg (arg17.view.read (Elt Ideal) X_arg17) (idx4 _ _ (off5_val k) _ (ix4 1 ⟨k.val, trips2 k⟩ 0 q) fun a => by fin_cases a <;> simp [ix4])).trans (hk _ q))).trans
    (H.k ⟨k.val, trips2 k⟩ j ⟨128 * u.val + q.val, by have := trips1 u; omega⟩)
  r j q := (congrArg₂ (fun a b : EReal => a * b) (ld4 arg3 X_arg3 u k j q) ((congrArg (arg17.view.read (Elt Ideal) X_arg17) (idx4 _ _ (off4_val k) _ (ix4 0 ⟨k.val, trips2 k⟩ 0 q) fun a => by fin_cases a <;> simp [ix4])).trans (hr _ q))).trans
    (H.r ⟨k.val, trips2 k⟩ j ⟨128 * u.val + q.val, by have := trips1 u; omega⟩)
  v i q := (congrArg₂ (fun a b : EReal => a * b) (ld4 arg5 X_arg5 u k i q) ((congrArg (arg17.view.read (Elt Ideal) X_arg17) (idx4 _ _ (off6_val k) _ (ix4 2 ⟨k.val, trips2 k⟩ 0 q) fun a => by fin_cases a <;> simp [ix4])).trans (hv _ q))).trans
    (H.v ⟨k.val, trips2 k⟩ i ⟨128 * u.val + q.val, by have := trips1 u; omega⟩)
  x0 i j := (congrArg (arg12.view.read (Elt Ideal) X_arg12) (idx4 _ _ (off7_val k) _ (ix4 0 ⟨k.val, trips2 k⟩ i j) fun a => by fin_cases a <;> simp [ix4])).trans (H.x0 _ i j)
  x i j := (congrArg (arg16.view.read (Elt Ideal) f_arg16) (idx3 _ _ (off8_val k) _ (ix3 ⟨k.val, trips2 k⟩ i j) fun a => by fin_cases a <;> simp [ix3])).trans (hx i j)

variable (G_arg14 : BufTy.Contents (Elt Ideal) arg14.view.ty) (G_arg16 : BufTy.Contents (Elt Ideal) arg16.view.ty)

/-- After `n` heads: the results of the unit's tokens and the states after them at those heads, the rest as before. -/
theorem heads
    (H : BlockHyp (arg3.view.read (Elt Ideal) X_arg3) (arg4.view.read (Elt Ideal) X_arg4) (arg5.view.read (Elt Ideal) X_arg5) B6 B7 B8 (arg9.view.read (Elt Ideal) X_arg9) (arg10.view.read (Elt Ideal) X_arg10) (arg11.view.read (Elt Ideal) X_arg11) (arg12.view.read (Elt Ideal) X_arg12) B13 D)
    (hr : ∀ (h : Fin 8) (q : Fin 128), arg17.view.read (Elt Ideal) X_arg17 (ix4 0 h 0 q) = B6 (ix3 0 h ⟨128 * k0_t1.val + q.val, by have := trips1 k0_t1; omega⟩))
    (hk : ∀ (h : Fin 8) (q : Fin 128), arg17.view.read (Elt Ideal) X_arg17 (ix4 1 h 0 q) = B7 (ix3 0 h ⟨128 * k0_t1.val + q.val, by have := trips1 k0_t1; omega⟩))
    (hv : ∀ (h : Fin 8) (q : Fin 128), arg17.view.read (Elt Ideal) X_arg17 (ix4 2 h 0 q) = B8 (ix3 0 h ⟨128 * k0_t1.val + q.val, by have := trips1 k0_t1; omega⟩))
    (h59 : Rows v59) (h60 : Cols v60) (hm : ∀ k, MaskHyp v79 v87 v92 (unitD D k0_t1 k))
    (hx : ∀ (h : Fin 8) (p j : Fin 64), arg16.view.read (Elt Ideal) G_arg16 (ix3 h p j) = ((D h).state (128 * k0_t1.val) p j : EReal)) :
    ∀ n : ℕ, n ≤ 8 →
      (∀ (h : Fin 8) (p : Fin 64) (q : Fin 512), arg14.view.read (Elt Ideal) (arg14.view.writes (Elt Ideal) G_arg14 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v59 v60 k0_t1 v70 v79 v87 v92 X_arg3 X_arg4 X_arg5 X_arg9 X_arg10 X_arg11 X_arg12 X_arg17 G_arg14 G_arg16 n).1) (ix4 0 h p q)
        = if h.val < n ∧ 128 * k0_t1.val ≤ q.val ∧ q.val < 128 * k0_t1.val + 128 then ((D h).out p q : EReal) else arg14.view.read (Elt Ideal) G_arg14 (ix4 0 h p q))
      ∧ (∀ (h : Fin 8) (p j : Fin 64), arg16.view.read (Elt Ideal) (arg16.view.writes (Elt Ideal) G_arg16 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v59 v60 k0_t1 v70 v79 v87 v92 X_arg3 X_arg4 X_arg5 X_arg9 X_arg10 X_arg11 X_arg12 X_arg17 G_arg14 G_arg16 n).2) (ix3 h p j)
        = if h.val < n then ((D h).state (128 * k0_t1.val + 128) p j : EReal) else arg16.view.read (Elt Ideal) G_arg16 (ix3 h p j)) := by
  intro n
  induction n with
  | zero =>
    intro _
    refine ⟨fun h p q => ?_, fun h p j => ?_⟩
    · rw [if_neg (by omega)]; rfl
    · rw [if_neg (by omega)]; rfl
  | succ n ih =>
    intro hn
    obtain ⟨ih1, ih2⟩ := ih (by omega)
    have hkn : n < k0_t2_loop.trips := lt_of_lt_of_eq (show n < 8 by omega) (by decide)
    have hu := trips1 k0_t1
    have hh := hyp_of (B6 := B6) (B7 := B7) (B8 := B8) (B13 := B13) (D := D) arg3 arg4 arg5 arg9 arg10 arg11 arg12 arg16 arg17 v59 v60 v79 v87 v92 X_arg3 X_arg4 X_arg5 X_arg9 X_arg10 X_arg11 X_arg12 X_arg17 k0_t1 ⟨n, hkn⟩
      (arg16.view.writes (Elt Ideal) G_arg16 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v59 v60 k0_t1 v70 v79 v87 v92 X_arg3 X_arg4 X_arg5 X_arg9 X_arg10 X_arg11 X_arg12 X_arg17 G_arg14 G_arg16 n).2) H hr hk hv h59 h60 (hm _)
      (fun p j => by rw [ih2, if_neg (lt_irrefl n)]; exact hx _ p j)
    have e := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v59 v60 k0_t1 v70 v79 v87 v92 X_arg3 X_arg4 X_arg5 X_arg9 X_arg10 X_arg11 X_arg12 X_arg17 G_arg14 G_arg16 ⟨n, hkn⟩
    rw [tripL_eq] at e
    simp only at e
    rw [e]
    refine ⟨fun h p q => ?_, fun h p j => ?_⟩
    · by_cases hc : h.val = n ∧ 128 * k0_t1.val ≤ q.val ∧ q.val < 128 * k0_t1.val + 128
      · rw [if_pos ⟨by omega, hc.2⟩]
        refine (View.read_writes_cons_unit_of_mem _ _ _ _ _ (ix4 0 h p q) (ix4 (n0 := 1) (n1 := 1) 0 0 p ⟨q.val - 128 * k0_t1.val, by omega⟩) (off3_val k0_t1 ⟨n, hkn⟩) ?_).trans ?_
        · intro a; fin_cases a <;> simp [ix4] <;> omega
        · refine (y_eq hh p _).trans ?_
          unfold unitD
          rw [Data.drop_out]
          have e8 : (⟨n, trips2 ⟨n, hkn⟩⟩ : Fin 8) = h := Fin.ext hc.1.symm
          have eq : 128 * k0_t1.val + (q.val - 128 * k0_t1.val) = q.val := by omega
          simp only [e8, eq]
      · have hr1 : ¬ (n ≤ h.val ∧ h.val < n + 1 ∧ 128 * k0_t1.val ≤ q.val ∧ q.val < 128 * k0_t1.val + 128) := by omega
        refine Eq.trans ?_ ((ih1 h p q).trans ?_)
        · by_cases hc1 : h.val = n
          · exact View.read_writes_cons_unit_of_not_mem _ _ _ _ _ (ix4 0 h p q) (off3_val k0_t1 ⟨n, hkn⟩) 3 (by
              show q.val < 128 * k0_t1.val ∨ 128 * k0_t1.val + 128 ≤ q.val
              omega)
          · exact View.read_writes_cons_unit_of_not_mem _ _ _ _ _ (ix4 0 h p q) (off3_val k0_t1 ⟨n, hkn⟩) 1 (by
              show h.val < n ∨ n + 1 ≤ h.val
              omega)
        · by_cases hc2 : h.val < n ∧ 128 * k0_t1.val ≤ q.val ∧ q.val < 128 * k0_t1.val + 128
          · rw [if_pos hc2, if_pos ⟨by omega, hc2.2⟩]
          · rw [if_neg hc2, if_neg (by omega)]
    · by_cases hc : h.val = n
      · rw [if_pos (by omega)]
        refine (View.read_writes_cons_unit_of_mem _ _ _ _ _ (ix3 h p j) (ix3 (n0 := 1) 0 p j) (off8_val ⟨n, hkn⟩) ?_).trans ?_
        · intro a; fin_cases a <;> simp [ix3] <;> omega
        · refine (s_eq hh p j).trans ?_
          unfold unitD
          rw [Data.drop_state]
          have e8 : (⟨n, trips2 ⟨n, hkn⟩⟩ : Fin 8) = h := Fin.ext hc.symm
          simp only [e8]
      · refine Eq.trans ?_ ((ih2 h p j).trans ?_)
        · exact View.read_writes_cons_unit_of_not_mem _ _ _ _ _ (ix3 h p j) (off8_val ⟨n, hkn⟩) 0 (by
              show h.val < n ∨ n + 1 ≤ h.val
              omega)
        · by_cases hc2 : h.val < n
          · rw [if_pos hc2, if_pos (by omega)]
          · rw [if_neg hc2, if_neg (by omega)]

end

end Cert.Proof.KI

end
-- ==== Proof.UnitLoop.lean ====
/-
  The loop over the four units of 128 tokens of a block, with what the result block and the states hold.
-/
module

public import proofs.«01_k».proof.Proof.Heads
public import proofs.«01_k».proof.Proof.Gen.KernelIdeal.Frame
public import proofs.«01_k».proof.Proof.Gen.KernelIdeal.Points
public import Idealize.ShloMosaic.Lib.Pipeline.FrameSuffix

@[expose] public section

set_option warn.classDefReducibility false
set_option maxRecDepth 16384

noncomputable section

namespace Cert.Proof.KI

open Cert.KernelIdeal Cert.KernelIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the assertions speak of. -/
local notation "𝕄" => MT nD τ sig Unit (Elt Ideal) ℕ (UR sig nD τ) ℕ

/-- A block of results holds those of the first `n` tokens. -/
def Outs (D : Fin 8 → Data) (n : ℕ) (B : Vec Ideal S1x8x64x512 .bf16) : Prop :=
  ∀ (h : Fin 8) (p : Fin 64) (q : Fin 512), q.val < n → B (ix4 0 h p q) = ((D h).out p q : EReal)

/-- A block of states holds those after `n` tokens. -/
def States (D : Fin 8 → Data) (n : ℕ) (B : Vec Ideal S8x64x64 .f32) : Prop :=
  ∀ (h : Fin 8) (p j : Fin 64), B (ix3 h p j) = ((D h).state n p j : EReal)

/-- Where the loads of a unit's rows lie. -/
theorem ld3 (M : Memref sig .tc .vmem S1x8x512 .f32) (X : BufTy.Contents (Elt Ideal) M.view.ty) (u : Fin k0_t1_loop.trips) (h : Fin 8) (q : Fin 128) :
    M.view.readAt (Elt Ideal) (Rect.unit (s := S1x8x512) (k0_off2 u) S1x8x128.size (k0_off2_inb u)).toLoadRect X (ix3 0 h q)
      = M.view.read (Elt Ideal) X (ix3 0 h ⟨128 * u.val + q.val, by have := trips1 u; omega⟩) :=
  congrArg (M.view.read (Elt Ideal) X) (idx3 _ _ (off2_val u) _ _ fun a => by fin_cases a <;> simp [ix3])
/-- A load of a unit's segment starts. -/
theorem ld1 (M : Memref sig .tc .vmem S1x1x512 .f32) (X : BufTy.Contents (Elt Ideal) M.view.ty) (u : Fin k0_t1_loop.trips) (q : Fin 128) :
    M.view.readAt (Elt Ideal) (Rect.unit (s := S1x1x512) (k0_off1 u) S1x1x128.size (k0_off1_inb u)).toLoadRect X (ix3 0 0 q)
      = M.view.read (Elt Ideal) X (ix3 0 0 ⟨128 * u.val + q.val, by have := trips1 u; omega⟩) :=
  congrArg (M.view.read (Elt Ideal) X) (idx3 _ _ (off1_val u) _ _ fun a => by fin_cases a <;> simp [ix3])

/-! ### One head's row of a block of scales -/

/-- Row 0 of a block of scales. -/
theorem row0 (v : Vec Ideal S1x8x128 .f32) (q : Fin 128) : shapeCast S1x1x1x128 (extractStridedSlice S1x128 ![0, 0] (shapeCast S8x128 v shapeCasts_S1x8x128_S8x128) slices_S8x128_o0_0_S1x128) shapeCasts_S1x128_S1x1x1x128 (ix4 0 0 0 q) = v (ix3 0 0 q) := by
  pointwise
/-- Row 1 of a block of scales. -/
theorem row1 (v : Vec Ideal S1x8x128 .f32) (q : Fin 128) : shapeCast S1x1x1x128 (extractStridedSlice S1x128 ![1, 0] (shapeCast S8x128 v shapeCasts_S1x8x128_S8x128) slices_S8x128_o1_0_S1x128) shapeCasts_S1x128_S1x1x1x128 (ix4 0 0 0 q) = v (ix3 0 1 q) := by
  pointwise
/-- Row 2 of a block of scales. -/
theorem row2 (v : Vec Ideal S1x8x128 .f32) (q : Fin 128) : shapeCast S1x1x1x128 (extractStridedSlice S1x128 ![2, 0] (shapeCast S8x128 v shapeCasts_S1x8x128_S8x128) slices_S8x128_o2_0_S1x128) shapeCasts_S1x128_S1x1x1x128 (ix4 0 0 0 q) = v (ix3 0 2 q) := by
  pointwise
/-- Row 3 of a block of scales. -/
theorem row3 (v : Vec Ideal S1x8x128 .f32) (q : Fin 128) : shapeCast S1x1x1x128 (extractStridedSlice S1x128 ![3, 0] (shapeCast S8x128 v shapeCasts_S1x8x128_S8x128) slices_S8x128_o3_0_S1x128) shapeCasts_S1x128_S1x1x1x128 (ix4 0 0 0 q) = v (ix3 0 3 q) := by
  pointwise
/-- Row 4 of a block of scales. -/
theorem row4 (v : Vec Ideal S1x8x128 .f32) (q : Fin 128) : shapeCast S1x1x1x128 (extractStridedSlice S1x128 ![4, 0] (shapeCast S8x128 v shapeCasts_S1x8x128_S8x128) slices_S8x128_o4_0_S1x128) shapeCasts_S1x128_S1x1x1x128 (ix4 0 0 0 q) = v (ix3 0 4 q) := by
  pointwise
/-- Row 5 of a block of scales. -/
theorem row5 (v : Vec Ideal S1x8x128 .f32) (q : Fin 128) : shapeCast S1x1x1x128 (extractStridedSlice S1x128 ![5, 0] (shapeCast S8x128 v shapeCasts_S1x8x128_S8x128) slices_S8x128_o5_0_S1x128) shapeCasts_S1x128_S1x1x1x128 (ix4 0 0 0 q) = v (ix3 0 5 q) := by
  pointwise
/-- Row 6 of a block of scales. -/
theorem row6 (v : Vec Ideal S1x8x128 .f32) (q : Fin 128) : shapeCast S1x1x1x128 (extractStridedSlice S1x128 ![6, 0] (shapeCast S8x128 v shapeCasts_S1x8x128_S8x128) slices_S8x128_o6_0_S1x128) shapeCasts_S1x128_S1x1x1x128 (ix4 0 0 0 q) = v (ix3 0 6 q) := by
  pointwise
/-- Row 7 of a block of scales. -/
theorem row7 (v : Vec Ideal S1x8x128 .f32) (q : Fin 128) : shapeCast S1x1x1x128 (extractStridedSlice S1x128 ![7, 0] (shapeCast S8x128 v shapeCasts_S1x8x128_S8x128) slices_S8x128_o7_0_S1x128) shapeCasts_S1x128_S1x1x1x128 (ix4 0 0 0 q) = v (ix3 0 7 q) := by
  pointwise

/-- Where one head's row of scales lies in scratch memory. -/
theorem hz (a : Fin 3) (h : Fin 8) (q : Fin 128) (b : Fin 4) :
    ((ix4 a h 0 q : (⟨4, ![3, 8, 1, 128]⟩ : Shape).Idx) b).val = (![a.val, h.val, 0, 0] : Fin 4 → ℕ) b + ((ix4 0 0 0 q : (⟨4, ![1, 1, 1, 128]⟩ : Shape).Idx) b).val := by
  fin_cases b <;> simp [ix4]

/-- The scale rows, stored one by one, read back. -/
theorem scales (M : Memref sig .tc .vmem S3x8x1x128 .f32) (f : BufTy.Contents (Elt Ideal) M.view.ty)
    (p00 p01 p02 p03 p04 p05 p06 p07 p10 p11 p12 p13 p14 p15 p16 p17 p20 p21 p22 p23 p24 p25 p26 p27 : Vec Ideal S1x1x1x128 .f32) (a : Fin 3) (h : Fin 8) (q : Fin 128) :
    M.view.read (Elt Ideal) (M.view.writes (Elt Ideal) f [⟨Rect.unit (s := S3x8x1x128) ![2, 7, 0, 0] S1x1x1x128.size inb_S3x8x1x128_S1x1x1x128_2_7_0_0, p27⟩, ⟨Rect.unit (s := S3x8x1x128) ![2, 6, 0, 0] S1x1x1x128.size inb_S3x8x1x128_S1x1x1x128_2_6_0_0, p26⟩, ⟨Rect.unit (s := S3x8x1x128) ![2, 5, 0, 0] S1x1x1x128.size inb_S3x8x1x128_S1x1x1x128_2_5_0_0, p25⟩, ⟨Rect.unit (s := S3x8x1x128) ![2, 4, 0, 0] S1x1x1x128.size inb_S3x8x1x128_S1x1x1x128_2_4_0_0, p24⟩, ⟨Rect.unit (s := S3x8x1x128) ![2, 3, 0, 0] S1x1x1x128.size inb_S3x8x1x128_S1x1x1x128_2_3_0_0, p23⟩, ⟨Rect.unit (s := S3x8x1x128) ![2, 2, 0, 0] S1x1x1x128.size inb_S3x8x1x128_S1x1x1x128_2_2_0_0, p22⟩, ⟨Rect.unit (s := S3x8x1x128) ![2, 1, 0, 0] S1x1x1x128.size inb_S3x8x1x128_S1x1x1x128_2_1_0_0, p21⟩, ⟨Rect.unit (s := S3x8x1x128) ![2, 0, 0, 0] S1x1x1x128.size inb_S3x8x1x128_S1x1x1x128_2_0_0_0, p20⟩, ⟨Rect.unit (s := S3x8x1x128) ![1, 7, 0, 0] S1x1x1x128.size inb_S3x8x1x128_S1x1x1x128_1_7_0_0, p17⟩, ⟨Rect.unit (s := S3x8x1x128) ![1, 6, 0, 0] S1x1x1x128.size inb_S3x8x1x128_S1x1x1x128_1_6_0_0, p16⟩, ⟨Rect.unit (s := S3x8x1x128) ![1, 5, 0, 0] S1x1x1x128.size inb_S3x8x1x128_S1x1x1x128_1_5_0_0, p15⟩, ⟨Rect.unit (s := S3x8x1x128) ![1, 4, 0, 0] S1x1x1x128.size inb_S3x8x1x128_S1x1x1x128_1_4_0_0, p14⟩, ⟨Rect.unit (s := S3x8x1x128) ![1, 3, 0, 0] S1x1x1x128.size inb_S3x8x1x128_S1x1x1x128_1_3_0_0, p13⟩, ⟨Rect.unit (s := S3x8x1x128) ![1, 2, 0, 0] S1x1x1x128.size inb_S3x8x1x128_S1x1x1x128_1_2_0_0, p12⟩, ⟨Rect.unit (s := S3x8x1x128) ![1, 1, 0, 0] S1x1x1x128.size inb_S3x8x1x128_S1x1x1x128_1_1_0_0, p11⟩, ⟨Rect.unit (s := S3x8x1x128) ![1, 0, 0, 0] S1x1x1x128.size inb_S3x8x1x128_S1x1x1x128_1_0_0_0, p10⟩, ⟨Rect.unit (s := S3x8x1x128) ![0, 7, 0, 0] S1x1x1x128.size inb_S3x8x1x128_S1x1x1x128_0_7_0_0, p07⟩, ⟨Rect.unit (s := S3x8x1x128) ![0, 6, 0, 0] S1x1x1x128.size inb_S3x8x1x128_S1x1x1x128_0_6_0_0, p06⟩, ⟨Rect.unit (s := S3x8x1x128) ![0, 5, 0, 0] S1x1x1x128.size inb_S3x8x1x128_S1x1x1x128_0_5_0_0, p05⟩, ⟨Rect.unit (s := S3x8x1x128) ![0, 4, 0, 0] S1x1x1x128.size inb_S3x8x1x128_S1x1x1x128_0_4_0_0, p04⟩, ⟨Rect.unit (s := S3x8x1x128) ![0, 3, 0, 0] S1x1x1x128.size inb_S3x8x1x128_S1x1x1x128_0_3_0_0, p03⟩, ⟨Rect.unit (s := S3x8x1x128) ![0, 2, 0, 0] S1x1x1x128.size inb_S3x8x1x128_S1x1x1x128_0_2_0_0, p02⟩, ⟨Rect.unit (s := S3x8x1x128) ![0, 1, 0, 0] S1x1x1x128.size inb_S3x8x1x128_S1x1x1x128_0_1_0_0, p01⟩, ⟨Rect.unit (s := S3x8x1x128) ![0, 0, 0, 0] S1x1x1x128.size inb_S3x8x1x128_S1x1x1x128_0_0_0_0, p00⟩]) (ix4 a h 0 q)
      = (![![p00, p01, p02, p03, p04, p05, p06, p07], ![p10, p11, p12, p13, p14, p15, p16, p17], ![p20, p21, p22, p23, p24, p25, p26, p27]] : Fin 3 → Fin 8 → Vec Ideal S1x1x1x128 .f32) a h (ix4 0 0 0 q) := by
  fin_cases a <;> fin_cases h
  · show M.view.read (Elt Ideal) _ (ix4 0 0 0 q) = p00 (ix4 0 0 0 q)
    refine (View.read_writes_cons_unit_of_not_mem _ _ _ _ _ (ix4 0 0 0 q) rfl 1 (Or.inl (show (0 : ℕ) < 7 by decide))).trans ?_
    refine (View.read_writes_cons_unit_of_not_mem _ _ _ _ _ (ix4 0 0 0 q) rfl 1 (Or.inl (show (0 : ℕ) < 6 by decide))).trans ?_
    refine (View.read_writes_cons_unit_of_not_mem _ _ _ _ _ (ix4 0 0 0 q) rfl 1 (Or.inl (show (0 : ℕ) < 5 by decide))).trans ?_
    refine (View.read_writes_cons_unit_of_not_mem _ _ _ _ _ (ix4 0 0 0 q) rfl 1 (Or.inl (show (0 : ℕ) < 4 by decide))).trans ?_
    refine (View.read_writes_cons_unit_of_not_mem _ _ _ _ _ (ix4 0 0 0 q) rfl 1 (Or.inl (show (0 : ℕ) < 3 by decide))).trans ?_
    refine (View.read_writes_cons_unit_of_not_mem _ _ _ _ _ (ix4 0 0 0 q) rfl 1 (Or.inl (show (0 : ℕ) < 2 by decide))).trans ?_
    refine (View.read_writes_cons_unit_of_not_mem _ _ _ _ _ (ix4 0 0 0 q) rfl 1 (Or.inl (show (0 : ℕ) < 1 by decide))).trans ?_
    refine (View.read_writes_cons_unit_of_not_mem _ _ _ _ _ (ix4 0 0 0 q) rfl 0 (Or.inl (show (0 : ℕ) < 2 by decide))).trans ?_
    refine (View.read_writes_cons_unit_of_not_mem _ _ _ _ _ (ix4 0 0 0 q) rfl 1 (Or.inl (show (0 : ℕ) < 7 by decide))).trans ?_
    refine (View.read_writes_cons_unit_of_not_mem _ _ _ _ _ (ix4 0 0 0 q) rfl 1 (Or.inl (show (0 : ℕ) < 6 by decide))).trans ?_
    refine (View.read_writes_cons_unit_of_not_mem _ _ _ _ _ (ix4 0 0 0 q) rfl 1 (Or.inl (show (0 : ℕ) < 5 by decide))).trans ?_
    refine (View.read_writes_cons_unit_of_not_mem _ _ _ _ _ (ix4 0 0 0 q) rfl 1 (Or.inl (show (0 : ℕ) < 4 by decide))).trans ?_
    refine (View.read_writes_cons_unit_of_not_mem _ _ _ _ _ (ix4 0 0 0 q) rfl 1 (Or.inl (show (0 : ℕ) < 3 by decide))).trans ?_
    refine (View.read_writes_cons_unit_of_not_mem _ _ _ _ _ (ix4 0 0 0 q) rfl 1 (Or.inl (show (0 : ℕ) < 2 by decide))).trans ?_
    refine (View.read_writes_cons_unit_of_not_mem _ _ _ _ _ (ix4 0 0 0 q) rfl 1 (Or.inl (show (0 : ℕ) < 1 by decide))).trans ?_
    refine (View.read_writes_cons_unit_of_not_mem _ _ _ _ _ (ix4 0 0 0 q) rfl 0 (Or.inl (show (0 : ℕ) < 1 by decide))).trans ?_
    refine (View.read_writes_cons_unit_of_not_mem _ _ _ _ _ (ix4 0 0 0 q) rfl 1 (Or.inl (show (0 : ℕ) < 7 by decide))).trans ?_
    refine (View.read_writes_cons_unit_of_not_mem _ _ _ _ _ (ix4 0 0 0 q) rfl 1 (Or.inl (show (0 : ℕ) < 6 by decide))).trans ?_
    refine (View.read_writes_cons_unit_of_not_mem _ _ _ _ _ (ix4 0 0 0 q) rfl 1 (Or.inl (show (0 : ℕ) < 5 by decide))).trans ?_
    refine (View.read_writes_cons_unit_of_not_mem _ _ _ _ _ (ix4 0 0 0 q) rfl 1 (Or.inl (show (0 : ℕ) < 4 by decide))).trans ?_
    refine (View.read_writes_cons_unit_of_not_mem _ _ _ _ _ (ix4 0 0 0 q) rfl 1 (Or.inl (show (0 : ℕ) < 3 by decide))).trans ?_
    refine (View.read_writes_cons_unit_of_not_mem _ _ _ _ _ (ix4 0 0 0 q) rfl 1 (Or.inl (show (0 : ℕ) < 2 by decide))).trans ?_
    refine (View.read_writes_cons_unit_of_not_mem _ _ _ _ _ (ix4 0 0 0 q) rfl 1 (Or.inl (show (0 : ℕ) < 1 by decide))).trans ?_
    exact View.read_writes_cons_unit_of_mem _ _ _ _ _ (ix4 0 0 0 q) (ix4 (n0 := 1) (n1 := 1) (n2 := 1) 0 0 0 q) rfl (hz 0 0 q)
  · show M.view.read (Elt Ideal) _ (ix4 0 1 0 q) = p01 (ix4 0 0 0 q)
    refine (View.read_writes_cons_unit_of_not_mem _ _ _ _ _ (ix4 0 1 0 q) rfl 1 (Or.inl (show (1 : ℕ) < 7 by decide))).trans ?_
    refine (View.read_writes_cons_unit_of_not_mem _ _ _ _ _ (ix4 0 1 0 q) rfl 1 (Or.inl (show (1 : ℕ) < 6 by decide))).trans ?_
    refine (View.read_writes_cons_unit_of_not_mem _ _ _ _ _ (ix4 0 1 0 q) rfl 1 (Or.inl (show (1 : ℕ) < 5 by decide))).trans ?_
    refine (View.read_writes_cons_unit_of_not_mem _ _ _ _ _ (ix4 0 1 0 q) rfl 1 (Or.inl (show (1 : ℕ) < 4 by decide))).trans ?_
    refine (View.read_writes_cons_unit_of_not_mem _ _ _ _ _ (ix4 0 1 0 q) rfl 1 (Or.inl (show (1 : ℕ) < 3 by decide))).trans ?_
    refine (View.read_writes_cons_unit_of_not_mem _ _ _ _ _ (ix4 0 1 0 q) rfl 1 (Or.inl (show (1 : ℕ) < 2 by decide))).trans ?_
    refine (View.read_writes_cons_unit_of_not_mem _ _ _ _ _ (ix4 0 1 0 q) rfl 0 (Or.inl (show (0 : ℕ) < 2 by decide))).trans ?_
    refine (View.read_writes_cons_unit_of_not_mem _ _ _ _ _ (ix4 0 1 0 q) rfl 1 (Or.inr (show (0 : ℕ) + 1 ≤ 1 by decide))).trans ?_
    refine (View.read_writes_cons_unit_of_not_mem _ _ _ _ _ (ix4 0 1 0 q) rfl 1 (Or.inl (show (1 : ℕ) < 7 by decide))).trans ?_
    refine (View.read_writes_cons_unit_of_not_mem _ _ _ _ _ (ix4 0 1 0 q) rfl 1 (Or.inl (show (1 : ℕ) < 6 by decide))).trans ?_
    refine (View.read_writes_cons_unit_of_not_mem _ _ _ _ _ (ix4 0 1 0 q) rfl 1 (Or.inl (show (1 : ℕ) < 5 by decide))).trans ?_
    refine (View.read_writes_cons_unit_of_not_mem _ _ _ _ _ (ix4 0 1 0 q) rfl 1 (Or.inl (show (1 : ℕ) < 4 by decide))).trans ?_
    refine (View.read_writes_cons_unit_of_not_mem _ _ _ _ _ (ix4 0 1 0 q) rfl 1 (Or.inl (show (1 : ℕ) < 3 by decide))).trans ?_
    refine (View.read_writes_cons_unit_of_not_mem _ _ _ _ _ (ix4 0 1 0 q) rfl 1 (Or.inl (show (1 : ℕ) < 2 by decide))).trans ?_
    refine (View.read_writes_cons_unit_of_not_mem _ _ _ _ _ (ix4 0 1 0 q) rfl 0 (Or.inl (show (0 : ℕ) < 1 by decide))).trans ?_
    refine (View.read_writes_cons_unit_of_not_mem _ _ _ _ _ (ix4 0 1 0 q) rfl 1 (Or.inr (show (0 : ℕ) + 1 ≤ 1 by decide))).trans ?_
    refine (View.read_writes_cons_unit_of_not_mem _ _ _ _ _ (ix4 0 1 0 q) rfl 1 (Or.inl (show (1 : ℕ) < 7 by decide))).trans ?_
    refine (View.read_writes_cons_unit_of_not_mem _ _ _ _ _ (ix4 0 1 0 q) rfl 1 (Or.inl (show (1 : ℕ) < 6 by decide))).trans ?_
    refine (View.read_writes_cons_unit_of_not_mem _ _ _ _ _ (ix4 0 1 0 q) rfl 1 (Or.inl (show (1 : ℕ) < 5 by decide))).trans ?_
    refine (View.read_writes_cons_unit_of_not_mem _ _ _ _ _ (ix4 0 1 0 q) rfl 1 (Or.inl (show (1 : ℕ) < 4 by decide))).trans ?_
    refine (View.read_writes_cons_unit_of_not_mem _ _ _ _ _ (ix4 0 1 0 q) rfl 1 (Or.inl (show (1 : ℕ) < 3 by decide))).trans ?_
    refine (View.read_writes_cons_unit_of_not_mem _ _ _ _ _ (ix4 0 1 0 q) rfl 1 (Or.inl (show (1 : ℕ) < 2 by decide))).trans ?_
    exact View.read_writes_cons_unit_of_mem _ _ _ _ _ (ix4 0 1 0 q) (ix4 (n0 := 1) (n1 := 1) (n2 := 1) 0 0 0 q) rfl (hz 0 1 q)
  · show M.view.read (Elt Ideal) _ (ix4 0 2 0 q) = p02 (ix4 0 0 0 q)
    refine (View.read_writes_cons_unit_of_not_mem _ _ _ _ _ (ix4 0 2 0 q) rfl 1 (Or.inl (show (2 : ℕ) < 7 by decide))).trans ?_
    refine (View.read_writes_cons_unit_of_not_mem _ _ _ _ _ (ix4 0 2 0 q) rfl 1 (Or.inl (show (2 : ℕ) < 6 by decide))).trans ?_
    refine (View.read_writes_cons_unit_of_not_mem _ _ _ _ _ (ix4 0 2 0 q) rfl 1 (Or.inl (show (2 : ℕ) < 5 by decide))).trans ?_
    refine (View.read_writes_cons_unit_of_not_mem _ _ _ _ _ (ix4 0 2 0 q) rfl 1 (Or.inl (show (2 : ℕ) < 4 by decide))).trans ?_
    refine (View.read_writes_cons_unit_of_not_mem _ _ _ _ _ (ix4 0 2 0 q) rfl 1 (Or.inl (show (2 : ℕ) < 3 by decide))).trans ?_
    refine (View.read_writes_cons_unit_of_not_mem _ _ _ _ _ (ix4 0 2 0 q) rfl 0 (Or.inl (show (0 : ℕ) < 2 by decide))).trans ?_
    refine (View.read_writes_cons_unit_of_not_mem _ _ _ _ _ (ix4 0 2 0 q) rfl 1 (Or.inr (show (1 : ℕ) + 1 ≤ 2 by decide))).trans ?_
    refine (View.read_writes_cons_unit_of_not_mem _ _ _ _ _ (ix4 0 2 0 q) rfl 1 (Or.inr (show (0 : ℕ) + 1 ≤ 2 by decide))).trans ?_
    refine (View.read_writes_cons_unit_of_not_mem _ _ _ _ _ (ix4 0 2 0 q) rfl 1 (Or.inl (show (2 : ℕ) < 7 by decide))).trans ?_
    refine (View.read_writes_cons_unit_of_not_mem _ _ _ _ _ (ix4 0 2 0 q) rfl 1 (Or.inl (show (2 : ℕ) < 6 by decide))).trans ?_
    refine (View.read_writes_cons_unit_of_not_mem _ _ _ _ _ (ix4 0 2 0 q) rfl 1 (Or.inl (show (2 : ℕ) < 5 by decide))).trans ?_
    refine (View.read_writes_cons_unit_of_not_mem _ _ _ _ _ (ix4 0 2 0 q) rfl 1 (Or.inl (show (2 : ℕ) < 4 by decide))).trans ?_
    refine (View.read_writes_cons_unit_of_not_mem _ _ _ _ _ (ix4 0 2 0 q) rfl 1 (Or.inl (show (2 : ℕ) < 3 by decide))).trans ?_
    refine (View.read_writes_cons_unit_of_not_mem _ _ _ _ _ (ix4 0 2 0 q) rfl 0 (Or.inl (show (0 : ℕ) < 1 by decide))).trans ?_
    refine (View.read_writes_cons_unit_of_not_mem _ _ _ _ _ (ix4 0 2 0 q) rfl 1 (Or.inr (show (1 : ℕ) + 1 ≤ 2 by decide))).trans ?_
    refine (View.read_writes_cons_unit_of_not_mem _ _ _ _ _ (ix4 0 2 0 q) rfl 1 (Or.inr (show (0 : ℕ) + 1 ≤ 2 by decide))).trans ?_
    refine (View.read_writes_cons_unit_of_not_mem _ _ _ _ _ (ix4 0 2 0 q) rfl 1 (Or.inl (show (2 : ℕ) < 7 by decide))).trans ?_
    refine (View.read_writes_cons_unit_of_not_mem _ _ _ _ _ (ix4 0 2 0 q) rfl 1 (Or.inl (show (2 : ℕ) < 6 by decide))).trans ?_
    refine (View.read_writes_cons_unit_of_not_mem _ _ _ _ _ (ix4 0 2 0 q) rfl 1 (Or.inl (show (2 : ℕ) < 5 by decide))).trans ?_
    refine (View.read_writes_cons_unit_of_not_mem _ _ _ _ _ (ix4 0 2 0 q) rfl 1 (Or.inl (show (2 : ℕ) < 4 by decide))).trans ?_
    refine (View.read_writes_cons_unit_of_not_mem _ _ _ _ _ (ix4 0 2 0 q) rfl 1 (Or.inl (show (2 : ℕ) < 3 by decide))).trans ?_
    exact View.read_writes_cons_unit_of_mem _ _ _ _ _ (ix4 0 2 0 q) (ix4 (n0 := 1) (n1 := 1) (n2 := 1) 0 0 0 q) rfl (hz 0 2 q)
  · show M.view.read (Elt Ideal) _ (ix4 0 3 0 q) = p03 (ix4 0 0 0 q)
    refine (View.read_writes_cons_unit_of_not_mem _ _ _ _ _ (ix4 0 3 0 q) rfl 1 (Or.inl (show (3 : ℕ) < 7 by decide))).trans ?_
    refine (View.read_writes_cons_unit_of_not_mem _ _ _ _ _ (ix4 0 3 0 q) rfl 1 (Or.inl (show (3 : ℕ) < 6 by decide))).trans ?_
    refine (View.read_writes_cons_unit_of_not_mem _ _ _ _ _ (ix4 0 3 0 q) rfl 1 (Or.inl (show (3 : ℕ) < 5 by decide))).trans ?_
    refine (View.read_writes_cons_unit_of_not_mem _ _ _ _ _ (ix4 0 3 0 q) rfl 1 (Or.inl (show (3 : ℕ) < 4 by decide))).trans ?_
    refine (View.read_writes_cons_unit_of_not_mem _ _ _ _ _ (ix4 0 3 0 q) rfl 0 (Or.inl (show (0 : ℕ) < 2 by decide))).trans ?_
    refine (View.read_writes_cons_unit_of_not_mem _ _ _ _ _ (ix4 0 3 0 q) rfl 1 (Or.inr (show (2 : ℕ) + 1 ≤ 3 by decide))).trans ?_
    refine (View.read_writes_cons_unit_of_not_mem _ _ _ _ _ (ix4 0 3 0 q) rfl 1 (Or.inr (show (1 : ℕ) + 1 ≤ 3 by decide))).trans ?_
    refine (View.read_writes_cons_unit_of_not_mem _ _ _ _ _ (ix4 0 3 0 q) rfl 1 (Or.inr (show (0 : ℕ) + 1 ≤ 3 by decide))).trans ?_
    refine (View.read_writes_cons_unit_of_not_mem _ _ _ _ _ (ix4 0 3 0 q) rfl 1 (Or.inl (show (3 : ℕ) < 7 by decide))).trans ?_
    refine (View.read_writes_cons_unit_of_not_mem _ _ _ _ _ (ix4 0 3 0 q) rfl 1 (Or.inl (show (3 : ℕ) < 6 by decide))).trans ?_
    refine (View.read_writes_cons_unit_of_not_mem _ _ _ _ _ (ix4 0 3 0 q) rfl 1 (Or.inl (show (3 : ℕ) < 5 by decide))).trans ?_
    refine (View.read_writes_cons_unit_of_not_mem _ _ _ _ _ (ix4 0 3 0 q) rfl 1 (Or.inl (show (3 : ℕ) < 4 by decide))).trans ?_
    refine (View.read_writes_cons_unit_of_not_mem _ _ _ _ _ (ix4 0 3 0 q) rfl 0 (Or.inl (show (0 : ℕ) < 1 by decide))).trans ?_
    refine (View.read_writes_cons_unit_of_not_mem _ _ _ _ _ (ix4 0 3 0 q) rfl 1 (Or.inr (show (2 : ℕ) + 1 ≤ 3 by decide))).trans ?_
    refine (View.read_writes_cons_unit_of_not_mem _ _ _ _ _ (ix4 0 3 0 q) rfl 1 (Or.inr (show (1 : ℕ) + 1 ≤ 3 by decide))).trans ?_
    refine (View.read_writes_cons_unit_of_not_mem _ _ _ _ _ (ix4 0 3 0 q) rfl 1 (Or.inr (show (0 : ℕ) + 1 ≤ 3 by decide))).trans ?_
    refine (View.read_writes_cons_unit_of_not_mem _ _ _ _ _ (ix4 0 3 0 q) rfl 1 (Or.inl (show (3 : ℕ) < 7 by decide))).trans ?_
    refine (View.read_writes_cons_unit_of_not_mem _ _ _ _ _ (ix4 0 3 0 q) rfl 1 (Or.inl (show (3 : ℕ) < 6 by decide))).trans ?_
    refine (View.read_writes_cons_unit_of_not_mem _ _ _ _ _ (ix4 0 3 0 q) rfl 1 (Or.inl (show (3 : ℕ) < 5 by decide))).trans ?_
    refine (View.read_writes_cons_unit_of_not_mem _ _ _ _ _ (ix4 0 3 0 q) rfl 1 (Or.inl (show (3 : ℕ) < 4 by decide))).trans ?_
    exact View.read_writes_cons_unit_of_mem _ _ _ _ _ (ix4 0 3 0 q) (ix4 (n0 := 1) (n1 := 1) (n2 := 1) 0 0 0 q) rfl (hz 0 3 q)
  · show M.view.read (Elt Ideal) _ (ix4 0 4 0 q) = p04 (ix4 0 0 0 q)
    refine (View.read_writes_cons_unit_of_not_mem _ _ _ _ _ (ix4 0 4 0 q) rfl 1 (Or.inl (show (4 : ℕ) < 7 by decide))).trans ?_
    refine (View.read_writes_cons_unit_of_not_mem _ _ _ _ _ (ix4 0 4 0 q) rfl 1 (Or.inl (show (4 : ℕ) < 6 by decide))).trans ?_
    refine (View.read_writes_cons_unit_of_not_mem _ _ _ _ _ (ix4 0 4 0 q) rfl 1 (Or.inl (show (4 : ℕ) < 5 by decide))).trans ?_
    refine (View.read_writes_cons_unit_of_not_mem _ _ _ _ _ (ix4 0 4 0 q) rfl 0 (Or.inl (show (0 : ℕ) < 2 by decide))).trans ?_
    refine (View.read_writes_cons_unit_of_not_mem _ _ _ _ _ (ix4 0 4 0 q) rfl 1 (Or.inr (show (3 : ℕ) + 1 ≤ 4 by decide))).trans ?_
    refine (View.read_writes_cons_unit_of_not_mem _ _ _ _ _ (ix4 0 4 0 q) rfl 1 (Or.inr (show (2 : ℕ) + 1 ≤ 4 by decide))).trans ?_
    refine (View.read_writes_cons_unit_of_not_mem _ _ _ _ _ (ix4 0 4 0 q) rfl 1 (Or.inr (show (1 : ℕ) + 1 ≤ 4 by decide))).trans ?_
    refine (View.read_writes_cons_unit_of_not_mem _ _ _ _ _ (ix4 0 4 0 q) rfl 1 (Or.inr (show (0 : ℕ) + 1 ≤ 4 by decide))).trans ?_
    refine (View.read_writes_cons_unit_of_not_mem _ _ _ _ _ (ix4 0 4 0 q) rfl 1 (Or.inl (show (4 : ℕ) < 7 by decide))).trans ?_
    refine (View.read_writes_cons_unit_of_not_mem _ _ _ _ _ (ix4 0 4 0 q) rfl 1 (Or.inl (show (4 : ℕ) < 6 by decide))).trans ?_
    refine (View.read_writes_cons_unit_of_not_mem _ _ _ _ _ (ix4 0 4 0 q) rfl 1 (Or.inl (show (4 : ℕ) < 5 by decide))).trans ?_
    refine (View.read_writes_cons_unit_of_not_mem _ _ _ _ _ (ix4 0 4 0 q) rfl 0 (Or.inl (show (0 : ℕ) < 1 by decide))).trans ?_
    refine (View.read_writes_cons_unit_of_not_mem _ _ _ _ _ (ix4 0 4 0 q) rfl 1 (Or.inr (show (3 : ℕ) + 1 ≤ 4 by decide))).trans ?_
    refine (View.read_writes_cons_unit_of_not_mem _ _ _ _ _ (ix4 0 4 0 q) rfl 1 (Or.inr (show (2 : ℕ) + 1 ≤ 4 by decide))).trans ?_
    refine (View.read_writes_cons_unit_of_not_mem _ _ _ _ _ (ix4 0 4 0 q) rfl 1 (Or.inr (show (1 : ℕ) + 1 ≤ 4 by decide))).trans ?_
    refine (View.read_writes_cons_unit_of_not_mem _ _ _ _ _ (ix4 0 4 0 q) rfl 1 (Or.inr (show (0 : ℕ) + 1 ≤ 4 by decide))).trans ?_
    refine (View.read_writes_cons_unit_of_not_mem _ _ _ _ _ (ix4 0 4 0 q) rfl 1 (Or.inl (show (4 : ℕ) < 7 by decide))).trans ?_
    refine (View.read_writes_cons_unit_of_not_mem _ _ _ _ _ (ix4 0 4 0 q) rfl 1 (Or.inl (show (4 : ℕ) < 6 by decide))).trans ?_
    refine (View.read_writes_cons_unit_of_not_mem _ _ _ _ _ (ix4 0 4 0 q) rfl 1 (Or.inl (show (4 : ℕ) < 5 by decide))).trans ?_
    exact View.read_writes_cons_unit_of_mem _ _ _ _ _ (ix4 0 4 0 q) (ix4 (n0 := 1) (n1 := 1) (n2 := 1) 0 0 0 q) rfl (hz 0 4 q)
  · show M.view.read (Elt Ideal) _ (ix4 0 5 0 q) = p05 (ix4 0 0 0 q)
    refine (View.read_writes_cons_unit_of_not_mem _ _ _ _ _ (ix4 0 5 0 q) rfl 1 (Or.inl (show (5 : ℕ) < 7 by decide))).trans ?_
    refine (View.read_writes_cons_unit_of_not_mem _ _ _ _ _ (ix4 0 5 0 q) rfl 1 (Or.inl (show (5 : ℕ) < 6 by decide))).trans ?_
    refine (View.read_writes_cons_unit_of_not_mem _ _ _ _ _ (ix4 0 5 0 q) rfl 0 (Or.inl (show (0 : ℕ) < 2 by decide))).trans ?_
    refine (View.read_writes_cons_unit_of_not_mem _ _ _ _ _ (ix4 0 5 0 q) rfl 1 (Or.inr (show (4 : ℕ) + 1 ≤ 5 by decide))).trans ?_
    refine (View.read_writes_cons_unit_of_not_mem _ _ _ _ _ (ix4 0 5 0 q) rfl 1 (Or.inr (show (3 : ℕ) + 1 ≤ 5 by decide))).trans ?_
    refine (View.read_writes_cons_unit_of_not_mem _ _ _ _ _ (ix4 0 5 0 q) rfl 1 (Or.inr (show (2 : ℕ) + 1 ≤ 5 by decide))).trans ?_
    refine (View.read_writes_cons_unit_of_not_mem _ _ _ _ _ (ix4 0 5 0 q) rfl 1 (Or.inr (show (1 : ℕ) + 1 ≤ 5 by decide))).trans ?_
    refine (View.read_writes_cons_unit_of_not_mem _ _ _ _ _ (ix4 0 5 0 q) rfl 1 (Or.inr (show (0 : ℕ) + 1 ≤ 5 by decide))).trans ?_
    refine (View.read_writes_cons_unit_of_not_mem _ _ _ _ _ (ix4 0 5 0 q) rfl 1 (Or.inl (show (5 : ℕ) < 7 by decide))).trans ?_
    refine (View.read_writes_cons_unit_of_not_mem _ _ _ _ _ (ix4 0 5 0 q) rfl 1 (Or.inl (show (5 : ℕ) < 6 by decide))).trans ?_
    refine (View.read_writes_cons_unit_of_not_mem _ _ _ _ _ (ix4 0 5 0 q) rfl 0 (Or.inl (show (0 : ℕ) < 1 by decide))).trans ?_
    refine (View.read_writes_cons_unit_of_not_mem _ _ _ _ _ (ix4 0 5 0 q) rfl 1 (Or.inr (show (4 : ℕ) + 1 ≤ 5 by decide))).trans ?_
    refine (View.read_writes_cons_unit_of_not_mem _ _ _ _ _ (ix4 0 5 0 q) rfl 1 (Or.inr (show (3 : ℕ) + 1 ≤ 5 by decide))).trans ?_
    refine (View.read_writes_cons_unit_of_not_mem _ _ _ _ _ (ix4 0 5 0 q) rfl 1 (Or.inr (show (2 : ℕ) + 1 ≤ 5 by decide))).trans ?_
    refine (View.read_writes_cons_unit_of_not_mem _ _ _ _ _ (ix4 0 5 0 q) rfl 1 (Or.inr (show (1 : ℕ) + 1 ≤ 5 by decide))).trans ?_
    refine (View.read_writes_cons_unit_of_not_mem _ _ _ _ _ (ix4 0 5 0 q) rfl 1 (Or.inr (show (0 : ℕ) + 1 ≤ 5 by decide))).trans ?_
    refine (View.read_writes_cons_unit_of_not_mem _ _ _ _ _ (ix4 0 5 0 q) rfl 1 (Or.inl (show (5 : ℕ) < 7 by decide))).trans ?_
    refine (View.read_writes_cons_unit_of_not_mem _ _ _ _ _ (ix4 0 5 0 q) rfl 1 (Or.inl (show (5 : ℕ) < 6 by decide))).trans ?_
    exact View.read_writes_cons_unit_of_mem _ _ _ _ _ (ix4 0 5 0 q) (ix4 (n0 := 1) (n1 := 1) (n2 := 1) 0 0 0 q) rfl (hz 0 5 q)
  · show M.view.read (Elt Ideal) _ (ix4 0 6 0 q) = p06 (ix4 0 0 0 q)
    refine (View.read_writes_cons_unit_of_not_mem _ _ _ _ _ (ix4 0 6 0 q) rfl 1 (Or.inl (show (6 : ℕ) < 7 by decide))).trans ?_
    refine (View.read_writes_cons_unit_of_not_mem _ _ _ _ _ (ix4 0 6 0 q) rfl 0 (Or.inl (show (0 : ℕ) < 2 by decide))).trans ?_
    refine (View.read_writes_cons_unit_of_not_mem _ _ _ _ _ (ix4 0 6 0 q) rfl 1 (Or.inr (show (5 : ℕ) + 1 ≤ 6 by decide))).trans ?_
    refine (View.read_writes_cons_unit_of_not_mem _ _ _ _ _ (ix4 0 6 0 q) rfl 1 (Or.inr (show (4 : ℕ) + 1 ≤ 6 by decide))).trans ?_
    refine (View.read_writes_cons_unit_of_not_mem _ _ _ _ _ (ix4 0 6 0 q) rfl 1 (Or.inr (show (3 : ℕ) + 1 ≤ 6 by decide))).trans ?_
    refine (View.read_writes_cons_unit_of_not_mem _ _ _ _ _ (ix4 0 6 0 q) rfl 1 (Or.inr (show (2 : ℕ) + 1 ≤ 6 by decide))).trans ?_
    refine (View.read_writes_cons_unit_of_not_mem _ _ _ _ _ (ix4 0 6 0 q) rfl 1 (Or.inr (show (1 : ℕ) + 1 ≤ 6 by decide))).trans ?_
    refine (View.read_writes_cons_unit_of_not_mem _ _ _ _ _ (ix4 0 6 0 q) rfl 1 (Or.inr (show (0 : ℕ) + 1 ≤ 6 by decide))).trans ?_
    refine (View.read_writes_cons_unit_of_not_mem _ _ _ _ _ (ix4 0 6 0 q) rfl 1 (Or.inl (show (6 : ℕ) < 7 by decide))).trans ?_
    refine (View.read_writes_cons_unit_of_not_mem _ _ _ _ _ (ix4 0 6 0 q) rfl 0 (Or.inl (show (0 : ℕ) < 1 by decide))).trans ?_
    refine (View.read_writes_cons_unit_of_not_mem _ _ _ _ _ (ix4 0 6 0 q) rfl 1 (Or.inr (show (5 : ℕ) + 1 ≤ 6 by decide))).trans ?_
    refine (View.read_writes_cons_unit_of_not_mem _ _ _ _ _ (ix4 0 6 0 q) rfl 1 (Or.inr (show (4 : ℕ) + 1 ≤ 6 by decide))).trans ?_
    refine (View.read_writes_cons_unit_of_not_mem _ _ _ _ _ (ix4 0 6 0 q) rfl 1 (Or.inr (show (3 : ℕ) + 1 ≤ 6 by decide))).trans ?_
    refine (View.read_writes_cons_unit_of_not_mem _ _ _ _ _ (ix4 0 6 0 q) rfl 1 (Or.inr (show (2 : ℕ) + 1 ≤ 6 by decide))).trans ?_
    refine (View.read_writes_cons_unit_of_not_mem _ _ _ _ _ (ix4 0 6 0 q) rfl 1 (Or.inr (show (1 : ℕ) + 1 ≤ 6 by decide))).trans ?_
    refine (View.read_writes_cons_unit_of_not_mem _ _ _ _ _ (ix4 0 6 0 q) rfl 1 (Or.inr (show (0 : ℕ) + 1 ≤ 6 by decide))).trans ?_
    refine (View.read_writes_cons_unit_of_not_mem _ _ _ _ _ (ix4 0 6 0 q) rfl 1 (Or.inl (show (6 : ℕ) < 7 by decide))).trans ?_
    exact View.read_writes_cons_unit_of_mem _ _ _ _ _ (ix4 0 6 0 q) (ix4 (n0 := 1) (n1 := 1) (n2 := 1) 0 0 0 q) rfl (hz 0 6 q)
  · show M.view.read (Elt Ideal) _ (ix4 0 7 0 q) = p07 (ix4 0 0 0 q)
    refine (View.read_writes_cons_unit_of_not_mem _ _ _ _ _ (ix4 0 7 0 q) rfl 0 (Or.inl (show (0 : ℕ) < 2 by decide))).trans ?_
    refine (View.read_writes_cons_unit_of_not_mem _ _ _ _ _ (ix4 0 7 0 q) rfl 1 (Or.inr (show (6 : ℕ) + 1 ≤ 7 by decide))).trans ?_
    refine (View.read_writes_cons_unit_of_not_mem _ _ _ _ _ (ix4 0 7 0 q) rfl 1 (Or.inr (show (5 : ℕ) + 1 ≤ 7 by decide))).trans ?_
    refine (View.read_writes_cons_unit_of_not_mem _ _ _ _ _ (ix4 0 7 0 q) rfl 1 (Or.inr (show (4 : ℕ) + 1 ≤ 7 by decide))).trans ?_
    refine (View.read_writes_cons_unit_of_not_mem _ _ _ _ _ (ix4 0 7 0 q) rfl 1 (Or.inr (show (3 : ℕ) + 1 ≤ 7 by decide))).trans ?_
    refine (View.read_writes_cons_unit_of_not_mem _ _ _ _ _ (ix4 0 7 0 q) rfl 1 (Or.inr (show (2 : ℕ) + 1 ≤ 7 by decide))).trans ?_
    refine (View.read_writes_cons_unit_of_not_mem _ _ _ _ _ (ix4 0 7 0 q) rfl 1 (Or.inr (show (1 : ℕ) + 1 ≤ 7 by decide))).trans ?_
    refine (View.read_writes_cons_unit_of_not_mem _ _ _ _ _ (ix4 0 7 0 q) rfl 1 (Or.inr (show (0 : ℕ) + 1 ≤ 7 by decide))).trans ?_
    refine (View.read_writes_cons_unit_of_not_mem _ _ _ _ _ (ix4 0 7 0 q) rfl 0 (Or.inl (show (0 : ℕ) < 1 by decide))).trans ?_
    refine (View.read_writes_cons_unit_of_not_mem _ _ _ _ _ (ix4 0 7 0 q) rfl 1 (Or.inr (show (6 : ℕ) + 1 ≤ 7 by decide))).trans ?_
    refine (View.read_writes_cons_unit_of_not_mem _ _ _ _ _ (ix4 0 7 0 q) rfl 1 (Or.inr (show (5 : ℕ) + 1 ≤ 7 by decide))).trans ?_
    refine (View.read_writes_cons_unit_of_not_mem _ _ _ _ _ (ix4 0 7 0 q) rfl 1 (Or.inr (show (4 : ℕ) + 1 ≤ 7 by decide))).trans ?_
    refine (View.read_writes_cons_unit_of_not_mem _ _ _ _ _ (ix4 0 7 0 q) rfl 1 (Or.inr (show (3 : ℕ) + 1 ≤ 7 by decide))).trans ?_
    refine (View.read_writes_cons_unit_of_not_mem _ _ _ _ _ (ix4 0 7 0 q) rfl 1 (Or.inr (show (2 : ℕ) + 1 ≤ 7 by decide))).trans ?_
    refine (View.read_writes_cons_unit_of_not_mem _ _ _ _ _ (ix4 0 7 0 q) rfl 1 (Or.inr (show (1 : ℕ) + 1 ≤ 7 by decide))).trans ?_
    refine (View.read_writes_cons_unit_of_not_mem _ _ _ _ _ (ix4 0 7 0 q) rfl 1 (Or.inr (show (0 : ℕ) + 1 ≤ 7 by decide))).trans ?_
    exact View.read_writes_cons_unit_of_mem _ _ _ _ _ (ix4 0 7 0 q) (ix4 (n0 := 1) (n1 := 1) (n2 := 1) 0 0 0 q) rfl (hz 0 7 q)
  · show M.view.read (Elt Ideal) _ (ix4 1 0 0 q) = p10 (ix4 0 0 0 q)
    refine (View.read_writes_cons_unit_of_not_mem _ _ _ _ _ (ix4 1 0 0 q) rfl 1 (Or.inl (show (0 : ℕ) < 7 by decide))).trans ?_
    refine (View.read_writes_cons_unit_of_not_mem _ _ _ _ _ (ix4 1 0 0 q) rfl 1 (Or.inl (show (0 : ℕ) < 6 by decide))).trans ?_
    refine (View.read_writes_cons_unit_of_not_mem _ _ _ _ _ (ix4 1 0 0 q) rfl 1 (Or.inl (show (0 : ℕ) < 5 by decide))).trans ?_
    refine (View.read_writes_cons_unit_of_not_mem _ _ _ _ _ (ix4 1 0 0 q) rfl 1 (Or.inl (show (0 : ℕ) < 4 by decide))).trans ?_
    refine (View.read_writes_cons_unit_of_not_mem _ _ _ _ _ (ix4 1 0 0 q) rfl 1 (Or.inl (show (0 : ℕ) < 3 by decide))).trans ?_
    refine (View.read_writes_cons_unit_of_not_mem _ _ _ _ _ (ix4 1 0 0 q) rfl 1 (Or.inl (show (0 : ℕ) < 2 by decide))).trans ?_
    refine (View.read_writes_cons_unit_of_not_mem _ _ _ _ _ (ix4 1 0 0 q) rfl 1 (Or.inl (show (0 : ℕ) < 1 by decide))).trans ?_
    refine (View.read_writes_cons_unit_of_not_mem _ _ _ _ _ (ix4 1 0 0 q) rfl 0 (Or.inl (show (1 : ℕ) < 2 by decide))).trans ?_
    refine (View.read_writes_cons_unit_of_not_mem _ _ _ _ _ (ix4 1 0 0 q) rfl 1 (Or.inl (show (0 : ℕ) < 7 by decide))).trans ?_
    refine (View.read_writes_cons_unit_of_not_mem _ _ _ _ _ (ix4 1 0 0 q) rfl 1 (Or.inl (show (0 : ℕ) < 6 by decide))).trans ?_
    refine (View.read_writes_cons_unit_of_not_mem _ _ _ _ _ (ix4 1 0 0 q) rfl 1 (Or.inl (show (0 : ℕ) < 5 by decide))).trans ?_
    refine (View.read_writes_cons_unit_of_not_mem _ _ _ _ _ (ix4 1 0 0 q) rfl 1 (Or.inl (show (0 : ℕ) < 4 by decide))).trans ?_
    refine (View.read_writes_cons_unit_of_not_mem _ _ _ _ _ (ix4 1 0 0 q) rfl 1 (Or.inl (show (0 : ℕ) < 3 by decide))).trans ?_
    refine (View.read_writes_cons_unit_of_not_mem _ _ _ _ _ (ix4 1 0 0 q) rfl 1 (Or.inl (show (0 : ℕ) < 2 by decide))).trans ?_
    refine (View.read_writes_cons_unit_of_not_mem _ _ _ _ _ (ix4 1 0 0 q) rfl 1 (Or.inl (show (0 : ℕ) < 1 by decide))).trans ?_
    exact View.read_writes_cons_unit_of_mem _ _ _ _ _ (ix4 1 0 0 q) (ix4 (n0 := 1) (n1 := 1) (n2 := 1) 0 0 0 q) rfl (hz 1 0 q)
  · show M.view.read (Elt Ideal) _ (ix4 1 1 0 q) = p11 (ix4 0 0 0 q)
    refine (View.read_writes_cons_unit_of_not_mem _ _ _ _ _ (ix4 1 1 0 q) rfl 1 (Or.inl (show (1 : ℕ) < 7 by decide))).trans ?_
    refine (View.read_writes_cons_unit_of_not_mem _ _ _ _ _ (ix4 1 1 0 q) rfl 1 (Or.inl (show (1 : ℕ) < 6 by decide))).trans ?_
    refine (View.read_writes_cons_unit_of_not_mem _ _ _ _ _ (ix4 1 1 0 q) rfl 1 (Or.inl (show (1 : ℕ) < 5 by decide))).trans ?_
    refine (View.read_writes_cons_unit_of_not_mem _ _ _ _ _ (ix4 1 1 0 q) rfl 1 (Or.inl (show (1 : ℕ) < 4 by decide))).trans ?_
    refine (View.read_writes_cons_unit_of_not_mem _ _ _ _ _ (ix4 1 1 0 q) rfl 1 (Or.inl (show (1 : ℕ) < 3 by decide))).trans ?_
    refine (View.read_writes_cons_unit_of_not_mem _ _ _ _ _ (ix4 1 1 0 q) rfl 1 (Or.inl (show (1 : ℕ) < 2 by decide))).trans ?_
    refine (View.read_writes_cons_unit_of_not_mem _ _ _ _ _ (ix4 1 1 0 q) rfl 0 (Or.inl (show (1 : ℕ) < 2 by decide))).trans ?_
    refine (View.read_writes_cons_unit_of_not_mem _ _ _ _ _ (ix4 1 1 0 q) rfl 1 (Or.inr (show (0 : ℕ) + 1 ≤ 1 by decide))).trans ?_
    refine (View.read_writes_cons_unit_of_not_mem _ _ _ _ _ (ix4 1 1 0 q) rfl 1 (Or.inl (show (1 : ℕ) < 7 by decide))).trans ?_
    refine (View.read_writes_cons_unit_of_not_mem _ _ _ _ _ (ix4 1 1 0 q) rfl 1 (Or.inl (show (1 : ℕ) < 6 by decide))).trans ?_
    refine (View.read_writes_cons_unit_of_not_mem _ _ _ _ _ (ix4 1 1 0 q) rfl 1 (Or.inl (show (1 : ℕ) < 5 by decide))).trans ?_
    refine (View.read_writes_cons_unit_of_not_mem _ _ _ _ _ (ix4 1 1 0 q) rfl 1 (Or.inl (show (1 : ℕ) < 4 by decide))).trans ?_
    refine (View.read_writes_cons_unit_of_not_mem _ _ _ _ _ (ix4 1 1 0 q) rfl 1 (Or.inl (show (1 : ℕ) < 3 by decide))).trans ?_
    refine (View.read_writes_cons_unit_of_not_mem _ _ _ _ _ (ix4 1 1 0 q) rfl 1 (Or.inl (show (1 : ℕ) < 2 by decide))).trans ?_
    exact View.read_writes_cons_unit_of_mem _ _ _ _ _ (ix4 1 1 0 q) (ix4 (n0 := 1) (n1 := 1) (n2 := 1) 0 0 0 q) rfl (hz 1 1 q)
  · show M.view.read (Elt Ideal) _ (ix4 1 2 0 q) = p12 (ix4 0 0 0 q)
    refine (View.read_writes_cons_unit_of_not_mem _ _ _ _ _ (ix4 1 2 0 q) rfl 1 (Or.inl (show (2 : ℕ) < 7 by decide))).trans ?_
    refine (View.read_writes_cons_unit_of_not_mem _ _ _ _ _ (ix4 1 2 0 q) rfl 1 (Or.inl (show (2 : ℕ) < 6 by decide))).trans ?_
    refine (View.read_writes_cons_unit_of_not_mem _ _ _ _ _ (ix4 1 2 0 q) rfl 1 (Or.inl (show (2 : ℕ) < 5 by decide))).trans ?_
    refine (View.read_writes_cons_unit_of_not_mem _ _ _ _ _ (ix4 1 2 0 q) rfl 1 (Or.inl (show (2 : ℕ) < 4 by decide))).trans ?_
    refine (View.read_writes_cons_unit_of_not_mem _ _ _ _ _ (ix4 1 2 0 q) rfl 1 (Or.inl (show (2 : ℕ) < 3 by decide))).trans ?_
    refine (View.read_writes_cons_unit_of_not_mem _ _ _ _ _ (ix4 1 2 0 q) rfl 0 (Or.inl (show (1 : ℕ) < 2 by decide))).trans ?_
    refine (View.read_writes_cons_unit_of_not_mem _ _ _ _ _ (ix4 1 2 0 q) rfl 1 (Or.inr (show (1 : ℕ) + 1 ≤ 2 by decide))).trans ?_
    refine (View.read_writes_cons_unit_of_not_mem _ _ _ _ _ (ix4 1 2 0 q) rfl 1 (Or.inr (show (0 : ℕ) + 1 ≤ 2 by decide))).trans ?_
    refine (View.read_writes_cons_unit_of_not_mem _ _ _ _ _ (ix4 1 2 0 q) rfl 1 (Or.inl (show (2 : ℕ) < 7 by decide))).trans ?_
    refine (View.read_writes_cons_unit_of_not_mem _ _ _ _ _ (ix4 1 2 0 q) rfl 1 (Or.inl (show (2 : ℕ) < 6 by decide))).trans ?_
    refine (View.read_writes_cons_unit_of_not_mem _ _ _ _ _ (ix4 1 2 0 q) rfl 1 (Or.inl (show (2 : ℕ) < 5 by decide))).trans ?_
    refine (View.read_writes_cons_unit_of_not_mem _ _ _ _ _ (ix4 1 2 0 q) rfl 1 (Or.inl (show (2 : ℕ) < 4 by decide))).trans ?_
    refine (View.read_writes_cons_unit_of_not_mem _ _ _ _ _ (ix4 1 2 0 q) rfl 1 (Or.inl (show (2 : ℕ) < 3 by decide))).trans ?_
    exact View.read_writes_cons_unit_of_mem _ _ _ _ _ (ix4 1 2 0 q) (ix4 (n0 := 1) (n1 := 1) (n2 := 1) 0 0 0 q) rfl (hz 1 2 q)
  · show M.view.read (Elt Ideal) _ (ix4 1 3 0 q) = p13 (ix4 0 0 0 q)
    refine (View.read_writes_cons_unit_of_not_mem _ _ _ _ _ (ix4 1 3 0 q) rfl 1 (Or.inl (show (3 : ℕ) < 7 by decide))).trans ?_
    refine (View.read_writes_cons_unit_of_not_mem _ _ _ _ _ (ix4 1 3 0 q) rfl 1 (Or.inl (show (3 : ℕ) < 6 by decide))).trans ?_
    refine (View.read_writes_cons_unit_of_not_mem _ _ _ _ _ (ix4 1 3 0 q) rfl 1 (Or.inl (show (3 : ℕ) < 5 by decide))).trans ?_
    refine (View.read_writes_cons_unit_of_not_mem _ _ _ _ _ (ix4 1 3 0 q) rfl 1 (Or.inl (show (3 : ℕ) < 4 by decide))).trans ?_
    refine (View.read_writes_cons_unit_of_not_mem _ _ _ _ _ (ix4 1 3 0 q) rfl 0 (Or.inl (show (1 : ℕ) < 2 by decide))).trans ?_
    refine (View.read_writes_cons_unit_of_not_mem _ _ _ _ _ (ix4 1 3 0 q) rfl 1 (Or.inr (show (2 : ℕ) + 1 ≤ 3 by decide))).trans ?_
    refine (View.read_writes_cons_unit_of_not_mem _ _ _ _ _ (ix4 1 3 0 q) rfl 1 (Or.inr (show (1 : ℕ) + 1 ≤ 3 by decide))).trans ?_
    refine (View.read_writes_cons_unit_of_not_mem _ _ _ _ _ (ix4 1 3 0 q) rfl 1 (Or.inr (show (0 : ℕ) + 1 ≤ 3 by decide))).trans ?_
    refine (View.read_writes_cons_unit_of_not_mem _ _ _ _ _ (ix4 1 3 0 q) rfl 1 (Or.inl (show (3 : ℕ) < 7 by decide))).trans ?_
    refine (View.read_writes_cons_unit_of_not_mem _ _ _ _ _ (ix4 1 3 0 q) rfl 1 (Or.inl (show (3 : ℕ) < 6 by decide))).trans ?_
    refine (View.read_writes_cons_unit_of_not_mem _ _ _ _ _ (ix4 1 3 0 q) rfl 1 (Or.inl (show (3 : ℕ) < 5 by decide))).trans ?_
    refine (View.read_writes_cons_unit_of_not_mem _ _ _ _ _ (ix4 1 3 0 q) rfl 1 (Or.inl (show (3 : ℕ) < 4 by decide))).trans ?_
    exact View.read_writes_cons_unit_of_mem _ _ _ _ _ (ix4 1 3 0 q) (ix4 (n0 := 1) (n1 := 1) (n2 := 1) 0 0 0 q) rfl (hz 1 3 q)
  · show M.view.read (Elt Ideal) _ (ix4 1 4 0 q) = p14 (ix4 0 0 0 q)
    refine (View.read_writes_cons_unit_of_not_mem _ _ _ _ _ (ix4 1 4 0 q) rfl 1 (Or.inl (show (4 : ℕ) < 7 by decide))).trans ?_
    refine (View.read_writes_cons_unit_of_not_mem _ _ _ _ _ (ix4 1 4 0 q) rfl 1 (Or.inl (show (4 : ℕ) < 6 by decide))).trans ?_
    refine (View.read_writes_cons_unit_of_not_mem _ _ _ _ _ (ix4 1 4 0 q) rfl 1 (Or.inl (show (4 : ℕ) < 5 by decide))).trans ?_
    refine (View.read_writes_cons_unit_of_not_mem _ _ _ _ _ (ix4 1 4 0 q) rfl 0 (Or.inl (show (1 : ℕ) < 2 by decide))).trans ?_
    refine (View.read_writes_cons_unit_of_not_mem _ _ _ _ _ (ix4 1 4 0 q) rfl 1 (Or.inr (show (3 : ℕ) + 1 ≤ 4 by decide))).trans ?_
    refine (View.read_writes_cons_unit_of_not_mem _ _ _ _ _ (ix4 1 4 0 q) rfl 1 (Or.inr (show (2 : ℕ) + 1 ≤ 4 by decide))).trans ?_
    refine (View.read_writes_cons_unit_of_not_mem _ _ _ _ _ (ix4 1 4 0 q) rfl 1 (Or.inr (show (1 : ℕ) + 1 ≤ 4 by decide))).trans ?_
    refine (View.read_writes_cons_unit_of_not_mem _ _ _ _ _ (ix4 1 4 0 q) rfl 1 (Or.inr (show (0 : ℕ) + 1 ≤ 4 by decide))).trans ?_
    refine (View.read_writes_cons_unit_of_not_mem _ _ _ _ _ (ix4 1 4 0 q) rfl 1 (Or.inl (show (4 : ℕ) < 7 by decide))).trans ?_
    refine (View.read_writes_cons_unit_of_not_mem _ _ _ _ _ (ix4 1 4 0 q) rfl 1 (Or.inl (show (4 : ℕ) < 6 by decide))).trans ?_
    refine (View.read_writes_cons_unit_of_not_mem _ _ _ _ _ (ix4 1 4 0 q) rfl 1 (Or.inl (show (4 : ℕ) < 5 by decide))).trans ?_
    exact View.read_writes_cons_unit_of_mem _ _ _ _ _ (ix4 1 4 0 q) (ix4 (n0 := 1) (n1 := 1) (n2 := 1) 0 0 0 q) rfl (hz 1 4 q)
  · show M.view.read (Elt Ideal) _ (ix4 1 5 0 q) = p15 (ix4 0 0 0 q)
    refine (View.read_writes_cons_unit_of_not_mem _ _ _ _ _ (ix4 1 5 0 q) rfl 1 (Or.inl (show (5 : ℕ) < 7 by decide))).trans ?_
    refine (View.read_writes_cons_unit_of_not_mem _ _ _ _ _ (ix4 1 5 0 q) rfl 1 (Or.inl (show (5 : ℕ) < 6 by decide))).trans ?_
    refine (View.read_writes_cons_unit_of_not_mem _ _ _ _ _ (ix4 1 5 0 q) rfl 0 (Or.inl (show (1 : ℕ) < 2 by decide))).trans ?_
    refine (View.read_writes_cons_unit_of_not_mem _ _ _ _ _ (ix4 1 5 0 q) rfl 1 (Or.inr (show (4 : ℕ) + 1 ≤ 5 by decide))).trans ?_
    refine (View.read_writes_cons_unit_of_not_mem _ _ _ _ _ (ix4 1 5 0 q) rfl 1 (Or.inr (show (3 : ℕ) + 1 ≤ 5 by decide))).trans ?_
    refine (View.read_writes_cons_unit_of_not_mem _ _ _ _ _ (ix4 1 5 0 q) rfl 1 (Or.inr (show (2 : ℕ) + 1 ≤ 5 by decide))).trans ?_
    refine (View.read_writes_cons_unit_of_not_mem _ _ _ _ _ (ix4 1 5 0 q) rfl 1 (Or.inr (show (1 : ℕ) + 1 ≤ 5 by decide))).trans ?_
    refine (View.read_writes_cons_unit_of_not_mem _ _ _ _ _ (ix4 1 5 0 q) rfl 1 (Or.inr (show (0 : ℕ) + 1 ≤ 5 by decide))).trans ?_
    refine (View.read_writes_cons_unit_of_not_mem _ _ _ _ _ (ix4 1 5 0 q) rfl 1 (Or.inl (show (5 : ℕ) < 7 by decide))).trans ?_
    refine (View.read_writes_cons_unit_of_not_mem _ _ _ _ _ (ix4 1 5 0 q) rfl 1 (Or.inl (show (5 : ℕ) < 6 by decide))).trans ?_
    exact View.read_writes_cons_unit_of_mem _ _ _ _ _ (ix4 1 5 0 q) (ix4 (n0 := 1) (n1 := 1) (n2 := 1) 0 0 0 q) rfl (hz 1 5 q)
  · show M.view.read (Elt Ideal) _ (ix4 1 6 0 q) = p16 (ix4 0 0 0 q)
    refine (View.read_writes_cons_unit_of_not_mem _ _ _ _ _ (ix4 1 6 0 q) rfl 1 (Or.inl (show (6 : ℕ) < 7 by decide))).trans ?_
    refine (View.read_writes_cons_unit_of_not_mem _ _ _ _ _ (ix4 1 6 0 q) rfl 0 (Or.inl (show (1 : ℕ) < 2 by decide))).trans ?_
    refine (View.read_writes_cons_unit_of_not_mem _ _ _ _ _ (ix4 1 6 0 q) rfl 1 (Or.inr (show (5 : ℕ) + 1 ≤ 6 by decide))).trans ?_
    refine (View.read_writes_cons_unit_of_not_mem _ _ _ _ _ (ix4 1 6 0 q) rfl 1 (Or.inr (show (4 : ℕ) + 1 ≤ 6 by decide))).trans ?_
    refine (View.read_writes_cons_unit_of_not_mem _ _ _ _ _ (ix4 1 6 0 q) rfl 1 (Or.inr (show (3 : ℕ) + 1 ≤ 6 by decide))).trans ?_
    refine (View.read_writes_cons_unit_of_not_mem _ _ _ _ _ (ix4 1 6 0 q) rfl 1 (Or.inr (show (2 : ℕ) + 1 ≤ 6 by decide))).trans ?_
    refine (View.read_writes_cons_unit_of_not_mem _ _ _ _ _ (ix4 1 6 0 q) rfl 1 (Or.inr (show (1 : ℕ) + 1 ≤ 6 by decide))).trans ?_
    refine (View.read_writes_cons_unit_of_not_mem _ _ _ _ _ (ix4 1 6 0 q) rfl 1 (Or.inr (show (0 : ℕ) + 1 ≤ 6 by decide))).trans ?_
    refine (View.read_writes_cons_unit_of_not_mem _ _ _ _ _ (ix4 1 6 0 q) rfl 1 (Or.inl (show (6 : ℕ) < 7 by decide))).trans ?_
    exact View.read_writes_cons_unit_of_mem _ _ _ _ _ (ix4 1 6 0 q) (ix4 (n0 := 1) (n1 := 1) (n2 := 1) 0 0 0 q) rfl (hz 1 6 q)
  · show M.view.read (Elt Ideal) _ (ix4 1 7 0 q) = p17 (ix4 0 0 0 q)
    refine (View.read_writes_cons_unit_of_not_mem _ _ _ _ _ (ix4 1 7 0 q) rfl 0 (Or.inl (show (1 : ℕ) < 2 by decide))).trans ?_
    refine (View.read_writes_cons_unit_of_not_mem _ _ _ _ _ (ix4 1 7 0 q) rfl 1 (Or.inr (show (6 : ℕ) + 1 ≤ 7 by decide))).trans ?_
    refine (View.read_writes_cons_unit_of_not_mem _ _ _ _ _ (ix4 1 7 0 q) rfl 1 (Or.inr (show (5 : ℕ) + 1 ≤ 7 by decide))).trans ?_
    refine (View.read_writes_cons_unit_of_not_mem _ _ _ _ _ (ix4 1 7 0 q) rfl 1 (Or.inr (show (4 : ℕ) + 1 ≤ 7 by decide))).trans ?_
    refine (View.read_writes_cons_unit_of_not_mem _ _ _ _ _ (ix4 1 7 0 q) rfl 1 (Or.inr (show (3 : ℕ) + 1 ≤ 7 by decide))).trans ?_
    refine (View.read_writes_cons_unit_of_not_mem _ _ _ _ _ (ix4 1 7 0 q) rfl 1 (Or.inr (show (2 : ℕ) + 1 ≤ 7 by decide))).trans ?_
    refine (View.read_writes_cons_unit_of_not_mem _ _ _ _ _ (ix4 1 7 0 q) rfl 1 (Or.inr (show (1 : ℕ) + 1 ≤ 7 by decide))).trans ?_
    refine (View.read_writes_cons_unit_of_not_mem _ _ _ _ _ (ix4 1 7 0 q) rfl 1 (Or.inr (show (0 : ℕ) + 1 ≤ 7 by decide))).trans ?_
    exact View.read_writes_cons_unit_of_mem _ _ _ _ _ (ix4 1 7 0 q) (ix4 (n0 := 1) (n1 := 1) (n2 := 1) 0 0 0 q) rfl (hz 1 7 q)
  · show M.view.read (Elt Ideal) _ (ix4 2 0 0 q) = p20 (ix4 0 0 0 q)
    refine (View.read_writes_cons_unit_of_not_mem _ _ _ _ _ (ix4 2 0 0 q) rfl 1 (Or.inl (show (0 : ℕ) < 7 by decide))).trans ?_
    refine (View.read_writes_cons_unit_of_not_mem _ _ _ _ _ (ix4 2 0 0 q) rfl 1 (Or.inl (show (0 : ℕ) < 6 by decide))).trans ?_
    refine (View.read_writes_cons_unit_of_not_mem _ _ _ _ _ (ix4 2 0 0 q) rfl 1 (Or.inl (show (0 : ℕ) < 5 by decide))).trans ?_
    refine (View.read_writes_cons_unit_of_not_mem _ _ _ _ _ (ix4 2 0 0 q) rfl 1 (Or.inl (show (0 : ℕ) < 4 by decide))).trans ?_
    refine (View.read_writes_cons_unit_of_not_mem _ _ _ _ _ (ix4 2 0 0 q) rfl 1 (Or.inl (show (0 : ℕ) < 3 by decide))).trans ?_
    refine (View.read_writes_cons_unit_of_not_mem _ _ _ _ _ (ix4 2 0 0 q) rfl 1 (Or.inl (show (0 : ℕ) < 2 by decide))).trans ?_
    refine (View.read_writes_cons_unit_of_not_mem _ _ _ _ _ (ix4 2 0 0 q) rfl 1 (Or.inl (show (0 : ℕ) < 1 by decide))).trans ?_
    exact View.read_writes_cons_unit_of_mem _ _ _ _ _ (ix4 2 0 0 q) (ix4 (n0 := 1) (n1 := 1) (n2 := 1) 0 0 0 q) rfl (hz 2 0 q)
  · show M.view.read (Elt Ideal) _ (ix4 2 1 0 q) = p21 (ix4 0 0 0 q)
    refine (View.read_writes_cons_unit_of_not_mem _ _ _ _ _ (ix4 2 1 0 q) rfl 1 (Or.inl (show (1 : ℕ) < 7 by decide))).trans ?_
    refine (View.read_writes_cons_unit_of_not_mem _ _ _ _ _ (ix4 2 1 0 q) rfl 1 (Or.inl (show (1 : ℕ) < 6 by decide))).trans ?_
    refine (View.read_writes_cons_unit_of_not_mem _ _ _ _ _ (ix4 2 1 0 q) rfl 1 (Or.inl (show (1 : ℕ) < 5 by decide))).trans ?_
    refine (View.read_writes_cons_unit_of_not_mem _ _ _ _ _ (ix4 2 1 0 q) rfl 1 (Or.inl (show (1 : ℕ) < 4 by decide))).trans ?_
    refine (View.read_writes_cons_unit_of_not_mem _ _ _ _ _ (ix4 2 1 0 q) rfl 1 (Or.inl (show (1 : ℕ) < 3 by decide))).trans ?_
    refine (View.read_writes_cons_unit_of_not_mem _ _ _ _ _ (ix4 2 1 0 q) rfl 1 (Or.inl (show (1 : ℕ) < 2 by decide))).trans ?_
    exact View.read_writes_cons_unit_of_mem _ _ _ _ _ (ix4 2 1 0 q) (ix4 (n0 := 1) (n1 := 1) (n2 := 1) 0 0 0 q) rfl (hz 2 1 q)
  · show M.view.read (Elt Ideal) _ (ix4 2 2 0 q) = p22 (ix4 0 0 0 q)
    refine (View.read_writes_cons_unit_of_not_mem _ _ _ _ _ (ix4 2 2 0 q) rfl 1 (Or.inl (show (2 : ℕ) < 7 by decide))).trans ?_
    refine (View.read_writes_cons_unit_of_not_mem _ _ _ _ _ (ix4 2 2 0 q) rfl 1 (Or.inl (show (2 : ℕ) < 6 by decide))).trans ?_
    refine (View.read_writes_cons_unit_of_not_mem _ _ _ _ _ (ix4 2 2 0 q) rfl 1 (Or.inl (show (2 : ℕ) < 5 by decide))).trans ?_
    refine (View.read_writes_cons_unit_of_not_mem _ _ _ _ _ (ix4 2 2 0 q) rfl 1 (Or.inl (show (2 : ℕ) < 4 by decide))).trans ?_
    refine (View.read_writes_cons_unit_of_not_mem _ _ _ _ _ (ix4 2 2 0 q) rfl 1 (Or.inl (show (2 : ℕ) < 3 by decide))).trans ?_
    exact View.read_writes_cons_unit_of_mem _ _ _ _ _ (ix4 2 2 0 q) (ix4 (n0 := 1) (n1 := 1) (n2 := 1) 0 0 0 q) rfl (hz 2 2 q)
  · show M.view.read (Elt Ideal) _ (ix4 2 3 0 q) = p23 (ix4 0 0 0 q)
    refine (View.read_writes_cons_unit_of_not_mem _ _ _ _ _ (ix4 2 3 0 q) rfl 1 (Or.inl (show (3 : ℕ) < 7 by decide))).trans ?_
    refine (View.read_writes_cons_unit_of_not_mem _ _ _ _ _ (ix4 2 3 0 q) rfl 1 (Or.inl (show (3 : ℕ) < 6 by decide))).trans ?_
    refine (View.read_writes_cons_unit_of_not_mem _ _ _ _ _ (ix4 2 3 0 q) rfl 1 (Or.inl (show (3 : ℕ) < 5 by decide))).trans ?_
    refine (View.read_writes_cons_unit_of_not_mem _ _ _ _ _ (ix4 2 3 0 q) rfl 1 (Or.inl (show (3 : ℕ) < 4 by decide))).trans ?_
    exact View.read_writes_cons_unit_of_mem _ _ _ _ _ (ix4 2 3 0 q) (ix4 (n0 := 1) (n1 := 1) (n2 := 1) 0 0 0 q) rfl (hz 2 3 q)
  · show M.view.read (Elt Ideal) _ (ix4 2 4 0 q) = p24 (ix4 0 0 0 q)
    refine (View.read_writes_cons_unit_of_not_mem _ _ _ _ _ (ix4 2 4 0 q) rfl 1 (Or.inl (show (4 : ℕ) < 7 by decide))).trans ?_
    refine (View.read_writes_cons_unit_of_not_mem _ _ _ _ _ (ix4 2 4 0 q) rfl 1 (Or.inl (show (4 : ℕ) < 6 by decide))).trans ?_
    refine (View.read_writes_cons_unit_of_not_mem _ _ _ _ _ (ix4 2 4 0 q) rfl 1 (Or.inl (show (4 : ℕ) < 5 by decide))).trans ?_
    exact View.read_writes_cons_unit_of_mem _ _ _ _ _ (ix4 2 4 0 q) (ix4 (n0 := 1) (n1 := 1) (n2 := 1) 0 0 0 q) rfl (hz 2 4 q)
  · show M.view.read (Elt Ideal) _ (ix4 2 5 0 q) = p25 (ix4 0 0 0 q)
    refine (View.read_writes_cons_unit_of_not_mem _ _ _ _ _ (ix4 2 5 0 q) rfl 1 (Or.inl (show (5 : ℕ) < 7 by decide))).trans ?_
    refine (View.read_writes_cons_unit_of_not_mem _ _ _ _ _ (ix4 2 5 0 q) rfl 1 (Or.inl (show (5 : ℕ) < 6 by decide))).trans ?_
    exact View.read_writes_cons_unit_of_mem _ _ _ _ _ (ix4 2 5 0 q) (ix4 (n0 := 1) (n1 := 1) (n2 := 1) 0 0 0 q) rfl (hz 2 5 q)
  · show M.view.read (Elt Ideal) _ (ix4 2 6 0 q) = p26 (ix4 0 0 0 q)
    refine (View.read_writes_cons_unit_of_not_mem _ _ _ _ _ (ix4 2 6 0 q) rfl 1 (Or.inl (show (6 : ℕ) < 7 by decide))).trans ?_
    exact View.read_writes_cons_unit_of_mem _ _ _ _ _ (ix4 2 6 0 q) (ix4 (n0 := 1) (n1 := 1) (n2 := 1) 0 0 0 q) rfl (hz 2 6 q)
  · show M.view.read (Elt Ideal) _ (ix4 2 7 0 q) = p27 (ix4 0 0 0 q)
    exact View.read_writes_cons_unit_of_mem _ _ _ _ _ (ix4 2 7 0 q) (ix4 (n0 := 1) (n1 := 1) (n2 := 1) 0 0 0 q) rfl (hz 2 7 q)

set_option maxHeartbeats 4000000 in
/-- The loop over the units: before each trip the results and the states are those of the tokens before it. -/
def unitLoop (c : Dev nD) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole)
    (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (D : Fin 8 → Data) (H : BlockHyp (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) (arg9.view.read (Elt Ideal) X_arg9) (arg10.view.read (Elt Ideal) X_arg10) (arg11.view.read (Elt Ideal) X_arg11) (arg12.view.read (Elt Ideal) X_arg12) (arg13.view.read (Elt Ideal) X_arg13) D) :
    LoopInvTy_k0_t1 (F := Ideal) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 i3 i4 k0_pay201 64#32 k0_pay202 k0_pay203 (Scalar.extui (Scalar.cmpi .sgt 64#32 0#32)) (Scalar.extui (Scalar.cmpi .slt 64#32 0#32)) (iota .tc S64x64 32 [0] iota_S64x64_d0_w32) (iota .tc S64x64 32 [1] iota_S64x64_d1_w32) where
  inv := fun k acc => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt Ideal) arg14.view.ty, (arg14.view.loc (c : Thread nD τ) ↦[arg14.view.set]{fullShare} f) ∗ ⌜Outs D (128 * k) (arg14.view.read (Elt Ideal) f)⌝) ∗ (∃ f : BufTy.Contents (Elt Ideal) arg16.view.ty, (arg16.view.loc (c : Thread nD τ) ↦[arg16.view.set]{fullShare} f) ∗ ⌜States D (128 * k) (arg16.view.read (Elt Ideal) f)⌝) ∗ (∃ f : BufTy.Contents (Elt Ideal) arg17.view.ty, (arg17.view.loc (c : Thread nD τ) ↦[arg17.view.set]{fullShare} f)))
  step := fun k acc => by
    unfold k0_t1_body
    iintro ⟨H3, H4, H5, H6, H7, H8, H9, H10, H11, H12, H13, ⟨%f14, H14, %hf14⟩, ⟨%f16, H16, %hf16⟩, ⟨%f17, H17⟩⟩
    sl_exec
    sl_step
    have hv1 : ∀ kk : Fin k0_t2_loop.trips, MaskHyp (unitLoop.sl.v79 arg13 X_arg13 k) (unitLoop.sl.v87 arg13 X_arg13 k) (unitLoop.sl.v92 arg13 X_arg13 k) (unitD D k kk) := fun kk =>
      maskHyp (D := unitD D k kk) (v := arg13.view.readAt (Elt Ideal) (Rect.unit (s := S1x1x512) (k0_off1 k) S1x1x128.size (k0_off1_inb k)).toLoadRect X_arg13)
        fun q => (ld1 arg13 X_arg13 k q).trans (H.g _ _)
    have hr : ∀ (h : Fin 8) (q : Fin 128), arg17.view.read (Elt Ideal) (arg17.view.writes (Elt Ideal) arg17.view.junk (unitLoop.sl.H17_24 arg6 arg7 arg8 X_arg6 X_arg7 X_arg8 k)) (ix4 0 h 0 q)
        = arg6.view.read (Elt Ideal) X_arg6 (ix3 0 h ⟨128 * k.val + q.val, by have := trips1 k; omega⟩) := fun h q => by
      refine (scales arg17 _ _ _ _ _ _ _ _ _ _ _ _ _ _ _ _ _ _ _ _ _ _ _ _ _ 0 h q).trans ?_
      refine Eq.trans ?_ (ld3 arg6 X_arg6 k h q)
      fin_cases h
      · exact row0 (arg6.view.readAt (Elt Ideal) (Rect.unit (s := S1x8x512) (k0_off2 k) S1x8x128.size (k0_off2_inb k)).toLoadRect X_arg6) q
      · exact row1 (arg6.view.readAt (Elt Ideal) (Rect.unit (s := S1x8x512) (k0_off2 k) S1x8x128.size (k0_off2_inb k)).toLoadRect X_arg6) q
      · exact row2 (arg6.view.readAt (Elt Ideal) (Rect.unit (s := S1x8x512) (k0_off2 k) S1x8x128.size (k0_off2_inb k)).toLoadRect X_arg6) q
      · exact row3 (arg6.view.readAt (Elt Ideal) (Rect.unit (s := S1x8x512) (k0_off2 k) S1x8x128.size (k0_off2_inb k)).toLoadRect X_arg6) q
      · exact row4 (arg6.view.readAt (Elt Ideal) (Rect.unit (s := S1x8x512) (k0_off2 k) S1x8x128.size (k0_off2_inb k)).toLoadRect X_arg6) q
      · exact row5 (arg6.view.readAt (Elt Ideal) (Rect.unit (s := S1x8x512) (k0_off2 k) S1x8x128.size (k0_off2_inb k)).toLoadRect X_arg6) q
      · exact row6 (arg6.view.readAt (Elt Ideal) (Rect.unit (s := S1x8x512) (k0_off2 k) S1x8x128.size (k0_off2_inb k)).toLoadRect X_arg6) q
      · exact row7 (arg6.view.readAt (Elt Ideal) (Rect.unit (s := S1x8x512) (k0_off2 k) S1x8x128.size (k0_off2_inb k)).toLoadRect X_arg6) q
    have hk : ∀ (h : Fin 8) (q : Fin 128), arg17.view.read (Elt Ideal) (arg17.view.writes (Elt Ideal) arg17.view.junk (unitLoop.sl.H17_24 arg6 arg7 arg8 X_arg6 X_arg7 X_arg8 k)) (ix4 1 h 0 q)
        = arg7.view.read (Elt Ideal) X_arg7 (ix3 0 h ⟨128 * k.val + q.val, by have := trips1 k; omega⟩) := fun h q => by
      refine (scales arg17 _ _ _ _ _ _ _ _ _ _ _ _ _ _ _ _ _ _ _ _ _ _ _ _ _ 1 h q).trans ?_
      refine Eq.trans ?_ (ld3 arg7 X_arg7 k h q)
      fin_cases h
      · exact row0 (arg7.view.readAt (Elt Ideal) (Rect.unit (s := S1x8x512) (k0_off2 k) S1x8x128.size (k0_off2_inb k)).toLoadRect X_arg7) q
      · exact row1 (arg7.view.readAt (Elt Ideal) (Rect.unit (s := S1x8x512) (k0_off2 k) S1x8x128.size (k0_off2_inb k)).toLoadRect X_arg7) q
      · exact row2 (arg7.view.readAt (Elt Ideal) (Rect.unit (s := S1x8x512) (k0_off2 k) S1x8x128.size (k0_off2_inb k)).toLoadRect X_arg7) q
      · exact row3 (arg7.view.readAt (Elt Ideal) (Rect.unit (s := S1x8x512) (k0_off2 k) S1x8x128.size (k0_off2_inb k)).toLoadRect X_arg7) q
      · exact row4 (arg7.view.readAt (Elt Ideal) (Rect.unit (s := S1x8x512) (k0_off2 k) S1x8x128.size (k0_off2_inb k)).toLoadRect X_arg7) q
      · exact row5 (arg7.view.readAt (Elt Ideal) (Rect.unit (s := S1x8x512) (k0_off2 k) S1x8x128.size (k0_off2_inb k)).toLoadRect X_arg7) q
      · exact row6 (arg7.view.readAt (Elt Ideal) (Rect.unit (s := S1x8x512) (k0_off2 k) S1x8x128.size (k0_off2_inb k)).toLoadRect X_arg7) q
      · exact row7 (arg7.view.readAt (Elt Ideal) (Rect.unit (s := S1x8x512) (k0_off2 k) S1x8x128.size (k0_off2_inb k)).toLoadRect X_arg7) q
    have hv : ∀ (h : Fin 8) (q : Fin 128), arg17.view.read (Elt Ideal) (arg17.view.writes (Elt Ideal) arg17.view.junk (unitLoop.sl.H17_24 arg6 arg7 arg8 X_arg6 X_arg7 X_arg8 k)) (ix4 2 h 0 q)
        = arg8.view.read (Elt Ideal) X_arg8 (ix3 0 h ⟨128 * k.val + q.val, by have := trips1 k; omega⟩) := fun h q => by
      refine (scales arg17 _ _ _ _ _ _ _ _ _ _ _ _ _ _ _ _ _ _ _ _ _ _ _ _ _ 2 h q).trans ?_
      refine Eq.trans ?_ (ld3 arg8 X_arg8 k h q)
      fin_cases h
      · exact row0 (arg8.view.readAt (Elt Ideal) (Rect.unit (s := S1x8x512) (k0_off2 k) S1x8x128.size (k0_off2_inb k)).toLoadRect X_arg8) q
      · exact row1 (arg8.view.readAt (Elt Ideal) (Rect.unit (s := S1x8x512) (k0_off2 k) S1x8x128.size (k0_off2_inb k)).toLoadRect X_arg8) q
      · exact row2 (arg8.view.readAt (Elt Ideal) (Rect.unit (s := S1x8x512) (k0_off2 k) S1x8x128.size (k0_off2_inb k)).toLoadRect X_arg8) q
      · exact row3 (arg8.view.readAt (Elt Ideal) (Rect.unit (s := S1x8x512) (k0_off2 k) S1x8x128.size (k0_off2_inb k)).toLoadRect X_arg8) q
      · exact row4 (arg8.view.readAt (Elt Ideal) (Rect.unit (s := S1x8x512) (k0_off2 k) S1x8x128.size (k0_off2_inb k)).toLoadRect X_arg8) q
      · exact row5 (arg8.view.readAt (Elt Ideal) (Rect.unit (s := S1x8x512) (k0_off2 k) S1x8x128.size (k0_off2_inb k)).toLoadRect X_arg8) q
      · exact row6 (arg8.view.readAt (Elt Ideal) (Rect.unit (s := S1x8x512) (k0_off2 k) S1x8x128.size (k0_off2_inb k)).toLoadRect X_arg8) q
      · exact row7 (arg8.view.readAt (Elt Ideal) (Rect.unit (s := S1x8x512) (k0_off2 k) S1x8x128.size (k0_off2_inb k)).toLoadRect X_arg8) q
    have ht : Scf.trips k0_t2_loop.lb k0_t2_loop.ub k0_t2_loop.st = 8 := by decide
    rw [ht]
    have hh := heads (B6 := arg6.view.read (Elt Ideal) X_arg6) (B7 := arg7.view.read (Elt Ideal) X_arg7) (B8 := arg8.view.read (Elt Ideal) X_arg8) (B13 := arg13.view.read (Elt Ideal) X_arg13) (D := D)
      Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (iota .tc S64x64 32 [0] iota_S64x64_d0_w32) (iota .tc S64x64 32 [1] iota_S64x64_d1_w32) k
      (unitLoop.sl.v69 k) (unitLoop.sl.v79 arg13 X_arg13 k) (unitLoop.sl.v87 arg13 X_arg13 k) (unitLoop.sl.v92 arg13 X_arg13 k) X_arg3 X_arg4 X_arg5 X_arg9 X_arg10 X_arg11 X_arg12
      (arg17.view.writes (Elt Ideal) arg17.view.junk (unitLoop.sl.H17_24 arg6 arg7 arg8 X_arg6 X_arg7 X_arg8 k)) f14 f16 H hr hk hv rows_iota cols_iota hv1 hf16 8 le_rfl
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _
      isplitl [H14]
      · iexact H14
      ipureintro
      intro h p q hq
      refine (hh.1 h p q).trans ?_
      by_cases hc : 128 * k.val ≤ q.val
      · rw [if_pos ⟨h.isLt, hc, by omega⟩]
      · rw [if_neg (by omega)]
        exact hf14 h p q (by omega)
    isplitl [H16]
    · iexists _
      isplitl [H16]
      · iexact H16
      ipureintro
      intro h p j
      refine (hh.2 h p j).trans ?_
      rw [if_pos h.isLt, Nat.mul_succ]
    iexists _; iexact H17

end Cert.Proof.KI

end
-- ==== Proof.KernelValue.lean ====
/-
  One call of the kernel's body, with what it leaves in the two results and in the states.
-/
module

public import proofs.«01_k».proof.Proof.UnitLoop

@[expose] public section

set_option maxRecDepth 16384

noncomputable section

namespace Cert.Proof.KI

open Cert.KernelIdeal Cert.KernelIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the assertions speak of. -/
local notation "𝕄" => MT nD τ sig Unit (Elt Ideal) ℕ (UR sig nD τ) ℕ

/-- A block of final states holds those after the block's 512 tokens. -/
def Finals (D : Fin 8 → Data) (B : Vec Ideal S1x8x64x64 .f32) : Prop :=
  ∀ (h : Fin 8) (p j : Fin 64), B (ix4 0 h p j) = ((D h).state 512 p j : EReal)

/-- Whether the call is the first of its head block: the condition under which the state is loaded. -/
def cond1 (i : grid0.Coords) : BitVec 1 :=
  let arg2 : BitVec 32 := BitVec.ofNat 32 (i 2).val
  let v0 : BitVec 1 := Scalar.cmpi .eq arg2 0#32
  let v1 : BitVec 32 := Scalar.extui v0
  let v2 : BitVec 1 := Scalar.cmpi .ne v1 0#32
  v2

/-- The state as the first call of a head block copies it in, at an index. -/
theorem pay200_apply (v : Vec Ideal S1x8x64x64 .f32) (h : Fin 8) (p j : Fin 64) : k0_pay200 v (ix3 h p j) = v (ix4 0 h p j) := by
  pointwise [k0_pay200]

/-- The state as the last call of a head block copies it out, at an index. -/
theorem pay8_apply (v : Vec Ideal S8x64x64 .f32) (h : Fin 8) (p j : Fin 64) : k0_pay8 v (ix4 0 h p j) = v (ix3 h p j) := by
  pointwise [k0_pay8]

/-- A load of a whole block of states reads it as it is. -/
theorem ldS (M : Memref sig .tc .vmem S8x64x64 .f32) (X : BufTy.Contents (Elt Ideal) M.view.ty) (h : Fin 8) (p j : Fin 64) :
    M.view.readAt (Elt Ideal) (Rect.unit (s := S8x64x64) ![0, 0, 0] S8x64x64.size inb_S8x64x64_S8x64x64_0_0_0).toLoadRect X (ix3 h p j)
      = M.view.read (Elt Ideal) X (ix3 h p j) :=
  congrArg (M.view.read (Elt Ideal) X) (idx3 _ _ rfl _ _ fun a => by fin_cases a <;> simp [ix3])
/-- The same for a block of states with a leading unit axis. -/
theorem ldT (M : Memref sig .tc .vmem S1x8x64x64 .f32) (X : BufTy.Contents (Elt Ideal) M.view.ty) (h : Fin 8) (p j : Fin 64) :
    M.view.readAt (Elt Ideal) (Rect.unit (s := S1x8x64x64) ![0, 0, 0, 0] S1x8x64x64.size inb_S1x8x64x64_S1x8x64x64_0_0_0_0).toLoadRect X (ix4 0 h p j)
      = M.view.read (Elt Ideal) X (ix4 0 h p j) :=
  congrArg (M.view.read (Elt Ideal) X) (idx4 _ _ rfl _ _ fun a => by fin_cases a <;> simp [ix4])

/-- After a store of the whole block of states, at an index. -/
theorem stS (M : Memref sig .tc .vmem S8x64x64 .f32) (f : BufTy.Contents (Elt Ideal) M.view.ty) (w : Vec Ideal S8x64x64 .f32) (h : Fin 8) (p j : Fin 64) :
    M.view.read (Elt Ideal) (M.view.writes (Elt Ideal) f [⟨Rect.unit (s := S8x64x64) ![0, 0, 0] S8x64x64.size inb_S8x64x64_S8x64x64_0_0_0, w⟩]) (ix3 h p j) = w (ix3 h p j) :=
  View.read_writes_cons_unit_of_mem _ _ _ _ _ (ix3 h p j) (ix3 h p j) rfl fun a => by fin_cases a <;> simp [ix3]
/-- The same for a block of states with a leading unit axis. -/
theorem stT (M : Memref sig .tc .vmem S1x8x64x64 .f32) (f : BufTy.Contents (Elt Ideal) M.view.ty) (w : Vec Ideal S1x8x64x64 .f32) (h : Fin 8) (p j : Fin 64) :
    M.view.read (Elt Ideal) (M.view.writes (Elt Ideal) f [⟨Rect.unit (s := S1x8x64x64) ![0, 0, 0, 0] S1x8x64x64.size inb_S1x8x64x64_S1x8x64x64_0_0_0_0, w⟩]) (ix4 0 h p j) = w (ix4 0 h p j) :=
  View.read_writes_cons_unit_of_mem _ _ _ _ _ (ix4 0 h p j) (ix4 0 h p j) rfl fun a => by fin_cases a <;> simp [ix4]

set_option maxHeartbeats 4000000 in
/-- One call of the kernel's body: the results of the block's tokens, the states after them, and at the last call the
    final states. -/
theorem kernelRun (c : Dev nD) (i : grid0.Coords) (arg3 : Memref sig .tc .vmem S1x8x64x512 .fp8e4m3) (harg3 : arg3.IsWhole) (arg4 : Memref sig .tc .vmem S1x8x64x512 .fp8e4m3) (harg4 : arg4.IsWhole) (arg5 : Memref sig .tc .vmem S1x8x64x512 .fp8e4m3) (harg5 : arg5.IsWhole) (arg6 : Memref sig .tc .vmem S1x8x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x8x64x512 .bf16) (harg9 : arg9.IsWhole) (arg10 : Memref sig .tc .vmem S1x8x64x512 .bf16) (harg10 : arg10.IsWhole) (arg11 : Memref sig .tc .vmem S1x8x64x512 .bf16) (harg11 : arg11.IsWhole) (arg12 : Memref sig .tc .vmem S1x8x64x64 .f32) (harg12 : arg12.IsWhole) (arg13 : Memref sig .tc .vmem S1x1x512 .f32) (harg13 : arg13.IsWhole) (arg14 : Memref sig .tc .vmem S1x8x64x512 .bf16) (harg14 : arg14.IsWhole) (arg15 : Memref sig .tc .vmem S1x8x64x64 .f32) (harg15 : arg15.IsWhole) (arg16 : Memref sig .tc .vmem S8x64x64 .f32) (harg16 : arg16.IsWhole) (arg17 : Memref sig .tc .vmem S3x8x1x128 .f32) (harg17 : arg17.IsWhole)
    (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg15 : BufTy.Contents (Elt Ideal) arg15.view.ty) (D : Fin 8 → Data) (H : BlockHyp (arg3.view.read (Elt Ideal) X_arg3) (arg4.view.read (Elt Ideal) X_arg4) (arg5.view.read (Elt Ideal) X_arg5) (arg6.view.read (Elt Ideal) X_arg6) (arg7.view.read (Elt Ideal) X_arg7) (arg8.view.read (Elt Ideal) X_arg8) (arg9.view.read (Elt Ideal) X_arg9) (arg10.view.read (Elt Ideal) X_arg10) (arg11.view.read (Elt Ideal) X_arg11) (arg12.view.read (Elt Ideal) X_arg12) (arg13.view.read (Elt Ideal) X_arg13) D)
    (hD : cond1 i = 1#1 → ∀ h, (D h).x = (D h).x0) (K : PUnit → sProp 𝕄) :
    iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt Ideal) arg14.view.ty, (arg14.view.loc (c : Thread nD τ) ↦[arg14.view.set]{fullShare} f)) ∗ (arg15.view.loc (c : Thread nD τ) ↦[arg15.view.set]{fullShare} X_arg15) ∗ (∃ f : BufTy.Contents (Elt Ideal) arg16.view.ty, (arg16.view.loc (c : Thread nD τ) ↦[arg16.view.set]{fullShare} f) ∗ ⌜cond1 i ≠ 1#1 → States D 0 (arg16.view.read (Elt Ideal) f)⌝) ∗ (∃ f : BufTy.Contents (Elt Ideal) arg17.view.ty, (arg17.view.loc (c : Thread nD τ) ↦[arg17.view.set]{fullShare} f))
      ∗ (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (∃ f : BufTy.Contents (Elt Ideal) arg14.view.ty, (arg14.view.loc (c : Thread nD τ) ↦[arg14.view.set]{fullShare} f) ∗ ⌜Outs D 512 (arg14.view.read (Elt Ideal) f)⌝) ∗ (∃ f : BufTy.Contents (Elt Ideal) arg15.view.ty, (arg15.view.loc (c : Thread nD τ) ↦[arg15.view.set]{fullShare} f) ∗ ⌜(k0_cond2 i = 1#1 → Finals D (arg15.view.read (Elt Ideal) f)) ∧ (k0_cond2 i ≠ 1#1 → f = X_arg15)⌝) ∗ (∃ f : BufTy.Contents (Elt Ideal) arg16.view.ty, (arg16.view.loc (c : Thread nD τ) ↦[arg16.view.set]{fullShare} f) ∗ ⌜States D 512 (arg16.view.read (Elt Ideal) f)⌝) ∗ (∃ f : BufTy.Contents (Elt Ideal) arg17.view.ty, (arg17.view.loc (c : Thread nD τ) ↦[arg17.view.set]{fullShare} f))) -∗ K ⟨⟩))
    ⊢ wp frame (wpE (defs₀ (F := Ideal)) Variants.none c none) Set.univ (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_rwkv7_chunked_eq_skeleton]; unfold cc0_rwkv7_chunked_skel
  let L := unitLoop c i arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg4 X_arg5 X_arg6 X_arg7 X_arg8 X_arg9 X_arg10 X_arg11 X_arg12 X_arg13 D H
  have ht : Scf.trips k0_t1_loop.lb k0_t1_loop.ub k0_t1_loop.st = 4 := by decide
  iintro ⟨H3, H4, H5, H6, H7, H8, H9, H10, H11, H12, H13, ⟨%f14, H14⟩, H15, ⟨%f16, H16, %hf16⟩, ⟨%f17, H17⟩, Hk⟩
  have h14 : Outs D (128 * 0) (arg14.view.read (Elt Ideal) f14) := fun h p q hq => absurd hq (Nat.not_lt_zero _)
  have h16 : cond1 i = 1#1 → States D (128 * 0) (arg16.view.read (Elt Ideal) (arg16.view.writes (Elt Ideal) arg16.view.junk [⟨Rect.unit (s := S8x64x64) ![0, 0, 0] S8x64x64.size inb_S8x64x64_S8x64x64_0_0_0, k0_pay200 (arg12.view.readAt (Elt Ideal) (Rect.unit (s := S1x8x64x64) ![0, 0, 0, 0] S1x8x64x64.size inb_S1x8x64x64_S1x8x64x64_0_0_0_0).toLoadRect X_arg12)⟩])) := fun hc h p j => by
    refine (stS arg16 _ _ h p j).trans ((pay200_apply _ h p j).trans ((ldT arg12 X_arg12 h p j).trans ((H.x0 h p j).trans ?_)))
    show _ = (((D h).x p j : ℝ) : EReal)
    rw [hD hc h]
  by_cases h1 : cond1 i = 1#1 <;> by_cases h2 : k0_cond2 i = 1#1
  all_goals
    first
    | have g16 := h16 h1
    | have g16 : States D (128 * 0) (arg16.view.read (Elt Ideal) f16) := hf16 h1
    clear h16
    unfold cond1 at h1
    sl_exec
    try sl_step
    rw [ht] at hL12 hL14
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexists _
      isplitl [H14]
      · iexact H14
      ipureintro
      exact hL12
    isplitl [H15]
    · iexists _
      isplitl [H15]
      · iexact H15
      ipureintro
      first
      | exact ⟨fun h => absurd h h2, fun _ => rfl⟩
      | refine ⟨fun _ h p j => ?_, fun h => absurd h2 h⟩
        exact (stT arg15 _ _ h p j).trans ((pay8_apply _ h p j).trans ((ldS arg16 _ h p j).trans (hL14 h p j)))
    isplitl [H16]
    · iexists _
      isplitl [H16]
      · iexact H16
      ipureintro
      exact hL14
    iexists _; iexact H17

end Cert.Proof.KI

end
-- ==== Proof.KernelCall.lean ====
/-
  The kernel's body at every point of the grid: what it leaves in the two result blocks and in the carried states, as the
  recurrence of the heads the point works on.
-/
module

public import proofs.«01_k».proof.Proof.KernelBlocks
public import proofs.«01_k».proof.Proof.KernelValue
public import Idealize.ShloMosaic.Lib.Pipeline.FrameSuffix

@[expose] public section

noncomputable section

namespace Cert.Proof.KI

open Cert.KernelIdeal Cert.KernelIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The resources the assertions speak of. -/
local notation "𝕄" => MT nD τ sig Unit (Elt Ideal) ℕ (UR sig nD τ) ℕ

variable (m : (ℓ : Loc nD τ sig) → Buf (Elt Ideal) ℓ)

/-! ### The heads of a grid point -/

/-- The recurrences of the heads of a point, from the point's first token on. -/
def heads8 (c : Dev nD) (t : Fin cfg0.N) (h : Fin 8) : Data := ((arrays m c).data (pb t) (ph t h)).drop (512 * (t.val % 8))

/-- The token's number, within a point's block and within the sequence. -/
theorem tok_pn (t : Fin cfg0.N) (q : Fin 512) : tok (512 * (t.val % 8) + q.val) = pn t q :=
  Fin.ext (Nat.mod_eq_of_lt (pn t q).isLt)

/-- The point's blocks hold the recurrences' data. -/
theorem blockHyp (c : Dev nD) (t : Fin cfg0.N) (hR : (arrays m c).Real) :
    BlockHyp (iblk m c 0 t) (iblk m c 1 t) (iblk m c 2 t) (iblk m c 3 t) (iblk m c 4 t) (iblk m c 5 t) (iblk m c 6 t) (iblk m c 7 t)
      (iblk m c 8 t) (iblk m c 9 t) (iblk m c 10 t) (heads8 m c t) where
  r h j q := by
    rw [blk0, blk3]
    show _ = (((((arrays m c).r (ix4 (pb t) (tok (512 * (t.val % 8) + q.val)) (ph t h) j)).toReal * ((arrays m c).rs (ix3 (pb t) (tok (512 * (t.val % 8) + q.val)) (ph t h))).toReal : ℝ)) : EReal)
    rw [tok_pn, EReal.coe_mul, hR.r, hR.rs]
  k h j q := by
    rw [blk1, blk4]
    show _ = (((((arrays m c).k (ix4 (pb t) (tok (512 * (t.val % 8) + q.val)) (ph t h) j)).toReal * ((arrays m c).ks (ix3 (pb t) (tok (512 * (t.val % 8) + q.val)) (ph t h))).toReal : ℝ)) : EReal)
    rw [tok_pn, EReal.coe_mul, hR.k, hR.ks]
  v h j q := by
    rw [blk2, blk5]
    show _ = (((((arrays m c).v (ix4 (pb t) (tok (512 * (t.val % 8) + q.val)) (ph t h) j)).toReal * ((arrays m c).vs (ix3 (pb t) (tok (512 * (t.val % 8) + q.val)) (ph t h))).toReal : ℝ)) : EReal)
    rw [tok_pn, EReal.coe_mul, hR.v, hR.vs]
  w h j q := by
    refine ⟨(Ideal.exp ((arrays m c).w (ix4 (pb t) (pn t q) (ph t h) j))).toReal, ?_, ?_⟩
    · rw [blk6, exp_real (hR.w _)]
    · show -(Ideal.exp ((arrays m c).w (ix4 (pb t) (tok (512 * (t.val % 8) + q.val)) (ph t h) j))).toReal = _
      rw [tok_pn]
  κ h j q := by
    rw [blk7]
    show _ = ((((arrays m c).kk (ix4 (pb t) (tok (512 * (t.val % 8) + q.val)) (ph t h) j)).toReal : ℝ) : EReal)
    rw [tok_pn, hR.kk]
  β h j q := by
    rw [blk7, blk8]
    show _ = (((((arrays m c).kk (ix4 (pb t) (tok (512 * (t.val % 8) + q.val)) (ph t h) j)).toReal * ((arrays m c).ic (ix4 (pb t) (tok (512 * (t.val % 8) + q.val)) (ph t h) j)).toReal : ℝ)) : EReal)
    rw [tok_pn, EReal.coe_mul, hR.kk, hR.ic]
  x0 h i j := by
    rw [blk9]
    exact (hR.s0 _).symm
  g h q := by
    rw [blk10]
    show _ = ((if decide ((arrays m c).seg (ix2 (pb t) (tok (512 * (t.val % 8) + q.val))) = 1#1) = true then (1 : ℝ) else 0 : ℝ) : EReal)
    rw [tok_pn]; simp only [decide_eq_true_eq]

/-- The first condition holds at the first block of tokens. -/
theorem cond1_iff (t : Fin cfg0.N) : cond1 (grid0.coords t) = 1#1 ↔ t.val % 8 = 0 := by
  revert t; exact (by decide +kernel : ∀ t : Fin grid0.N, cond1 (grid0.coords t) = 1#1 ↔ t.val % 8 = 0)
/-- The second condition holds at the last block of tokens. -/
theorem cond2_iff (t : Fin cfg0.N) : k0_cond2 (grid0.coords t) = 1#1 ↔ t.val % 8 = 7 := by
  revert t; exact (by decide +kernel : ∀ t : Fin grid0.N, k0_cond2 (grid0.coords t) = 1#1 ↔ t.val % 8 = 7)

/-- At a head block's first point the state is the initial one. -/
theorem first_state (c : Dev nD) (t : Fin cfg0.N) (h1 : cond1 (grid0.coords t) = 1#1) (h : Fin 8) : (heads8 m c t h).x = (heads8 m c t h).x0 := by
  show (fun i => ((arrays m c).data (pb t) (ph t h)).state (512 * (t.val % 8)) i) = ((arrays m c).data (pb t) (ph t h)).x0
  rw [(cond1_iff t).mp h1]; rfl

/-- What the carried states hold before point `n`, if it is not a head block's first: the states after the tokens so far. -/
def Carried (c : Dev nD) (n : ℕ) (X : Vec Ideal S8x64x64 .f32) : Prop :=
  n % 8 ≠ 0 → ∀ (b : Fin 12) (g : Fin 56) (h : Fin 8) (p j : Fin 64), b.val = n / 56 → g.val = 8 * (n / 8 % 7) + h.val →
    X (ix3 h p j) = (((arrays m c).data b g).state (512 * (n % 8)) p j : EReal)

/-- Away from the first block of tokens, the carried states are those a body call enters with. -/
theorem states_of_carried (c : Dev nD) (t : Fin cfg0.N) (X : Vec Ideal S8x64x64 .f32) (hX : Carried m c t.val X) (h1 : cond1 (grid0.coords t) ≠ 1#1) :
    States (heads8 m c t) 0 X := fun h p j =>
  hX (fun e => h1 ((cond1_iff t).mpr e)) (pb t) (ph t h) h p j rfl rfl

/-- The states a body call leaves are those the next point wants. -/
theorem carried_of_states (c : Dev nD) (t : Fin cfg0.N) (X : Vec Ideal S8x64x64 .f32) (hX : States (heads8 m c t) 512 X) : Carried m c (t.val + 1) X := by
  intro hn b g h p j hb hg
  have eb : b = pb t := Fin.ext (by rw [hb]; show _ = t.val / 56; omega)
  have eg : g = ph t h := Fin.ext (by rw [hg]; show _ = 8 * (t.val / 8 % 7) + h.val; omega)
  have e := hX h p j
  unfold heads8 at e
  rw [Data.drop_state] at e
  rw [e, eb, eg, show 512 * ((t.val + 1) % 8) = 512 * (t.val % 8) + 512 by omega]

/-- The block of token results a point leaves. -/
def yBlk (c : Dev nD) (t : Fin cfg0.N) : Vec Ideal S1x8x64x512 .bf16 := fun i =>
  (((arrays m c).data (pb t) (ph t (i 1))).out (i 2) (512 * (t.val % 8) + (i 3).val) : EReal)

/-- The block of states a head block's last point leaves. -/
def sBlk (c : Dev nD) (t : Fin cfg0.N) : Vec Ideal S1x8x64x64 .f32 := fun i =>
  (((arrays m c).data (pb t) (ph t (i 1))).state (512 * (t.val % 8) + 512) (i 2) (i 3) : EReal)

/-- A block holding the results of all its tokens is the block the point leaves. -/
theorem yBlk_of_outs (c : Dev nD) (t : Fin cfg0.N) (X : Vec Ideal S1x8x64x512 .bf16) (hX : Outs (heads8 m c t) 512 X) : X = yBlk m c t := by
  funext i
  refine Eq.trans (congrArg X ?_) ((hX (i 1) (i 2) (i 3) (i 3).isLt).trans (congrArg (fun x : ℝ => (x : EReal)) (Data.drop_out _ _ _ _)))
  refine (eq_ix4 i).trans ?_
  exact congrArg (fun a : Fin 1 => ix4 a (i 1) (i 2) (i 3)) (Subsingleton.elim (α := Fin 1) _ _)

/-- A block holding the final states is the block the last point leaves. -/
theorem sBlk_of_finals (c : Dev nD) (t : Fin cfg0.N) (X : Vec Ideal S1x8x64x64 .f32) (hX : Finals (heads8 m c t) X) : X = sBlk m c t := by
  funext i
  refine Eq.trans (congrArg X ?_) ((hX (i 1) (i 2) (i 3)).trans (congrArg (fun f : Fin 64 → ℝ => (f (i 3) : EReal)) (Data.drop_state _ _ _ _)))
  refine (eq_ix4 i).trans ?_
  exact congrArg (fun a : Fin 1 => ix4 a (i 1) (i 2) (i 3)) (Subsingleton.elim (α := Fin 1) _ _)

/-! ### The run's data -/

/-- Between two points: the carried states, the other scratch buffer at some contents, and the generator's register. -/
def Phi (c : Dev nD) (n : ℕ) : sProp 𝕄 :=
  iprop(((∃ X, owns (c : Thread nD τ) (Memref.whole cc0_scratch0) fullShare X ∗ ⌜Carried m c n X⌝)
        ∗ (∃ X, owns (c : Thread nD τ) (Memref.whole cc0_scratch1) fullShare X)) ∗ ∃ r, prngReg c r)

/-- The proof data: the arrays as the region finds them, each input's block in its staging buffer after the body, the
    results' blocks by the recurrences. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yBlk m c t
    | ⟨12, _⟩ => sBlk m c t
  Φ t := Phi m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

/-- A point leaves the receptance codes' block as it found it. -/
theorem after0_0 (c : Dev nD) (t : Fin cfg0.N) : (dats m 0 c).after 0 t = iblk m c 0 t := by dsimp only [dats]
/-- A point leaves the key codes' block as it found it. -/
theorem after0_1 (c : Dev nD) (t : Fin cfg0.N) : (dats m 0 c).after 1 t = iblk m c 1 t := by dsimp only [dats]
/-- A point leaves the value codes' block as it found it. -/
theorem after0_2 (c : Dev nD) (t : Fin cfg0.N) : (dats m 0 c).after 2 t = iblk m c 2 t := by dsimp only [dats]
/-- A point leaves the receptance scales' block as it found it. -/
theorem after0_3 (c : Dev nD) (t : Fin cfg0.N) : (dats m 0 c).after 3 t = iblk m c 3 t := by dsimp only [dats]
/-- A point leaves the key scales' block as it found it. -/
theorem after0_4 (c : Dev nD) (t : Fin cfg0.N) : (dats m 0 c).after 4 t = iblk m c 4 t := by dsimp only [dats]
/-- A point leaves the value scales' block as it found it. -/
theorem after0_5 (c : Dev nD) (t : Fin cfg0.N) : (dats m 0 c).after 5 t = iblk m c 5 t := by dsimp only [dats]
/-- A point leaves the log decays' block as it found it. -/
theorem after0_6 (c : Dev nD) (t : Fin cfg0.N) : (dats m 0 c).after 6 t = iblk m c 6 t := by dsimp only [dats]
/-- A point leaves the removal keys' block as it found it. -/
theorem after0_7 (c : Dev nD) (t : Fin cfg0.N) : (dats m 0 c).after 7 t = iblk m c 7 t := by dsimp only [dats]
/-- A point leaves the learning rates' block as it found it. -/
theorem after0_8 (c : Dev nD) (t : Fin cfg0.N) : (dats m 0 c).after 8 t = iblk m c 8 t := by dsimp only [dats]
/-- A point leaves the initial states' block as it found it. -/
theorem after0_9 (c : Dev nD) (t : Fin cfg0.N) : (dats m 0 c).after 9 t = iblk m c 9 t := by dsimp only [dats]
/-- A point leaves the segment starts' block as it found it. -/
theorem after0_10 (c : Dev nD) (t : Fin cfg0.N) : (dats m 0 c).after 10 t = iblk m c 10 t := by dsimp only [dats]
/-- What a point leaves in the results' block. -/
theorem after0_11 (c : Dev nD) (t : Fin cfg0.N) : (dats m 0 c).after 11 t = yBlk m c t := by dsimp only [dats]
/-- What a point leaves in the final states' block. -/
theorem after0_12 (c : Dev nD) (t : Fin cfg0.N) : (dats m 0 c).after 12 t = sBlk m c t := by dsimp only [dats]
/-- A point finds the receptance codes' block as it was fetched. -/
theorem before0_0 (c : Dev nD) (t : Fin cfg0.N) (d) : (dats m 0 c).before 0 t d = iblk m c 0 t :=
  before0_0_of m (dats m 0 c) (A_eq m c 0) (after0_0 m c) t d
/-- A point finds the key codes' block as it was fetched. -/
theorem before0_1 (c : Dev nD) (t : Fin cfg0.N) (d) : (dats m 0 c).before 1 t d = iblk m c 1 t :=
  before0_1_of m (dats m 0 c) (A_eq m c 1) (after0_1 m c) t d
/-- A point finds the value codes' block as it was fetched. -/
theorem before0_2 (c : Dev nD) (t : Fin cfg0.N) (d) : (dats m 0 c).before 2 t d = iblk m c 2 t :=
  before0_2_of m (dats m 0 c) (A_eq m c 2) (after0_2 m c) t d
/-- A point finds the receptance scales' block as it was fetched. -/
theorem before0_3 (c : Dev nD) (t : Fin cfg0.N) (d) : (dats m 0 c).before 3 t d = iblk m c 3 t :=
  before0_3_of m (dats m 0 c) (A_eq m c 3) (after0_3 m c) t d
/-- A point finds the key scales' block as it was fetched. -/
theorem before0_4 (c : Dev nD) (t : Fin cfg0.N) (d) : (dats m 0 c).before 4 t d = iblk m c 4 t :=
  before0_4_of m (dats m 0 c) (A_eq m c 4) (after0_4 m c) t d
/-- A point finds the value scales' block as it was fetched. -/
theorem before0_5 (c : Dev nD) (t : Fin cfg0.N) (d) : (dats m 0 c).before 5 t d = iblk m c 5 t :=
  before0_5_of m (dats m 0 c) (A_eq m c 5) (after0_5 m c) t d
/-- A point finds the log decays' block as it was fetched. -/
theorem before0_6 (c : Dev nD) (t : Fin cfg0.N) (d) : (dats m 0 c).before 6 t d = iblk m c 6 t :=
  before0_6_of m (dats m 0 c) (A_eq m c 6) (after0_6 m c) t d
/-- A point finds the removal keys' block as it was fetched. -/
theorem before0_7 (c : Dev nD) (t : Fin cfg0.N) (d) : (dats m 0 c).before 7 t d = iblk m c 7 t :=
  before0_7_of m (dats m 0 c) (A_eq m c 7) (after0_7 m c) t d
/-- A point finds the learning rates' block as it was fetched. -/
theorem before0_8 (c : Dev nD) (t : Fin cfg0.N) (d) : (dats m 0 c).before 8 t d = iblk m c 8 t :=
  before0_8_of m (dats m 0 c) (A_eq m c 8) (after0_8 m c) t d
/-- A point finds the initial states' block as it was fetched. -/
theorem before0_9 (c : Dev nD) (t : Fin cfg0.N) (d) : (dats m 0 c).before 9 t d = iblk m c 9 t :=
  before0_9_of m (dats m 0 c) (A_eq m c 9) (after0_9 m c) t d
/-- A point finds the segment starts' block as it was fetched. -/
theorem before0_10 (c : Dev nD) (t : Fin cfg0.N) (d) : (dats m 0 c).before 10 t d = iblk m c 10 t :=
  before0_10_of m (dats m 0 c) (A_eq m c 10) (after0_10 m c) t d

/-- The class invariant, its two scratch buffers at some contents each. -/
theorem phiA_eq (c : Dev nD) : (Pipeline.ΦA spec0 c : sProp 𝕄)
    = iprop(((∃ X, owns (c : Thread nD τ) (Memref.whole cc0_scratch0) fullShare X)
        ∗ (∃ X, owns (c : Thread nD τ) (Memref.whole cc0_scratch1) fullShare X)) ∗ ∃ r, prngReg c r) := by
  unfold Pipeline.ΦA; rw [scopedRest0_eq]; simp only [owns_whole]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- And what it returns; the last window is handed back as it was found, but at a head block's last point. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ R)

set_option maxHeartbeats 1600000 in
/-- The body at any other point. -/
theorem sound_inner (c : Dev nD) (hR : (arrays m c).Real) (t : Fin cfg0.N) (h2 : k0_cond2 (grid0.coords t) ≠ 1#1) :
    bodyPre m c t ⊢ wp frame (wpE (defs₀ (F := Ideal)) Variants.none c none) Set.univ (bodyAt0 t) (fun _ => bodyPost m c t iprop(∃ d, owns (c : Thread nD τ) (st0_12 t) fullShare ((dats m 0 c).before 12 t d))) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = Phi m c (t.val + 1) from rfl, show (dats m 0 c).Φ t.castSucc = Phi m c t.val from rfl,
    after0_0, after0_1, after0_2, after0_3, after0_4, after0_5, after0_6, after0_7, after0_8, after0_9, after0_10, after0_11]
  unfold Phi owns
  iintro ⟨⟨⟨⟨%S0, ⟨%s0, %hs0, HS0⟩, %hS0⟩, ⟨%S1, %s1, %hs1, HS1⟩⟩, HR⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  have HB := blockHyp m c t hR
  rw [← hf0, ← hf1, ← hf2, ← hf3, ← hf4, ← hf5, ← hf6, ← hf7, ← hf8, ← hf9, ← hf10] at HB
  iapply (kernelRun c _ _ _ _ _ _ _ _ _ _ _ _ _ _ _ _ _ _ _ _ _ _ _ _ _ _ _ _ _ _ _ f0 f1 f2 f3 f4 f5 f6 f7 f8 f9 f10 f12 (heads8 m c t) HB (first_state m c t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; iexact H11
  isplitl [H12]
  · iexact H12
  isplitl [HS0]
  · iexists s0
    isplitl [HS0]
    · iexact HS0
    ipureintro
    intro h1
    have e := states_of_carried m c t S0 hS0 h1
    rw [← hs0] at e
    exact e
  isplitl [HS1]
  · iexists _; iexact HS1
  iintro ⟨H0, H1, H2, H3, H4, H5, H6, H7, H8, H9, H10, ⟨%e11, H11, %g11⟩, ⟨%e12, H12, %g12⟩, ⟨%e0, HS0, %g0⟩, ⟨%e1, HS1⟩⟩
  isplitl [HS0 HS1 HR]
  · isplitl [HS0 HS1]
    · isplitl [HS0]
      · iexists _
        isplitl [HS0]
        · iexists e0; isplitr; · ipureintro; rfl
          iexact HS0
        ipureintro
        exact carried_of_states m c t _ g0
      iexists _; iexists e1; isplitr; · ipureintro; rfl
      iexact HS1
    iexact HR
  isplitl [Ho]
  · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists e11; isplitr; · ipureintro; exact yBlk_of_outs m c t _ g11
    iexact H11
  iexists d12
  iexists e12; isplitr
  · ipureintro
    rw [g12.2 h2]; exact hf12
  iexact H12

set_option maxHeartbeats 1600000 in
/-- The body at a head block’s last point. -/
theorem sound_last (c : Dev nD) (hR : (arrays m c).Real) (t : Fin cfg0.N) (h2 : k0_cond2 (grid0.coords t) = 1#1) :
    bodyPre m c t ⊢ wp frame (wpE (defs₀ (F := Ideal)) Variants.none c none) Set.univ (bodyAt0 t) (fun _ => bodyPost m c t (owns (c : Thread nD τ) (st0_12 t) fullShare ((dats m 0 c).after 12 t))) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = Phi m c (t.val + 1) from rfl, show (dats m 0 c).Φ t.castSucc = Phi m c t.val from rfl,
    after0_0, after0_1, after0_2, after0_3, after0_4, after0_5, after0_6, after0_7, after0_8, after0_9, after0_10, after0_11, after0_12]
  unfold Phi owns
  iintro ⟨⟨⟨⟨%S0, ⟨%s0, %hs0, HS0⟩, %hS0⟩, ⟨%S1, %s1, %hs1, HS1⟩⟩, HR⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  have HB := blockHyp m c t hR
  rw [← hf0, ← hf1, ← hf2, ← hf3, ← hf4, ← hf5, ← hf6, ← hf7, ← hf8, ← hf9, ← hf10] at HB
  iapply (kernelRun c _ _ _ _ _ _ _ _ _ _ _ _ _ _ _ _ _ _ _ _ _ _ _ _ _ _ _ _ _ _ _ f0 f1 f2 f3 f4 f5 f6 f7 f8 f9 f10 f12 (heads8 m c t) HB (first_state m c t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexists _; iexact H11
  isplitl [H12]
  · iexact H12
  isplitl [HS0]
  · iexists s0
    isplitl [HS0]
    · iexact HS0
    ipureintro
    intro h1
    have e := states_of_carried m c t S0 hS0 h1
    rw [← hs0] at e
    exact e
  isplitl [HS1]
  · iexists _; iexact HS1
  iintro ⟨H0, H1, H2, H3, H4, H5, H6, H7, H8, H9, H10, ⟨%e11, H11, %g11⟩, ⟨%e12, H12, %g12⟩, ⟨%e0, HS0, %g0⟩, ⟨%e1, HS1⟩⟩
  isplitl [HS0 HS1 HR]
  · isplitl [HS0 HS1]
    · isplitl [HS0]
      · iexists _
        isplitl [HS0]
        · iexists e0; isplitr; · ipureintro; rfl
          iexact HS0
        ipureintro
        exact carried_of_states m c t _ g0
      iexists _; iexists e1; isplitr; · ipureintro; rfl
      iexact HS1
    iexact HR
  isplitl [Ho]
  · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists e11; isplitr; · ipureintro; exact yBlk_of_outs m c t _ g11
    iexact H11
  iexists e12; isplitr; · ipureintro; exact sBlk_of_finals m c t _ (g12.1 h2)
  iexact H12

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The final states' block rests at every point but a head block's last. -/
theorem idle12 (t : Fin cfg0.N) : cfg0.idle 12 (cfg0.grid.coords t) = !(k0_cond2 (grid0.coords t) == 1#1) := rfl

set_option backward.isDefEq.respectTransparency.types false in
/-- The body obligation at every point. -/
theorem body_obligation (c : Dev nD) (hR : (arrays m c).Real) : BodyObligation (dats m 0 c) (defs₀ (F := Ideal)) Variants.none () Set.univ := fun t => by
  rw [bigSep_W0, bigSep_W0, defs₀_row]
  by_cases h2 : k0_cond2 (grid0.coords t) = 1#1
  · have hi : cfg0.idle 12 (cfg0.grid.coords t) = false := by rw [idle12, h2]; rfl
    rw [hi]
    exact triple_restated (sound_last m c hR t h2) rfl .rfl fun _ => .rfl
  · have hi : cfg0.idle 12 (cfg0.grid.coords t) = true := by rw [idle12, beq_eq_false_iff_ne.mpr h2]; rfl
    have hf : (cfg0.win 12).flush t = false := by
      refine Bool.eq_false_iff.mpr fun e => h2 ((cond2_iff t).mpr ((flush0_12 t).mp e))
    rw [hi, hf]
    exact triple_restated (sound_inner m c hR t h2) rfl .rfl fun _ => .rfl

end Cert.Proof.KI

end
-- ==== Proof.KernelRun.lean ====
/-
  The kernel's run: both results as the recurrences of the arguments.
-/
module

public import proofs.«01_k».proof.Proof.KernelCall

@[expose] public section

noncomputable section

namespace Cert.Proof.KI

open Cert.KernelIdeal Cert.KernelIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The resources the assertions speak of. -/
local notation "𝕄" => MT nD τ sig Unit (Elt Ideal) ℕ (UR sig nD τ) ℕ

variable (m : (ℓ : Loc nD τ sig) → Buf (Elt Ideal) ℓ) (ρ : Dev nD → PrngReg)

/-- Before the first point nothing is asked of the scratch memory. -/
theorem phi_in (c : Dev nD) : (Pipeline.ΦA spec0 c : sProp 𝕄) ⊢ Phi m c 0 := by
  rw [phiA_eq]; unfold Phi
  iintro ⟨⟨⟨%X, HX⟩, HY⟩, HR⟩
  isplitl [HX HY]
  · isplitl [HX]
    · iexists X
      isplitl [HX]
      · iexact HX
      ipureintro
      exact fun h => absurd rfl h
    iexact HY
  iexact HR

/-- After any point what is known of the scratch memory can be forgotten. -/
theorem phi_out (c : Dev nD) (n : ℕ) : Phi m c n ⊢ (Pipeline.ΦA spec0 c : sProp 𝕄) := by
  rw [phiA_eq]; unfold Phi
  iintro ⟨⟨⟨%X, HX, %hX⟩, HY⟩, HR⟩
  isplitl [HX HY]
  · isplitl [HX]
    · iexists X; iexact HX
    iexact HY
  iexact HR

set_option backward.isDefEq.respectTransparency.types false in
/-- The launch: the program runs to its end with both results' arrays at what the points leave. -/
theorem run_main (hR : ∀ c, (arrays m c).Real) : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c (hR c)).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => phi_in m c) (hout := fun c => phi_out m c _)

set_option maxHeartbeats 4000000 in
/-- The array of token results, tokens last. -/
theorem arrY (c : Dev nD) : (dats m 0 c).arrAt 11 cfg0.N
    = fun i : S12x56x64x4096.Idx => (((arrays m c).data (i 0) (i 1)).out (i 2) (i 3).val : EReal) := by
  refine (dats m 0 c).arrAt_eq_of_covers 11 _ (by decide +kernel) fun t hf y => ?_
  blk_simp
  rw [after0_11]
  unfold yBlk
  have h0 : (win0_11.blk t).view.emb y 0 = pb t := Fin.ext (by blk_simp [place11 t]; rfl)
  have h1 : (win0_11.blk t).view.emb y 1 = ph t (y 1) := Fin.ext (by blk_simp [place11 t]; show _ = 8 * (t.val / 8 % 7) + (y 1).val; omega)
  have h2 : (win0_11.blk t).view.emb y 2 = y 2 := Fin.ext (by blk_simp [place11 t])
  have h3 : win0_11.index t 3 * 512 + (y 3).val = 512 * (t.val % 8) + (y 3).val := by blk_simp [place11 t]; omega
  show ((((arrays m c).data (pb t) (ph t (y 1))).out (y 2) (512 * (t.val % 8) + (y 3).val) : ℝ) : EReal)
    = (((arrays m c).data ((win0_11.blk t).view.emb y 0) ((win0_11.blk t).view.emb y 1)).out ((win0_11.blk t).view.emb y 2) (win0_11.index t 3 * 512 + (y 3).val) : ℝ)
  rw [h0, h1, h2, h3]

set_option maxHeartbeats 4000000 in
/-- The array of final states. -/
theorem arrS (c : Dev nD) : (dats m 0 c).arrAt 12 cfg0.N = (arrays m c).sf := by
  refine (dats m 0 c).arrAt_eq_of_covers 12 _ (by decide +kernel) fun t hf y => ?_
  blk_simp
  rw [after0_12]
  unfold sBlk
  have h0 : (win0_12.blk t).view.emb y 0 = pb t := Fin.ext (by blk_simp [place12 t]; rfl)
  have h1 : (win0_12.blk t).view.emb y 1 = ph t (y 1) := Fin.ext (by blk_simp [place12 t]; show _ = 8 * (t.val / 8 % 7) + (y 1).val; omega)
  have h2 : (win0_12.blk t).view.emb y 2 = y 2 := Fin.ext (by blk_simp [place12 t])
  have h3 : (win0_12.blk t).view.emb y 3 = y 3 := Fin.ext (by blk_simp [place12 t])
  have hl : t.val % 8 = 7 := (flush0_12 t).1 hf
  show ((((arrays m c).data (pb t) (ph t (y 1))).state (512 * (t.val % 8) + 512) (y 2) (y 3) : ℝ) : EReal)
    = (((arrays m c).data ((win0_12.blk t).view.emb y 0) ((win0_12.blk t).view.emb y 1)).state 4096 ((win0_12.blk t).view.emb y 2) ((win0_12.blk t).view.emb y 3) : ℝ)
  rw [h0, h1, h2, h3, hl]

variable (hR : ∀ c, (arrays m c).Real)

/-- What the two result buffers hold after the program's last line. -/
theorem tail_y (c : Dev nD) : Pipeline.afterTail₀ cfgs (dats m) 0 (V0 m) [hostOps1] c main_v15 = (arrays m c).y := by
  show StableHlo.after (List.flatten [hostOps1]) (Pipeline.withArrays spec0 c (V0 m c) fun w => (dats m 0 c).arrAt w cfg0.N) (Proc.devRef .tc main_v15) = _
  simp only [hostOps1, List.flatten_cons, List.flatten_nil, List.append_nil, List.cons_append, List.nil_append]
  after_results
  rw [show Pipeline.withArrays spec0 c (V0 m c) (fun w => (dats m 0 c).arrAt w cfg0.N) (Proc.devRef .tc main_v14_0) = (dats m 0 c).arrAt 11 cfg0.N from
    Pipeline.withArrays_arr spec0 launch0.win.arr_inj c (V0 m c) (fun w => (dats m 0 c).arrAt w cfg0.N) 11, arrY m c]
  funext i
  rw [eq_ix4 i]
  generalize i 0 = b; generalize i 1 = n; generalize i 2 = h; generalize i 3 = p
  rfl

/-- The final states' buffer, an array of the pipeline. -/
theorem post_sf {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_v14_1) = (arrays m c).sf :=
  ((h c).1 12).trans (arrS m c)

/-- The token results' buffer, which the last line fills. -/
theorem post_y {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_v15) = (arrays m c).y :=
  ((h c).2 main_v15 (Pipeline.mem_restRefs_of main_v15 (by decide) (by decide))).trans (tail_y m c)

/-- Argument 0 ends as it was. -/
theorem post_arg0 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) := by
  refine ((h c).2 main_arg0 (Pipeline.mem_restRefs_of main_arg0 (by decide) (by decide))).trans ?_
  show StableHlo.after (List.flatten [hostOps1]) (Pipeline.withArrays spec0 c (V0 m c) fun w => (dats m 0 c).arrAt w cfg0.N) (Proc.devRef .tc main_arg0) = _
  simp only [hostOps1, List.flatten_cons, List.flatten_nil, List.append_nil, List.cons_append, List.nil_append]
  after_results
  refine (Pipeline.withArrays_of_ne spec0 c (V0 m c) _ main_arg0 (by decide)).trans ?_
  show StableHlo.after (List.flatten [hostOps0]) (fun b => m (c, b)) (Proc.devRef .tc main_arg0) = _
  simp only [hostOps0, List.flatten_cons, List.flatten_nil, List.append_nil, List.cons_append, List.nil_append]
  after_results

/-- Argument 1 ends as it was. -/
theorem post_arg1 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) := by
  refine ((h c).2 main_arg1 (Pipeline.mem_restRefs_of main_arg1 (by decide) (by decide))).trans ?_
  show StableHlo.after (List.flatten [hostOps1]) (Pipeline.withArrays spec0 c (V0 m c) fun w => (dats m 0 c).arrAt w cfg0.N) (Proc.devRef .tc main_arg1) = _
  simp only [hostOps1, List.flatten_cons, List.flatten_nil, List.append_nil, List.cons_append, List.nil_append]
  after_results
  refine (Pipeline.withArrays_of_ne spec0 c (V0 m c) _ main_arg1 (by decide)).trans ?_
  show StableHlo.after (List.flatten [hostOps0]) (fun b => m (c, b)) (Proc.devRef .tc main_arg1) = _
  simp only [hostOps0, List.flatten_cons, List.flatten_nil, List.append_nil, List.cons_append, List.nil_append]
  after_results

/-- Argument 2 ends as it was. -/
theorem post_arg2 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) := by
  refine ((h c).2 main_arg2 (Pipeline.mem_restRefs_of main_arg2 (by decide) (by decide))).trans ?_
  show StableHlo.after (List.flatten [hostOps1]) (Pipeline.withArrays spec0 c (V0 m c) fun w => (dats m 0 c).arrAt w cfg0.N) (Proc.devRef .tc main_arg2) = _
  simp only [hostOps1, List.flatten_cons, List.flatten_nil, List.append_nil, List.cons_append, List.nil_append]
  after_results
  refine (Pipeline.withArrays_of_ne spec0 c (V0 m c) _ main_arg2 (by decide)).trans ?_
  show StableHlo.after (List.flatten [hostOps0]) (fun b => m (c, b)) (Proc.devRef .tc main_arg2) = _
  simp only [hostOps0, List.flatten_cons, List.flatten_nil, List.append_nil, List.cons_append, List.nil_append]
  after_results

/-- Argument 3 ends as it was. -/
theorem post_arg3 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) := by
  refine ((h c).2 main_arg3 (Pipeline.mem_restRefs_of main_arg3 (by decide) (by decide))).trans ?_
  show StableHlo.after (List.flatten [hostOps1]) (Pipeline.withArrays spec0 c (V0 m c) fun w => (dats m 0 c).arrAt w cfg0.N) (Proc.devRef .tc main_arg3) = _
  simp only [hostOps1, List.flatten_cons, List.flatten_nil, List.append_nil, List.cons_append, List.nil_append]
  after_results
  refine (Pipeline.withArrays_of_ne spec0 c (V0 m c) _ main_arg3 (by decide)).trans ?_
  show StableHlo.after (List.flatten [hostOps0]) (fun b => m (c, b)) (Proc.devRef .tc main_arg3) = _
  simp only [hostOps0, List.flatten_cons, List.flatten_nil, List.append_nil, List.cons_append, List.nil_append]
  after_results

/-- Argument 4 ends as it was. -/
theorem post_arg4 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) := by
  refine ((h c).2 main_arg4 (Pipeline.mem_restRefs_of main_arg4 (by decide) (by decide))).trans ?_
  show StableHlo.after (List.flatten [hostOps1]) (Pipeline.withArrays spec0 c (V0 m c) fun w => (dats m 0 c).arrAt w cfg0.N) (Proc.devRef .tc main_arg4) = _
  simp only [hostOps1, List.flatten_cons, List.flatten_nil, List.append_nil, List.cons_append, List.nil_append]
  after_results
  refine (Pipeline.withArrays_of_ne spec0 c (V0 m c) _ main_arg4 (by decide)).trans ?_
  show StableHlo.after (List.flatten [hostOps0]) (fun b => m (c, b)) (Proc.devRef .tc main_arg4) = _
  simp only [hostOps0, List.flatten_cons, List.flatten_nil, List.append_nil, List.cons_append, List.nil_append]
  after_results

/-- Argument 5 ends as it was. -/
theorem post_arg5 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) := by
  refine ((h c).2 main_arg5 (Pipeline.mem_restRefs_of main_arg5 (by decide) (by decide))).trans ?_
  show StableHlo.after (List.flatten [hostOps1]) (Pipeline.withArrays spec0 c (V0 m c) fun w => (dats m 0 c).arrAt w cfg0.N) (Proc.devRef .tc main_arg5) = _
  simp only [hostOps1, List.flatten_cons, List.flatten_nil, List.append_nil, List.cons_append, List.nil_append]
  after_results
  refine (Pipeline.withArrays_of_ne spec0 c (V0 m c) _ main_arg5 (by decide)).trans ?_
  show StableHlo.after (List.flatten [hostOps0]) (fun b => m (c, b)) (Proc.devRef .tc main_arg5) = _
  simp only [hostOps0, List.flatten_cons, List.flatten_nil, List.append_nil, List.cons_append, List.nil_append]
  after_results

/-- Argument 6 ends as it was. -/
theorem post_arg6 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) := by
  refine ((h c).2 main_arg6 (Pipeline.mem_restRefs_of main_arg6 (by decide) (by decide))).trans ?_
  show StableHlo.after (List.flatten [hostOps1]) (Pipeline.withArrays spec0 c (V0 m c) fun w => (dats m 0 c).arrAt w cfg0.N) (Proc.devRef .tc main_arg6) = _
  simp only [hostOps1, List.flatten_cons, List.flatten_nil, List.append_nil, List.cons_append, List.nil_append]
  after_results
  refine (Pipeline.withArrays_of_ne spec0 c (V0 m c) _ main_arg6 (by decide)).trans ?_
  show StableHlo.after (List.flatten [hostOps0]) (fun b => m (c, b)) (Proc.devRef .tc main_arg6) = _
  simp only [hostOps0, List.flatten_cons, List.flatten_nil, List.append_nil, List.cons_append, List.nil_append]
  after_results

/-- Argument 7 ends as it was. -/
theorem post_arg7 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) := by
  refine ((h c).2 main_arg7 (Pipeline.mem_restRefs_of main_arg7 (by decide) (by decide))).trans ?_
  show StableHlo.after (List.flatten [hostOps1]) (Pipeline.withArrays spec0 c (V0 m c) fun w => (dats m 0 c).arrAt w cfg0.N) (Proc.devRef .tc main_arg7) = _
  simp only [hostOps1, List.flatten_cons, List.flatten_nil, List.append_nil, List.cons_append, List.nil_append]
  after_results
  refine (Pipeline.withArrays_of_ne spec0 c (V0 m c) _ main_arg7 (by decide)).trans ?_
  show StableHlo.after (List.flatten [hostOps0]) (fun b => m (c, b)) (Proc.devRef .tc main_arg7) = _
  simp only [hostOps0, List.flatten_cons, List.flatten_nil, List.append_nil, List.cons_append, List.nil_append]
  after_results

/-- Argument 8 ends as it was. -/
theorem post_arg8 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) := by
  refine ((h c).2 main_arg8 (Pipeline.mem_restRefs_of main_arg8 (by decide) (by decide))).trans ?_
  show StableHlo.after (List.flatten [hostOps1]) (Pipeline.withArrays spec0 c (V0 m c) fun w => (dats m 0 c).arrAt w cfg0.N) (Proc.devRef .tc main_arg8) = _
  simp only [hostOps1, List.flatten_cons, List.flatten_nil, List.append_nil, List.cons_append, List.nil_append]
  after_results
  refine (Pipeline.withArrays_of_ne spec0 c (V0 m c) _ main_arg8 (by decide)).trans ?_
  show StableHlo.after (List.flatten [hostOps0]) (fun b => m (c, b)) (Proc.devRef .tc main_arg8) = _
  simp only [hostOps0, List.flatten_cons, List.flatten_nil, List.append_nil, List.cons_append, List.nil_append]
  after_results

/-- Argument 10 ends as it was. -/
theorem post_arg10 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) := by
  refine ((h c).2 main_arg10 (Pipeline.mem_restRefs_of main_arg10 (by decide) (by decide))).trans ?_
  show StableHlo.after (List.flatten [hostOps1]) (Pipeline.withArrays spec0 c (V0 m c) fun w => (dats m 0 c).arrAt w cfg0.N) (Proc.devRef .tc main_arg10) = _
  simp only [hostOps1, List.flatten_cons, List.flatten_nil, List.append_nil, List.cons_append, List.nil_append]
  after_results
  refine (Pipeline.withArrays_of_ne spec0 c (V0 m c) _ main_arg10 (by decide)).trans ?_
  show StableHlo.after (List.flatten [hostOps0]) (fun b => m (c, b)) (Proc.devRef .tc main_arg10) = _
  simp only [hostOps0, List.flatten_cons, List.flatten_nil, List.append_nil, List.cons_append, List.nil_append]
  after_results

/-- Argument 9, an input of the pipeline, ends as it was. -/
theorem post_arg9 {r : PUnit × MemSt nD τ sig (Elt Ideal)} (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) := by
  refine ((h c).1 9).trans (((dats m 0 c).arrAt_in 9 rfl _).trans ((A_eq m c 9).trans ?_))
  show StableHlo.after (List.flatten [hostOps0]) (fun b => m (c, b)) (Proc.devRef .tc main_arg9) = _
  simp only [hostOps0, List.flatten_cons, List.flatten_nil, List.append_nil, List.cons_append, List.nil_append]
  after_results

/-- The run: both results at the recurrences of the arguments, the arguments as they were. -/
theorem run (hR : ∀ c, (arrays m c).Real) : θ_run defs (onTc (τ := τ) (main (F := Ideal))) ⟨m, fun _ => 0, ρ⟩ (fun r => ∀ c : Dev nD,
    r.2.mem ((c.tc : Thread nD τ).loc main_v15) = (arrays m c).y
      ∧ r.2.mem ((c.tc : Thread nD τ).loc main_v14_1) = (arrays m c).sf
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨post_y m h c, post_sf m h c, post_arg0 m h c, post_arg1 m h c, post_arg2 m h c, post_arg3 m h c, post_arg4 m h c, post_arg5 m h c, post_arg6 m h c, post_arg7 m h c, post_arg8 m h c, post_arg9 m h c, post_arg10 m h c⟩) (run_main m ρ hR)

end Cert.Proof.KI

end
-- ==== Proof.RefStep.lean ====
/-
  The reference's values of one token, element by element.
-/
module

public import proofs.«01_k».proof.Proof.Gen.ReferenceIdeal.Skeleton
public import proofs.«01_k».proof.Proof.Spec
public import Idealize.ShloMosaic.Lib.Pointwise

@[expose] public section

noncomputable section

namespace Cert.Proof.RI

open Cert.ReferenceIdeal Cert.ReferenceIdeal.Gen Cert.Proof.Head
open Idealize.ShloMosaic

/-- The query of a token: its codes times their scale. -/
theorem pay2_apply (X : Vec Ideal S12x1x56x64 .fp8e4m3) (Y : Vec Ideal S12x1x56 .f32) (b : Fin 12) (h : Fin 56) (j : Fin 64) :
    (k0_pay2 (F := Ideal) X Y (ix3 b h j) : EReal) = (X (ix4 b 0 h j) : EReal) * (Y (ix3 b 0 h) : EReal) := by
  pointwise [k0_pay2]

/-- The key of a token: its codes times their scale. -/
theorem pay3_apply (X : Vec Ideal S12x1x56x64 .fp8e4m3) (Y : Vec Ideal S12x1x56 .f32) (b : Fin 12) (h : Fin 56) (j : Fin 64) :
    (k0_pay3 (F := Ideal) X Y (ix3 b h j) : EReal) = (X (ix4 b 0 h j) : EReal) * (Y (ix3 b 0 h) : EReal) := by
  pointwise [k0_pay3]

/-- The value of a token: its codes times their scale. -/
theorem pay4_apply (X : Vec Ideal S12x1x56x64 .fp8e4m3) (Y : Vec Ideal S12x1x56 .f32) (b : Fin 12) (h : Fin 56) (j : Fin 64) :
    (k0_pay4 (F := Ideal) X Y (ix3 b h j) : EReal) = (X (ix4 b 0 h j) : EReal) * (Y (ix3 b 0 h) : EReal) := by
  pointwise [k0_pay4]

/-- The decay of a token. -/
theorem pay5_apply (X : Vec Ideal S12x1x56x64 .bf16) (b : Fin 12) (h : Fin 56) (j : Fin 64) :
    (k0_pay5 (F := Ideal) X (ix3 b h j) : EReal) = Ideal.exp (0 - Ideal.exp (X (ix4 b 0 h j))) := by
  pointwise [k0_pay5]

/-- The state after a token. -/
theorem pay6_apply (v0 : Vec Ideal S12x56x64x64 .f32) (a : Vec Ideal S12x56x64x64 .f32) (v23 v33 v41 : FVec Ideal S12x56x64 .f32)
    (v43 v49 : Vec Ideal S12x1x56x64 .bf16) (v54 : Vec Ideal S12x1x1x1x1 .i32) (b : Fin 12) (h : Fin 56) (i j : Fin 64) :
    (k0_pay6 (F := Ideal) v0 a v23 v33 v41 v43 v49 v54 (ix4 b h i j) : EReal)
      = (Scalar.select (IntOp.cmpi CmpIPredicate.ne (v54 (ix5 b 0 0 0 0)) 0#32) (v0 (ix4 b h i j)) (a (ix4 b h i j)) : EReal) * (v41 (ix3 b h j) : EReal)
        + (∑ x : Fin 64, (Scalar.select (IntOp.cmpi CmpIPredicate.ne (v54 (ix5 b 0 0 0 0)) 0#32) (v0 (ix4 b h i x)) (a (ix4 b h i x)) : EReal) * (0 - (v43 (ix4 b 0 h x) : EReal)))
          * ((v43 (ix4 b 0 h j) : EReal) * (v49 (ix4 b 0 h j) : EReal))
        + (v33 (ix3 b h i) : EReal) * (v23 (ix3 b h j) : EReal) := by
  pointwise [k0_pay6]

/-- The result of a token. -/
theorem pay7_apply (v0 : Vec Ideal S12x56x64x64 .f32) (a : Vec Ideal S12x56x64x64 .f32) (v13 v23 v33 v41 : FVec Ideal S12x56x64 .f32)
    (v43 v49 : Vec Ideal S12x1x56x64 .bf16) (v54 : Vec Ideal S12x1x1x1x1 .i32) (b : Fin 12) (h : Fin 56) (i : Fin 64) :
    (k0_pay7 (F := Ideal) v0 a v13 v23 v33 v41 v43 v49 v54 (ix3 b h i) : EReal)
      = ∑ j : Fin 64, (k0_pay6 (F := Ideal) v0 a v23 v33 v41 v43 v49 v54 (ix4 b h i j) : EReal) * (v13 (ix3 b h j) : EReal) := by
  pointwise [k0_pay7]

/-- The result of a token, as it is stored. -/
theorem pay1_apply (X : FVec Ideal S12x56x64 .bf16) (b : Fin 12) (h : Fin 56) (i : Fin 64) :
    (k0_pay1 (F := Ideal) X (ix4 b 0 h i) : EReal) = X (ix3 b h i) := by
  pointwise [k0_pay1]

/-- What is loaded for one token of batch entry `b` and head `h`, at the numbers of the recurrence `D`'s token `n`. -/
structure TokenHyp (D : Data) (n : ℕ) (b : Fin 12) (h : Fin 56) (v0 a : Vec Ideal S12x56x64x64 .f32) (v13 v23 v33 v41 : FVec Ideal S12x56x64 .f32)
    (v43 v49 : Vec Ideal S12x1x56x64 .bf16) (v54 : Vec Ideal S12x1x1x1x1 .i32) : Prop where
  g : v54 (ix5 b 0 0 0 0) = if D.g n then 1#32 else 0#32
  x0 : ∀ i j, (v0 (ix4 b h i j) : EReal) = (D.x0 i j : ℝ)
  x : ∀ i j, (a (ix4 b h i j) : EReal) = (D.state n i j : ℝ)
  r : ∀ j, (v13 (ix3 b h j) : EReal) = (D.r n j : ℝ)
  k : ∀ j, (v23 (ix3 b h j) : EReal) = (D.k n j : ℝ)
  v : ∀ i, (v33 (ix3 b h i) : EReal) = (D.v i n : ℝ)
  ℓ : ∀ j, (v41 (ix3 b h j) : EReal) = (Real.exp (D.ℓ n j) : ℝ)
  κ : ∀ j, (v43 (ix4 b 0 h j) : EReal) = (D.κ n j : ℝ)
  β : ∀ j, ((v43 (ix4 b 0 h j) : EReal) * (v49 (ix4 b 0 h j) : EReal) : EReal) = (D.β n j : ℝ)

section
variable {D : Data} {n : ℕ} {b : Fin 12} {h : Fin 56} {v0 a : Vec Ideal S12x56x64x64 .f32} {v13 v23 v33 v41 : FVec Ideal S12x56x64 .f32}
  {v43 v49 : Vec Ideal S12x1x56x64 .bf16} {v54 : Vec Ideal S12x1x1x1x1 .i32}

/-- The new state is the recurrence's. -/
theorem TokenHyp.state (H : TokenHyp D n b h v0 a v13 v23 v33 v41 v43 v49 v54) (i j : Fin 64) :
    (k0_pay6 (F := Ideal) v0 a v23 v33 v41 v43 v49 v54 (ix4 b h i j) : EReal) = (D.state (n + 1) i j : ℝ) := by
  have hs : ∀ x, (Scalar.select (IntOp.cmpi CmpIPredicate.ne (v54 (ix5 b 0 0 0 0)) 0#32) (v0 (ix4 b h i x)) (a (ix4 b h i x)) : EReal)
      = (Delta.enter (D.g n) (D.x0 i) (D.state n i) x : ℝ) := by
    intro x
    rw [H.g, H.x0, H.x]
    cases D.g n <;> rfl
  have hm : ∀ x, (Scalar.select (IntOp.cmpi CmpIPredicate.ne (v54 (ix5 b 0 0 0 0)) 0#32) (v0 (ix4 b h i x)) (a (ix4 b h i x)) : EReal) * (0 - (v43 (ix4 b 0 h x) : EReal))
      = ((Delta.enter (D.g n) (D.x0 i) (D.state n i) x * -D.κ n x : ℝ) : EReal) := by
    intro x
    rw [hs, H.κ, zero_sub, ← EReal.coe_neg, ← EReal.coe_mul]
  refine (pay6_apply v0 a v23 v33 v41 v43 v49 v54 b h i j).trans ?_
  rw [Finset.sum_congr rfl fun x _ => hm x, coe_sum, hs, H.ℓ, H.β, H.v, H.k, ← EReal.coe_mul, ← EReal.coe_mul, ← EReal.coe_mul, ← EReal.coe_add, ← EReal.coe_add]
  rfl

/-- The result is the recurrence's. -/
theorem TokenHyp.out (H : TokenHyp D n b h v0 a v13 v23 v33 v41 v43 v49 v54) (i : Fin 64) :
    (k0_pay1 (F := Ideal) (k0_pay7 (F := Ideal) v0 a v13 v23 v33 v41 v43 v49 v54) (ix4 b 0 h i) : EReal) = (D.out i n : ℝ) := by
  refine (pay1_apply _ b h i).trans ((pay7_apply v0 a v13 v23 v33 v41 v43 v49 v54 b h i).trans ?_)
  rw [Finset.sum_congr rfl fun j _ => show _ = ((D.state (n + 1) i j * D.r n j : ℝ) : EReal) by rw [H.state, H.r, ← EReal.coe_mul], coe_sum]
  rfl

end

end Cert.Proof.RI

end
-- ==== Proof.RefLoop.lean ====
/-
  The reference's loop over the tokens: before each trip the carried state is that of the tokens before it, and their
  results are stored.
-/
module

public import proofs.«01_k».proof.Proof.RefStep
public import proofs.«01_k».proof.Proof.Gen.ReferenceIdeal.Loops
public import proofs.«01_k».proof.Proof.Gen.ReferenceIdeal.Points
public import Idealize.ShloMosaic.Lib.WritesUnit
public import Idealize.ShloMosaic.Lib.Pipeline.FrameSuffix

@[expose] public section

set_option maxRecDepth 16384

noncomputable section

namespace Cert.Proof.RI

open Cert.ReferenceIdeal Cert.ReferenceIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the assertions speak of. -/
local notation "𝕄" => MT nD τ sig Unit (Elt Ideal) ℕ (UR sig nD τ) ℕ

/-- The blocks of the call hold the arrays `A`, and the reset flags as words. -/
structure CallHyp (A : Arrays) (B0 : Vec Ideal S12x4096x56x64 .fp8e4m3) (B1 : Vec Ideal S12x4096x56x64 .fp8e4m3) (B2 : Vec Ideal S12x4096x56x64 .fp8e4m3) (B3 : Vec Ideal S12x4096x56 .f32) (B4 : Vec Ideal S12x4096x56 .f32) (B5 : Vec Ideal S12x4096x56 .f32) (B6 : Vec Ideal S12x4096x56x64 .bf16) (B7 : Vec Ideal S12x4096x56x64 .bf16) (B8 : Vec Ideal S12x4096x56x64 .bf16) (B9 : Vec Ideal S12x56x64x64 .f32) (B10 : Vec Ideal S12x4096x1x1x1 .i32) : Prop where
  r : B0 = A.r
  k : B1 = A.k
  v : B2 = A.v
  rs : B3 = A.rs
  ks : B4 = A.ks
  vs : B5 = A.vs
  w : B6 = A.w
  kk : B7 = A.kk
  ic : B8 = A.ic
  s0 : B9 = A.s0
  seg : ∀ b t, B10 (ix5 b t 0 0 0) = if A.seg (ix2 b t) = 1#1 then 1#32 else 0#32

/-- The carried states are those after `n` tokens. -/
def Carried (A : Arrays) (n : ℕ) (X : Vec Ideal S12x56x64x64 .f32) : Prop :=
  ∀ b h i j, (X (ix4 b h i j) : EReal) = ((A.data b h).state n i j : ℝ)

/-- The stored results are those of the first `n` tokens. -/
def Stored (A : Arrays) (n : ℕ) (Y : Vec Ideal S12x4096x56x64 .bf16) : Prop :=
  ∀ b (t : Fin 4096) h i, t.val < n → (Y (ix4 b t h i) : EReal) = ((A.data b h).out i t.val : ℝ)

/-- The loop over tokens has 4096 trips. -/
theorem trips (t : Fin k0_t1_loop.trips) : t.val < 4096 := Nat.lt_of_lt_of_le t.isLt k0_t1_abs.2.1

/-! ### Where a token's loads lie -/

/-- A load of one token from an array of four axes. -/
theorem ld4 {φ : EltTy} (M : Memref sig .tc .vmem S12x4096x56x64 φ) (X : BufTy.Contents (Elt Ideal) M.view.ty) (t : Fin k0_t1_loop.trips) (b : Fin 12) (h : Fin 56) (j : Fin 64) :
    M.view.readAt (Elt Ideal) (Rect.unit (s := S12x4096x56x64) (k0_off1 t) S12x1x56x64.size (k0_off1_inb t)).toLoadRect X (ix4 b 0 h j)
      = M.view.read (Elt Ideal) X (ix4 b (tok t.val) h j) := by
  refine congrArg (M.view.read (Elt Ideal) X) (funext fun a => Fin.ext ?_)
  show k0_off1 t a + 1 * ((ix4 b 0 h j : S12x1x56x64.Idx) a).val = _
  rw [k0_off1_eq, tok_of_lt (trips t)]
  fin_cases a <;> simp [ix4]

/-- A load of one token from an array of three axes. -/
theorem ld3 {φ : EltTy} (M : Memref sig .tc .vmem S12x4096x56 φ) (X : BufTy.Contents (Elt Ideal) M.view.ty) (t : Fin k0_t1_loop.trips) (b : Fin 12) (h : Fin 56) :
    M.view.readAt (Elt Ideal) (Rect.unit (s := S12x4096x56) (k0_off2 t) S12x1x56.size (k0_off2_inb t)).toLoadRect X (ix3 b 0 h)
      = M.view.read (Elt Ideal) X (ix3 b (tok t.val) h) := by
  refine congrArg (M.view.read (Elt Ideal) X) (funext fun a => Fin.ext ?_)
  show k0_off2 t a + 1 * ((ix3 b 0 h : S12x1x56.Idx) a).val = _
  rw [k0_off2_eq, tok_of_lt (trips t)]
  fin_cases a <;> simp [ix3]

/-- A load of one token from the array of segment starts. -/
theorem ld5 {φ : EltTy} (M : Memref sig .tc .vmem S12x4096x1x1x1 φ) (X : BufTy.Contents (Elt Ideal) M.view.ty) (t : Fin k0_t1_loop.trips) (b : Fin 12) :
    M.view.readAt (Elt Ideal) (Rect.unit (s := S12x4096x1x1x1) (k0_off3 t) S12x1x1x1x1.size (k0_off3_inb t)).toLoadRect X (ix5 b 0 0 0 0)
      = M.view.read (Elt Ideal) X (ix5 b (tok t.val) 0 0 0) := by
  refine congrArg (M.view.read (Elt Ideal) X) (funext fun a => Fin.ext ?_)
  show k0_off3 t a + 1 * ((ix5 b 0 0 0 0 : S12x1x1x1x1.Idx) a).val = _
  rw [k0_off3_eq, tok_of_lt (trips t)]
  fin_cases a <;> simp [ix5]

/-- A load of all the states reads them as they are. -/
theorem ldS (M : Memref sig .tc .vmem S12x56x64x64 .f32) (X : BufTy.Contents (Elt Ideal) M.view.ty) (b : Fin 12) (h : Fin 56) (i j : Fin 64) :
    M.view.readAt (Elt Ideal) (Rect.unit (s := S12x56x64x64) ![0, 0, 0, 0] S12x56x64x64.size inb_S12x56x64x64_S12x56x64x64_0_0_0_0).toLoadRect X (ix4 b h i j)
      = M.view.read (Elt Ideal) X (ix4 b h i j) := by
  refine congrArg (M.view.read (Elt Ideal) X) (funext fun a => Fin.ext ?_)
  show (![0, 0, 0, 0] : Fin 4 → ℕ) a + 1 * ((ix4 b h i j : S12x56x64x64.Idx) a).val = _
  fin_cases a <;> simp [ix4]

/-- What is loaded for a token is the recurrence's. -/
theorem tokenHyp {A : Arrays} (hR : A.Real) (arg0 : Memref sig .tc .vmem S12x4096x56x64 .fp8e4m3) (arg1 : Memref sig .tc .vmem S12x4096x56x64 .fp8e4m3) (arg2 : Memref sig .tc .vmem S12x4096x56x64 .fp8e4m3) (arg3 : Memref sig .tc .vmem S12x4096x56 .f32) (arg4 : Memref sig .tc .vmem S12x4096x56 .f32) (arg5 : Memref sig .tc .vmem S12x4096x56 .f32) (arg6 : Memref sig .tc .vmem S12x4096x56x64 .bf16) (arg7 : Memref sig .tc .vmem S12x4096x56x64 .bf16) (arg8 : Memref sig .tc .vmem S12x4096x56x64 .bf16) (arg9 : Memref sig .tc .vmem S12x56x64x64 .f32) (arg10 : Memref sig .tc .vmem S12x4096x1x1x1 .i32) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty)
    (H : CallHyp A (arg0.view.read (Elt Ideal) X0) (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) (t : Fin k0_t1_loop.trips) (a : Vec Ideal S12x56x64x64 .f32) (ha : Carried A t.val a) (b : Fin 12) (h : Fin 56) :
    TokenHyp (A.data b h) t.val b h (arg9.view.readAt (Elt Ideal) (Rect.unit (s := S12x56x64x64) ![0, 0, 0, 0] S12x56x64x64.size inb_S12x56x64x64_S12x56x64x64_0_0_0_0).toLoadRect X9) a
      (k0_pay2 (F := Ideal) (arg0.view.readAt (Elt Ideal) (Rect.unit (s := S12x4096x56x64) (k0_off1 t) S12x1x56x64.size (k0_off1_inb t)).toLoadRect X0) (arg3.view.readAt (Elt Ideal) (Rect.unit (s := S12x4096x56) (k0_off2 t) S12x1x56.size (k0_off2_inb t)).toLoadRect X3))
      (k0_pay3 (F := Ideal) (arg1.view.readAt (Elt Ideal) (Rect.unit (s := S12x4096x56x64) (k0_off1 t) S12x1x56x64.size (k0_off1_inb t)).toLoadRect X1) (arg4.view.readAt (Elt Ideal) (Rect.unit (s := S12x4096x56) (k0_off2 t) S12x1x56.size (k0_off2_inb t)).toLoadRect X4))
      (k0_pay4 (F := Ideal) (arg2.view.readAt (Elt Ideal) (Rect.unit (s := S12x4096x56x64) (k0_off1 t) S12x1x56x64.size (k0_off1_inb t)).toLoadRect X2) (arg5.view.readAt (Elt Ideal) (Rect.unit (s := S12x4096x56) (k0_off2 t) S12x1x56.size (k0_off2_inb t)).toLoadRect X5))
      (k0_pay5 (F := Ideal) (arg6.view.readAt (Elt Ideal) (Rect.unit (s := S12x4096x56x64) (k0_off1 t) S12x1x56x64.size (k0_off1_inb t)).toLoadRect X6))
      (arg7.view.readAt (Elt Ideal) (Rect.unit (s := S12x4096x56x64) (k0_off1 t) S12x1x56x64.size (k0_off1_inb t)).toLoadRect X7)
      (arg8.view.readAt (Elt Ideal) (Rect.unit (s := S12x4096x56x64) (k0_off1 t) S12x1x56x64.size (k0_off1_inb t)).toLoadRect X8)
      (arg10.view.readAt (Elt Ideal) (Rect.unit (s := S12x4096x1x1x1) (k0_off3 t) S12x1x1x1x1.size (k0_off3_inb t)).toLoadRect X10) where
  g := by
    refine (ld5 arg10 X10 t b).trans ((H.seg b (tok t.val)).trans ?_)
    show _ = if decide (A.seg (ix2 b (tok t.val)) = 1#1) = true then 1#32 else 0#32
    simp only [decide_eq_true_eq]
  x0 i j := (ldS arg9 X9 b h i j).trans ((congrFun H.s0 _).trans (hR.s0 _).symm)
  x i j := ha b h i j
  r j := by
    refine (pay2_apply _ _ b h j).trans ((congrArg₂ (fun x y : EReal => x * y) ((ld4 arg0 X0 t b h j).trans ((congrFun H.r _).trans (hR.r _).symm))
      ((ld3 arg3 X3 t b h).trans ((congrFun H.rs _).trans (hR.rs _).symm))).trans (EReal.coe_mul _ _).symm)
  k j := by
    refine (pay3_apply _ _ b h j).trans ((congrArg₂ (fun x y : EReal => x * y) ((ld4 arg1 X1 t b h j).trans ((congrFun H.k _).trans (hR.k _).symm))
      ((ld3 arg4 X4 t b h).trans ((congrFun H.ks _).trans (hR.ks _).symm))).trans (EReal.coe_mul _ _).symm)
  v j := by
    refine (pay4_apply _ _ b h j).trans ((congrArg₂ (fun x y : EReal => x * y) ((ld4 arg2 X2 t b h j).trans ((congrFun H.v _).trans (hR.v _).symm))
      ((ld3 arg5 X5 t b h).trans ((congrFun H.vs _).trans (hR.vs _).symm))).trans (EReal.coe_mul _ _).symm)
  ℓ j := by
    refine (pay5_apply _ b h j).trans ((congrArg (fun x : EReal => Ideal.exp (0 - Ideal.exp x)) ((ld4 arg6 X6 t b h j).trans (congrFun H.w _))).trans ?_)
    show Ideal.exp (0 - Ideal.exp _) = _
    rw [← exp_real (hR.w _), zero_sub, ← EReal.coe_neg, Ideal.exp_coe]
    rfl
  κ j := (ld4 arg7 X7 t b h j).trans ((congrFun H.kk _).trans (hR.kk _).symm)
  β j := (congrArg₂ (fun x y : EReal => x * y) ((ld4 arg7 X7 t b h j).trans ((congrFun H.kk _).trans (hR.kk _).symm))
      ((ld4 arg8 X8 t b h j).trans ((congrFun H.ic _).trans (hR.ic _).symm))).trans (EReal.coe_mul _ _).symm

/-- Storing a token's results. -/
theorem stored_step {A : Arrays} (M : Memref sig .tc .vmem S12x4096x56x64 .bf16) (f : BufTy.Contents (Elt Ideal) M.view.ty) (t : Fin k0_t1_loop.trips)
    (w : FVec Ideal S12x1x56x64 .bf16) (hw : ∀ b h i, (w (ix4 b 0 h i) : EReal) = ((A.data b h).out i t.val : ℝ)) (hf : Stored A t.val (M.view.read (Elt Ideal) f)) :
    Stored A (t.val + 1) (M.view.read (Elt Ideal) (M.view.writes (Elt Ideal) f [⟨Rect.unit (s := S12x4096x56x64) (k0_off1 t) S12x1x56x64.size (k0_off1_inb t), w⟩])) := by
  intro b u h i hu
  by_cases e : u.val = t.val
  · refine (View.read_writes_cons_unit_of_mem _ _ _ _ _ (ix4 b u h i) (ix4 b 0 h i) (k0_off1_eq t) fun a => ?_).trans ((hw b h i).trans ?_)
    · fin_cases a <;> simp [ix4, e]
    · rw [e]
  · refine (View.read_writes_cons_unit_of_not_mem _ _ _ _ _ (ix4 b u h i) (k0_off1_eq t) 1 (Or.inl (show u.val < t.val by omega))).trans ?_
    exact hf b u h i (by omega)

set_option warn.classDefReducibility false in
set_option maxHeartbeats 4000000 in
/-- The loop over the tokens. -/
def tokenLoop (c : Dev nD) (arg0 : Memref sig .tc .vmem S12x4096x56x64 .fp8e4m3) (harg0 : arg0.IsWhole) (arg1 : Memref sig .tc .vmem S12x4096x56x64 .fp8e4m3) (harg1 : arg1.IsWhole) (arg2 : Memref sig .tc .vmem S12x4096x56x64 .fp8e4m3) (harg2 : arg2.IsWhole) (arg3 : Memref sig .tc .vmem S12x4096x56 .f32) (harg3 : arg3.IsWhole) (arg4 : Memref sig .tc .vmem S12x4096x56 .f32) (harg4 : arg4.IsWhole) (arg5 : Memref sig .tc .vmem S12x4096x56 .f32) (harg5 : arg5.IsWhole) (arg6 : Memref sig .tc .vmem S12x4096x56x64 .bf16) (harg6 : arg6.IsWhole) (arg7 : Memref sig .tc .vmem S12x4096x56x64 .bf16) (harg7 : arg7.IsWhole) (arg8 : Memref sig .tc .vmem S12x4096x56x64 .bf16) (harg8 : arg8.IsWhole) (arg9 : Memref sig .tc .vmem S12x56x64x64 .f32) (harg9 : arg9.IsWhole) (arg10 : Memref sig .tc .vmem S12x4096x1x1x1 .i32) (harg10 : arg10.IsWhole) (arg11 : Memref sig .tc .vmem S12x4096x56x64 .bf16) (harg11 : arg11.IsWhole) (arg12 : Memref sig .tc .vmem S12x56x64x64 .f32) (harg12 : arg12.IsWhole)
    (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (A : Arrays) (hR : A.Real)
    (H : CallHyp A (arg0.view.read (Elt Ideal) X0) (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) :
    LoopInv (M := MT nD τ sig Unit (Elt Ideal) ℕ (UR sig nD τ) ℕ) frame (wpE defs₀ Variants.none (c : Thread nD τ) none) Set.univ k0_t1_loop.lb k0_t1_loop.ub k0_t1_loop.st k0_t1_ok
      (arg9.view.readAt (Elt Ideal) (Rect.unit (s := S12x56x64x64) ![0, 0, 0, 0] S12x56x64x64.size inb_S12x56x64x64_S12x56x64x64_0_0_0_0).toLoadRect X9)
      (k0_t1_body (F := Ideal) arg0 harg0 arg1 harg1 arg2 harg2 arg3 harg3 arg4 harg4 arg5 harg5 arg6 harg6 arg7 harg7 arg8 harg8 arg9 harg9 arg10 harg10 arg11 harg11 arg12 harg12 (arg9.view.readAt (Elt Ideal) (Rect.unit (s := S12x56x64x64) ![0, 0, 0, 0] S12x56x64x64.size inb_S12x56x64x64_S12x56x64x64_0_0_0_0).toLoadRect X9)) where
  inv := fun n acc => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f : BufTy.Contents (Elt Ideal) arg11.view.ty, (arg11.view.loc (c : Thread nD τ) ↦[arg11.view.set]{fullShare} f) ∗ ⌜Stored A n (arg11.view.read (Elt Ideal) f)⌝) ∗ ⌜Carried A n acc⌝)
  step := fun t acc => by
    unfold k0_t1_body
    iintro ⟨H0, H1, H2, H3, H4, H5, H6, H7, H8, H9, H10, ⟨%f11, H11, %hf11⟩, %hacc⟩
    have hT := tokenHyp hR arg0 arg1 arg2 arg3 arg4 arg5 arg6 arg7 arg8 arg9 arg10 X0 X1 X2 X3 X4 X5 X6 X7 X8 X9 X10 H t acc hacc
    sl_exec
    sl_step
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexists _
      isplitl [H11]
      · iexact H11
      ipureintro
      exact stored_step arg11 f11 t _ (fun b h i => (hT b h).out i) hf11
    ipureintro
    exact fun b h i j => (hT b h).state i j

end Cert.Proof.RI

end
-- ==== Proof.RefCall.lean ====
/-
  The reference's call: what its body leaves in both results.
-/
module

public import proofs.«01_k».proof.Proof.RefLoop
public import proofs.«01_k».proof.Proof.Gen.ReferenceIdeal.Frame.Runs

@[expose] public section

set_option maxRecDepth 16384

noncomputable section

namespace Cert.Proof.RI

open Cert.ReferenceIdeal Cert.ReferenceIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources the assertions speak of. -/
local notation "𝕄" => MT nD τ sig Unit (Elt Ideal) ℕ (UR sig nD τ) ℕ

/-- The final states, stored whole. -/
theorem final_read {A : Arrays} (M : Memref sig .tc .vmem S12x56x64x64 .f32) (f : BufTy.Contents (Elt Ideal) M.view.ty) (w : Vec Ideal S12x56x64x64 .f32) (hw : Carried A 4096 w) :
    M.view.read (Elt Ideal) (M.view.writes (Elt Ideal) f [⟨Rect.unit (s := S12x56x64x64) ![0, 0, 0, 0] S12x56x64x64.size inb_S12x56x64x64_S12x56x64x64_0_0_0_0, w⟩]) = A.sf := by
  funext i
  rw [eq_ix4 i]
  refine (View.read_writes_cons_unit_of_mem _ _ _ _ _ (ix4 (i 0) (i 1) (i 2) (i 3)) (ix4 (i 0) (i 1) (i 2) (i 3)) rfl fun a => ?_).trans (hw (i 0) (i 1) (i 2) (i 3))
  fin_cases a <;> simp

/-- Every token's result stored. -/
theorem stored_all {A : Arrays} (Y : Vec Ideal S12x4096x56x64 .bf16) (h : Stored A 4096 Y) : Y = A.y := by
  funext i
  rw [eq_ix4 i]
  exact h (i 0) (i 1) (i 2) (i 3) (i 1).isLt

set_option maxHeartbeats 4000000 in
/-- The body: from blocks that hold the arrays it leaves the recurrences' results and final states. -/
theorem refCall (c : Dev nD) (arg0 : Memref sig .tc .vmem S12x4096x56x64 .fp8e4m3) (harg0 : arg0.IsWhole) (arg1 : Memref sig .tc .vmem S12x4096x56x64 .fp8e4m3) (harg1 : arg1.IsWhole) (arg2 : Memref sig .tc .vmem S12x4096x56x64 .fp8e4m3) (harg2 : arg2.IsWhole) (arg3 : Memref sig .tc .vmem S12x4096x56 .f32) (harg3 : arg3.IsWhole) (arg4 : Memref sig .tc .vmem S12x4096x56 .f32) (harg4 : arg4.IsWhole) (arg5 : Memref sig .tc .vmem S12x4096x56 .f32) (harg5 : arg5.IsWhole) (arg6 : Memref sig .tc .vmem S12x4096x56x64 .bf16) (harg6 : arg6.IsWhole) (arg7 : Memref sig .tc .vmem S12x4096x56x64 .bf16) (harg7 : arg7.IsWhole) (arg8 : Memref sig .tc .vmem S12x4096x56x64 .bf16) (harg8 : arg8.IsWhole) (arg9 : Memref sig .tc .vmem S12x56x64x64 .f32) (harg9 : arg9.IsWhole) (arg10 : Memref sig .tc .vmem S12x4096x1x1x1 .i32) (harg10 : arg10.IsWhole) (arg11 : Memref sig .tc .vmem S12x4096x56x64 .bf16) (harg11 : arg11.IsWhole) (arg12 : Memref sig .tc .vmem S12x56x64x64 .f32) (harg12 : arg12.IsWhole)
    (x0 : Vec Ideal S12x4096x56x64 .fp8e4m3) (x1 : Vec Ideal S12x4096x56x64 .fp8e4m3) (x2 : Vec Ideal S12x4096x56x64 .fp8e4m3) (x3 : Vec Ideal S12x4096x56 .f32) (x4 : Vec Ideal S12x4096x56 .f32) (x5 : Vec Ideal S12x4096x56 .f32) (x6 : Vec Ideal S12x4096x56x64 .bf16) (x7 : Vec Ideal S12x4096x56x64 .bf16) (x8 : Vec Ideal S12x4096x56x64 .bf16) (x9 : Vec Ideal S12x56x64x64 .f32) (x10 : Vec Ideal S12x4096x1x1x1 .i32) (A : Arrays) (hR : A.Real) (H : CallHyp A x0 x1 x2 x3 x4 x5 x6 x7 x8 x9 x10) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
      ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (A.y : Vec Ideal S12x4096x56x64 .bf16) ∗ owns (c : Thread nD τ) arg12 fullShare (A.sf : Vec Ideal S12x56x64x64 .f32)) -∗ K ⟨⟩))
    ⊢ wp frame (wpE (defs₀ (F := Ideal)) Variants.none c none) Set.univ (cc0_rwkv7_by_token arg0 harg0 arg1 harg1 arg2 harg2 arg3 harg3 arg4 harg4 arg5 harg5 arg6 harg6 arg7 harg7 arg8 harg8 arg9 harg9 arg10 harg10 arg11 harg11 arg12 harg12) K := by
  simp only [cc0_rwkv7_by_token_eq_skeleton]; unfold cc0_rwkv7_by_token_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0
  subst hf1
  subst hf2
  subst hf3
  subst hf4
  subst hf5
  subst hf6
  subst hf7
  subst hf8
  subst hf9
  subst hf10
  let L := tokenLoop c arg0 harg0 arg1 harg1 arg2 harg2 arg3 harg3 arg4 harg4 arg5 harg5 arg6 harg6 arg7 harg7 arg8 harg8 arg9 harg9 arg10 harg10 arg11 harg11 arg12 harg12 f0 f1 f2 f3 f4 f5 f6 f7 f8 f9 f10 A hR H
  have h0 : Stored A 0 (arg11.view.read (Elt Ideal) f11) := fun b t h i ht => absurd ht (Nat.not_lt_zero _)
  have h1 : Carried A 0 (arg9.view.readAt (Elt Ideal) (Rect.unit (s := S12x56x64x64) ![0, 0, 0, 0] S12x56x64x64.size inb_S12x56x64x64_S12x56x64x64_0_0_0_0).toLoadRect f9) :=
    fun b h i j => (ldS arg9 f9 b h i j).trans ((congrFun H.s0 _).trans (hR.s0 _).symm)
  have ht : Scf.trips k0_t1_loop.lb k0_t1_loop.ub k0_t1_loop.st = 4096 := by decide +kernel
  sl_exec
  sl_step
  rw [ht] at hL12 hL13
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr
    swap; · iexact H11
    ipureintro; exact stored_all _ hL12
  iexists _; isplitr
  swap; · iexact H12
  ipureintro; exact final_read arg12 f12 _ hL13

end Cert.Proof.RI

end
-- ==== Proof.RefRun.lean ====
/-
  The reference's run: both results as the recurrences of the arguments.
-/
module

public import proofs.«01_k».proof.Proof.RefCall
public import Idealize.ShloMosaic.Lib.Pipeline.ValueKit
public import Idealize.ShloMosaic.Lib.Pipeline.Value

@[expose] public section

set_option maxRecDepth 16384

noncomputable section

namespace Cert.Proof.RI

open Cert.ReferenceIdeal Cert.ReferenceIdeal.Gen Cert.Proof.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resources the assertions speak of. -/
local notation "𝕄" => MT nD τ sig Unit (Elt Ideal) ℕ (UR sig nD τ) ℕ

variable (m : (ℓ : Loc nD τ sig) → Buf (Elt Ideal) ℓ) (ρ : Dev nD → PrngReg)

/-- The arrays the program is given. -/
def arrays (c : Dev nD) : Arrays where
  r := m ((c : Thread nD τ).loc main_arg0)
  k := m ((c : Thread nD τ).loc main_arg1)
  v := m ((c : Thread nD τ).loc main_arg2)
  rs := m ((c : Thread nD τ).loc main_arg3)
  ks := m ((c : Thread nD τ).loc main_arg4)
  vs := m ((c : Thread nD τ).loc main_arg5)
  w := m ((c : Thread nD τ).loc main_arg6)
  kk := m ((c : Thread nD τ).loc main_arg7)
  ic := m ((c : Thread nD τ).loc main_arg8)
  s0 := m ((c : Thread nD τ).loc main_arg9)
  seg := m ((c : Thread nD τ).loc main_arg10)

/-! ### What the host makes, and the blocks -/

/-- The receptance codes as the call receives them: the argument. -/
theorem V0_eq (c : Dev nD) : V m c main_v0 = (arrays m c).r := by
  have e : V m c main_v0 = Host.convertf (F := Ideal) (φ := .f32) .fp8e4m3 (m ((c : Thread nD τ).loc main_arg0)) := by
    show StableHlo.after hostOps0 (fun b => m (c, b)) (Proc.devRef .tc main_v0) = _
    simp only [hostOps0]
    after_results
  exact e

/-- The key codes as the call receives them: the argument. -/
theorem V1_eq (c : Dev nD) : V m c main_v1 = (arrays m c).k := by
  have e : V m c main_v1 = Host.convertf (F := Ideal) (φ := .f32) .fp8e4m3 (m ((c : Thread nD τ).loc main_arg1)) := by
    show StableHlo.after hostOps0 (fun b => m (c, b)) (Proc.devRef .tc main_v1) = _
    simp only [hostOps0]
    after_results
  exact e

/-- The value codes as the call receives them: the argument. -/
theorem V2_eq (c : Dev nD) : V m c main_v2 = (arrays m c).v := by
  have e : V m c main_v2 = Host.convertf (F := Ideal) (φ := .f32) .fp8e4m3 (m ((c : Thread nD τ).loc main_arg2)) := by
    show StableHlo.after hostOps0 (fun b => m (c, b)) (Proc.devRef .tc main_v2) = _
    simp only [hostOps0]
    after_results
  exact e

/-- The segment starts as the call receives them: the integer 1 where a segment starts, 0 elsewhere. -/
theorem V4_apply (c : Dev nD) (b : Fin 12) (t : Fin 4096) :
    V m c main_v4 (ix5 b t 0 0 0) = if (arrays m c).seg (ix2 b t) = 1#1 then 1#32 else 0#32 := by
  have e : V m c main_v4 = broadcastInDim S12x4096x1x1x1 ![0, 1] bcast_S12x4096_S12x4096x1x1x1_0_1 (extui (w := 1) 32 (m ((c : Thread nD τ).loc main_arg10)) natLt_1_32) := by
    show StableHlo.after hostOps0 (fun b => m (c, b)) (Proc.devRef .tc main_v4) = _
    simp only [hostOps0]
    after_results
  have hp : ∀ v : IVec S12x4096 1, broadcastInDim S12x4096x1x1x1 ![0, 1] bcast_S12x4096_S12x4096x1x1x1_0_1 (extui 32 v natLt_1_32) (ix5 b t 0 0 0) = (v (ix2 b t)).setWidth 32 := by
    intro v
    pointwise
  refine (congrFun e _).trans ((hp _).trans ?_)
  have h : ∀ w : BitVec 1, w.setWidth 32 = if w = 1#1 then 1#32 else 0#32 := by decide
  exact h ((arrays m c).seg (ix2 b t))

/-- The one block of the receptance codes is the whole array. -/
theorem place0 (t : Fin cfg0.N) : (cfg0.win 0).index t = ![0, 0, 0, 0] := by
  revert t; exact (by decide +kernel : ∀ t : Fin grid0.N, win0_0.index t = ![0, 0, 0, 0])
/-- The one block of the key codes is the whole array. -/
theorem place1 (t : Fin cfg0.N) : (cfg0.win 1).index t = ![0, 0, 0, 0] := by
  revert t; exact (by decide +kernel : ∀ t : Fin grid0.N, win0_1.index t = ![0, 0, 0, 0])
/-- The one block of the value codes is the whole array. -/
theorem place2 (t : Fin cfg0.N) : (cfg0.win 2).index t = ![0, 0, 0, 0] := by
  revert t; exact (by decide +kernel : ∀ t : Fin grid0.N, win0_2.index t = ![0, 0, 0, 0])
/-- The one block of the receptance scales is the whole array. -/
theorem place3 (t : Fin cfg0.N) : (cfg0.win 3).index t = ![0, 0, 0] := by
  revert t; exact (by decide +kernel : ∀ t : Fin grid0.N, win0_3.index t = ![0, 0, 0])
/-- The one block of the key scales is the whole array. -/
theorem place4 (t : Fin cfg0.N) : (cfg0.win 4).index t = ![0, 0, 0] := by
  revert t; exact (by decide +kernel : ∀ t : Fin grid0.N, win0_4.index t = ![0, 0, 0])
/-- The one block of the value scales is the whole array. -/
theorem place5 (t : Fin cfg0.N) : (cfg0.win 5).index t = ![0, 0, 0] := by
  revert t; exact (by decide +kernel : ∀ t : Fin grid0.N, win0_5.index t = ![0, 0, 0])
/-- The one block of the log decays is the whole array. -/
theorem place6 (t : Fin cfg0.N) : (cfg0.win 6).index t = ![0, 0, 0, 0] := by
  revert t; exact (by decide +kernel : ∀ t : Fin grid0.N, win0_6.index t = ![0, 0, 0, 0])
/-- The one block of the removal keys is the whole array. -/
theorem place7 (t : Fin cfg0.N) : (cfg0.win 7).index t = ![0, 0, 0, 0] := by
  revert t; exact (by decide +kernel : ∀ t : Fin grid0.N, win0_7.index t = ![0, 0, 0, 0])
/-- The one block of the learning rates is the whole array. -/
theorem place8 (t : Fin cfg0.N) : (cfg0.win 8).index t = ![0, 0, 0, 0] := by
  revert t; exact (by decide +kernel : ∀ t : Fin grid0.N, win0_8.index t = ![0, 0, 0, 0])
/-- The one block of the initial states is the whole array. -/
theorem place9 (t : Fin cfg0.N) : (cfg0.win 9).index t = ![0, 0, 0, 0] := by
  revert t; exact (by decide +kernel : ∀ t : Fin grid0.N, win0_9.index t = ![0, 0, 0, 0])
/-- The one block of the segment starts is the whole array. -/
theorem place10 (t : Fin cfg0.N) : (cfg0.win 10).index t = ![0, 0, 0, 0, 0] := by
  revert t; exact (by decide +kernel : ∀ t : Fin grid0.N, win0_10.index t = ![0, 0, 0, 0, 0])
/-- The one block of the results is the whole array. -/
theorem place11 (t : Fin cfg0.N) : (cfg0.win 11).index t = ![0, 0, 0, 0] := by
  revert t; exact (by decide +kernel : ∀ t : Fin grid0.N, win0_11.index t = ![0, 0, 0, 0])
/-- The one block of the final states is the whole array. -/
theorem place12 (t : Fin cfg0.N) : (cfg0.win 12).index t = ![0, 0, 0, 0] := by
  revert t; exact (by decide +kernel : ∀ t : Fin grid0.N, win0_12.index t = ![0, 0, 0, 0])
/-- What the call's block of the receptance codes holds. -/
theorem blk0 (c : Dev nD) (t : Fin cfg0.N) : iblk m c 0 t = (arrays m c).r := by
  refine Eq.trans ?_ (V0_eq m c)
  funext i
  blk_ext [iblk, place0 t, V]
/-- What the call's block of the key codes holds. -/
theorem blk1 (c : Dev nD) (t : Fin cfg0.N) : iblk m c 1 t = (arrays m c).k := by
  refine Eq.trans ?_ (V1_eq m c)
  funext i
  blk_ext [iblk, place1 t, V]
/-- What the call's block of the value codes holds. -/
theorem blk2 (c : Dev nD) (t : Fin cfg0.N) : iblk m c 2 t = (arrays m c).v := by
  refine Eq.trans ?_ (V2_eq m c)
  funext i
  blk_ext [iblk, place2 t, V]
/-- What the call's block of the receptance scales holds. -/
theorem blk3 (c : Dev nD) (t : Fin cfg0.N) : iblk m c 3 t = (arrays m c).rs := by
  refine Eq.trans ?_ (V_main_arg3 m c)
  funext i
  blk_ext [iblk, place3 t, V]
/-- What the call's block of the key scales holds. -/
theorem blk4 (c : Dev nD) (t : Fin cfg0.N) : iblk m c 4 t = (arrays m c).ks := by
  refine Eq.trans ?_ (V_main_arg4 m c)
  funext i
  blk_ext [iblk, place4 t, V]
/-- What the call's block of the value scales holds. -/
theorem blk5 (c : Dev nD) (t : Fin cfg0.N) : iblk m c 5 t = (arrays m c).vs := by
  refine Eq.trans ?_ (V_main_arg5 m c)
  funext i
  blk_ext [iblk, place5 t, V]
/-- What the call's block of the log decays holds. -/
theorem blk6 (c : Dev nD) (t : Fin cfg0.N) : iblk m c 6 t = (arrays m c).w := by
  refine Eq.trans ?_ (V_main_arg6 m c)
  funext i
  blk_ext [iblk, place6 t, V]
/-- What the call's block of the removal keys holds. -/
theorem blk7 (c : Dev nD) (t : Fin cfg0.N) : iblk m c 7 t = (arrays m c).kk := by
  refine Eq.trans ?_ (V_main_arg7 m c)
  funext i
  blk_ext [iblk, place7 t, V]
/-- What the call's block of the learning rates holds. -/
theorem blk8 (c : Dev nD) (t : Fin cfg0.N) : iblk m c 8 t = (arrays m c).ic := by
  refine Eq.trans ?_ (V_main_arg8 m c)
  funext i
  blk_ext [iblk, place8 t, V]
/-- What the call's block of the initial states holds. -/
theorem blk9 (c : Dev nD) (t : Fin cfg0.N) : iblk m c 9 t = (arrays m c).s0 := by
  refine Eq.trans ?_ (V_main_arg9 m c)
  funext i
  blk_ext [iblk, place9 t, V]
/-- What the call's block of the segment starts holds. -/
theorem blk10 (c : Dev nD) (t : Fin cfg0.N) (b : Fin 12) (n : Fin 4096) :
    iblk m c 10 t (ix5 b n 0 0 0) = if (arrays m c).seg (ix2 b n) = 1#1 then 1#32 else 0#32 := by
  refine Eq.trans ?_ (V4_apply m c b n)
  blk_ext [iblk, place10 t, V]

/-- The call finds the arrays in its blocks. -/
theorem callHyp (c : Dev nD) (t : Fin cfg0.N) : CallHyp (arrays m c) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  ⟨blk0 m c t, blk1 m c t, blk2 m c t, blk3 m c t, blk4 m c t, blk5 m c t, blk6 m c t, blk7 m c t, blk8 m c t, blk9 m c t, blk10 m c t⟩

/-! ### The pipeline's proof data -/

/-- The proof data: the inputs' blocks as they are found, the outputs' at the recurrences' results and final states. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => ((arrays m c).y : Vec Ideal S12x4096x56x64 .bf16)
    | ⟨12, _⟩ => ((arrays m c).sf : Vec Ideal S12x56x64x64 .f32)
  Φ _ := Pipeline.ΦA spec0 c
  q _ := fullShare
  owed _ := 0

/-- The arrays of the proof data are those the call receives. -/
theorem A_eq (c : Dev nD) (w : Fin cfg0.W) : (dats m 0 c).A w = V m c (Pipeline.arrRef spec0 w) := by
  dsimp only [dats]

/-- A point leaves the receptance codes' block as it found it. -/
theorem after0_0 (c : Dev nD) (t : Fin cfg0.N) : (dats m 0 c).after 0 t = iblk m c 0 t := by dsimp only [dats]
/-- A point leaves the key codes' block as it found it. -/
theorem after0_1 (c : Dev nD) (t : Fin cfg0.N) : (dats m 0 c).after 1 t = iblk m c 1 t := by dsimp only [dats]
/-- A point leaves the value codes' block as it found it. -/
theorem after0_2 (c : Dev nD) (t : Fin cfg0.N) : (dats m 0 c).after 2 t = iblk m c 2 t := by dsimp only [dats]
/-- A point leaves the receptance scales' block as it found it. -/
theorem after0_3 (c : Dev nD) (t : Fin cfg0.N) : (dats m 0 c).after 3 t = iblk m c 3 t := by dsimp only [dats]
/-- A point leaves the key scales' block as it found it. -/
theorem after0_4 (c : Dev nD) (t : Fin cfg0.N) : (dats m 0 c).after 4 t = iblk m c 4 t := by dsimp only [dats]
/-- A point leaves the value scales' block as it found it. -/
theorem after0_5 (c : Dev nD) (t : Fin cfg0.N) : (dats m 0 c).after 5 t = iblk m c 5 t := by dsimp only [dats]
/-- A point leaves the log decays' block as it found it. -/
theorem after0_6 (c : Dev nD) (t : Fin cfg0.N) : (dats m 0 c).after 6 t = iblk m c 6 t := by dsimp only [dats]
/-- A point leaves the removal keys' block as it found it. -/
theorem after0_7 (c : Dev nD) (t : Fin cfg0.N) : (dats m 0 c).after 7 t = iblk m c 7 t := by dsimp only [dats]
/-- A point leaves the learning rates' block as it found it. -/
theorem after0_8 (c : Dev nD) (t : Fin cfg0.N) : (dats m 0 c).after 8 t = iblk m c 8 t := by dsimp only [dats]
/-- A point leaves the initial states' block as it found it. -/
theorem after0_9 (c : Dev nD) (t : Fin cfg0.N) : (dats m 0 c).after 9 t = iblk m c 9 t := by dsimp only [dats]
/-- A point leaves the segment starts' block as it found it. -/
theorem after0_10 (c : Dev nD) (t : Fin cfg0.N) : (dats m 0 c).after 10 t = iblk m c 10 t := by dsimp only [dats]
/-- What a point leaves in the results' block. -/
theorem after0_11 (c : Dev nD) (t : Fin cfg0.N) : (dats m 0 c).after 11 t = ((arrays m c).y : Vec Ideal S12x4096x56x64 .bf16) := by dsimp only [dats]
/-- What a point leaves in the final states' block. -/
theorem after0_12 (c : Dev nD) (t : Fin cfg0.N) : (dats m 0 c).after 12 t = ((arrays m c).sf : Vec Ideal S12x56x64x64 .f32) := by dsimp only [dats]

/-- A point finds the receptance codes' block as it was fetched. -/
theorem before0_0 (c : Dev nD) (t : Fin cfg0.N) (d) : (dats m 0 c).before 0 t d = iblk m c 0 t :=
  before0_0_of m (dats m 0 c) (A_eq m c 0) (after0_0 m c) t d
/-- A point finds the key codes' block as it was fetched. -/
theorem before0_1 (c : Dev nD) (t : Fin cfg0.N) (d) : (dats m 0 c).before 1 t d = iblk m c 1 t :=
  before0_1_of m (dats m 0 c) (A_eq m c 1) (after0_1 m c) t d
/-- A point finds the value codes' block as it was fetched. -/
theorem before0_2 (c : Dev nD) (t : Fin cfg0.N) (d) : (dats m 0 c).before 2 t d = iblk m c 2 t :=
  before0_2_of m (dats m 0 c) (A_eq m c 2) (after0_2 m c) t d
/-- A point finds the receptance scales' block as it was fetched. -/
theorem before0_3 (c : Dev nD) (t : Fin cfg0.N) (d) : (dats m 0 c).before 3 t d = iblk m c 3 t :=
  before0_3_of m (dats m 0 c) (A_eq m c 3) (after0_3 m c) t d
/-- A point finds the key scales' block as it was fetched. -/
theorem before0_4 (c : Dev nD) (t : Fin cfg0.N) (d) : (dats m 0 c).before 4 t d = iblk m c 4 t :=
  before0_4_of m (dats m 0 c) (A_eq m c 4) (after0_4 m c) t d
/-- A point finds the value scales' block as it was fetched. -/
theorem before0_5 (c : Dev nD) (t : Fin cfg0.N) (d) : (dats m 0 c).before 5 t d = iblk m c 5 t :=
  before0_5_of m (dats m 0 c) (A_eq m c 5) (after0_5 m c) t d
/-- A point finds the log decays' block as it was fetched. -/
theorem before0_6 (c : Dev nD) (t : Fin cfg0.N) (d) : (dats m 0 c).before 6 t d = iblk m c 6 t :=
  before0_6_of m (dats m 0 c) (A_eq m c 6) (after0_6 m c) t d
/-- A point finds the removal keys' block as it was fetched. -/
theorem before0_7 (c : Dev nD) (t : Fin cfg0.N) (d) : (dats m 0 c).before 7 t d = iblk m c 7 t :=
  before0_7_of m (dats m 0 c) (A_eq m c 7) (after0_7 m c) t d
/-- A point finds the learning rates' block as it was fetched. -/
theorem before0_8 (c : Dev nD) (t : Fin cfg0.N) (d) : (dats m 0 c).before 8 t d = iblk m c 8 t :=
  before0_8_of m (dats m 0 c) (A_eq m c 8) (after0_8 m c) t d
/-- A point finds the initial states' block as it was fetched. -/
theorem before0_9 (c : Dev nD) (t : Fin cfg0.N) (d) : (dats m 0 c).before 9 t d = iblk m c 9 t :=
  before0_9_of m (dats m 0 c) (A_eq m c 9) (after0_9 m c) t d
/-- A point finds the segment starts' block as it was fetched. -/
theorem before0_10 (c : Dev nD) (t : Fin cfg0.N) (d) : (dats m 0 c).before 10 t d = iblk m c 10 t :=
  before0_10_of m (dats m 0 c) (A_eq m c 10) (after0_10 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at the one point. -/
theorem sound_body (c : Dev nD) (hR : (arrays m c).Real) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (refCall c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (arrays m c) hR (callHyp m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body the call runs is the printed one. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) (hR : (arrays m c).Real) : BodyObligation (dats m 0 c) (defs₀ (F := Ideal)) Variants.none () Set.univ := fun t => by
  rw [bigSep_W0, bigSep_W0, defs₀_row]
  exact triple_restated (sound_body m c hR t) rfl .rfl fun _ => .rfl

/-! ### The run -/

set_option backward.isDefEq.respectTransparency.types false in
/-- The launch. -/
theorem run_main (hR : ∀ c, (arrays m c).Real) : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c (hR c)).loose) (hshare := fun c => (dats m 0 c).share_full fun _ => rfl)
    (howed := fun _ _ => rfl) (V := V m) (hmain := hmain m Variants.none) (hA := A_eq m) (hΦ := fun _ _ => rfl)

/-- The array of token results. -/
theorem arrY (c : Dev nD) : (dats m 0 c).arrAt 11 cfg0.N = (arrays m c).y := by
  refine (dats m 0 c).arrAt_eq_of_covers 11 _ (by decide +kernel) fun t hf y => ?_
  blk_simp
  rw [after0_11]
  refine congrArg (arrays m c).y (Eq.symm ?_)
  blk_ext [place11 t]

/-- The array of final states. -/
theorem arrS (c : Dev nD) : (dats m 0 c).arrAt 12 cfg0.N = (arrays m c).sf := by
  refine (dats m 0 c).arrAt_eq_of_covers 12 _ (by decide +kernel) fun t hf y => ?_
  blk_simp
  rw [after0_12]
  refine congrArg (arrays m c).sf (Eq.symm ?_)
  blk_ext [place12 t]

/-- The run: both results at the recurrences of the arguments, the arguments as they were. -/
theorem run (hR : ∀ c, (arrays m c).Real) : θ_run defs (onTc (τ := τ) (main (F := Ideal))) ⟨m, fun _ => 0, ρ⟩ (fun r => ∀ c : Dev nD,
    r.2.mem ((c.tc : Thread nD τ).loc main_v5_0) = (arrays m c).y
      ∧ r.2.mem ((c.tc : Thread nD τ).loc main_v5_1) = (arrays m c).sf
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 11).trans (arrY m c), ((h c).1 12).trans (arrS m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c)⟩) (run_main m ρ hR)

end Cert.Proof.RI

end
-- ==== Proof.Finite.lean ====
/-
  What the precondition says of the arguments: every element of the ten float arrays is a real number, but for the log
  decays, whose elements are not `⊤`.
-/
module

public import proofs.«01_k».proof.Pre_finite
public import proofs.«01_k».proof.Proof.Spec
public import Idealize.ShloMosaic.Lib.ReduceAll
public import Idealize.ShloMosaic.Lib.Tactic

@[expose] public section

noncomputable section

namespace Cert.Proof.Finite

open Cert.Pre_finite Idealize.ShloMosaic Idealize.ShloMosaic.Tactic

/-- A scalar has one index. -/
instance : Subsingleton S_.Idx := ⟨fun a b => funext fun i => i.elim0⟩

/-- The f32 constant of the comparison is `⊤`. -/
theorem top_f32 : FloatOps.ofBits (F := Ideal) .f32 0x7F800000#32 = (⊤ : EReal) := by
  rfl

/-- The bf16 constant of the comparison is `⊤`. -/
theorem top_bf16 : FloatOps.ofBits (F := Ideal) .bf16 0x7F80#16 = (⊤ : EReal) := by
  rfl

/-- A number of absolute value less than `⊤` is real. -/
theorem real_of_lt (x : EReal) (h : max x (-x) < ⊤) : ((x.toReal : ℝ) : EReal) = x := by
  refine EReal.coe_toReal (fun e => ?_) (fun e => ?_) <;> simp [e] at h

/-- Where the test of an f32 array answers 1 everywhere, the array is of real numbers. -/
theorem real_f32 {s : Shape} {axes : List (Fin s.rank)} (x : FVec Ideal s .f32) (hb : S_.BroadcastsInDim s (![] : Fin 0 → Fin s.rank)) (h' : s.ReducesTo axes S_) (hu : 0 < S_.numel)
    (h : Host.reduce IntOp.andi (cmpf .olt (Host.absf x) (broadcastInDim s ![] hb (constant S_ .f32 0x7F800000#32))) (constantI S_ 1 1#1) h' hu (fun a => a.elim0) = 1#1) :
    Real' x := by
  intro i
  refine real_of_lt _ ?_
  have e : Ideal.cmp .olt (max (x i) (-(x i))) (Ideal.ofBits .f32 0x7F800000#32) = 1 := Host.reduce_andi_all _ _ _ _ _ h i
  have e' := (Ideal.cmp_olt_eq_one _ _).1 e
  rwa [show Ideal.ofBits .f32 0x7F800000#32 = (⊤ : EReal) from top_f32] at e'

/-- Where the test of a bf16 array answers 1 everywhere, the array is of real numbers. -/
theorem real_bf16 {s : Shape} {axes : List (Fin s.rank)} (x : FVec Ideal s .bf16) (hb : S_.BroadcastsInDim s (![] : Fin 0 → Fin s.rank)) (h' : s.ReducesTo axes S_) (hu : 0 < S_.numel)
    (h : Host.reduce IntOp.andi (cmpf .olt (Host.absf x) (broadcastInDim s ![] hb (constant S_ .bf16 0x7F80#16))) (constantI S_ 1 1#1) h' hu (fun a => a.elim0) = 1#1) :
    Real' x := by
  intro i
  refine real_of_lt _ ?_
  have e : Ideal.cmp .olt (max (x i) (-(x i))) (Ideal.ofBits .bf16 0x7F80#16) = 1 := Host.reduce_andi_all _ _ _ _ _ h i
  have e' := (Ideal.cmp_olt_eq_one _ _).1 e
  rwa [show Ideal.ofBits .bf16 0x7F80#16 = (⊤ : EReal) from top_bf16] at e'

/-- Where the test of the log decays answers 1 everywhere, no log decay is `⊤`. -/
theorem below_bf16 {s : Shape} {axes : List (Fin s.rank)} (x : FVec Ideal s .bf16) (hb : S_.BroadcastsInDim s (![] : Fin 0 → Fin s.rank)) (h' : s.ReducesTo axes S_) (hu : 0 < S_.numel)
    (h : Host.reduce IntOp.andi (cmpf .olt x (broadcastInDim s ![] hb (constant S_ .bf16 0x7F80#16))) (constantI S_ 1 1#1) h' hu (fun a => a.elim0) = 1#1) :
    ∀ i, (x i : EReal) ≠ ⊤ := by
  intro i
  have e : Ideal.cmp .olt (x i) (Ideal.ofBits .bf16 0x7F80#16) = 1 := Host.reduce_andi_all _ _ _ _ _ h i
  have e' := (Ideal.cmp_olt_eq_one _ _).1 e
  rw [show Ideal.ofBits .bf16 0x7F80#16 = (⊤ : EReal) from top_bf16] at e'
  exact e'.ne

/-- Where the precondition answers 1, the float arrays are of real numbers, but for the log decays, which are not `⊤`. -/
theorem fn_real [Facts] (x0 : FVec Ideal S12x4096x56x64 .f32) (x1 : FVec Ideal S12x4096x56x64 .f32) (x2 : FVec Ideal S12x4096x56x64 .f32) (x3 : FVec Ideal S12x4096x56 .f32) (x4 : FVec Ideal S12x4096x56 .f32) (x5 : FVec Ideal S12x4096x56 .f32) (x6 : FVec Ideal S12x4096x56x64 .bf16) (x7 : FVec Ideal S12x4096x56x64 .bf16) (x8 : FVec Ideal S12x4096x56x64 .bf16) (x9 : FVec Ideal S12x56x64x64 .f32) (x10 : IVec S12x4096 1)
    (h : Cert.Pre_finite.fn (F := Ideal) x0 x1 x2 x3 x4 x5 x6 x7 x8 x9 x10 = fun _ => 1#1) :
    Real' x0 ∧ Real' x1 ∧ Real' x2 ∧ Real' x3 ∧ Real' x4 ∧ Real' x5 ∧ (∀ i, (x6 i : EReal) ≠ ⊤) ∧ Real' x7 ∧ Real' x8 ∧ Real' x9 := by
  have h := congrFun h (fun a => a.elim0)
  simp only [Cert.Pre_finite.fn, fn_part1, fn_part2, andi, IntOp.andi_eq_one] at h
  obtain ⟨⟨⟨⟨⟨⟨⟨⟨⟨h6, h0⟩, h1⟩, h2⟩, h3⟩, h4⟩, h5⟩, h7⟩, h8⟩, h9⟩ := h
  exact ⟨real_f32 _ _ _ _ h0, real_f32 _ _ _ _ h1, real_f32 _ _ _ _ h2, real_f32 _ _ _ _ h3, real_f32 _ _ _ _ h4, real_f32 _ _ _ _ h5, below_bf16 _ _ _ _ h6, real_bf16 _ _ _ _ h7, real_bf16 _ _ _ _ h8, real_f32 _ _ _ _ h9⟩

end Cert.Proof.Finite

end
-- ==== Proof.lean ====
module

public import proofs.«01_k».proof.Defs
public import proofs.«01_k».proof.Proof.KernelFrame
public import proofs.«01_k».proof.Proof.KernelIdealFrame
public import proofs.«01_k».proof.Proof.KernelRun
public import proofs.«01_k».proof.Proof.RefRun
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import Idealize.ShloMosaic.Adequacy
public import Idealize.ShloMosaic.Init

@[expose] public section

noncomputable section

namespace Cert.Proof

open Idealize.ShloMosaic Idealize.SL.Sem

/-- The kernel's one named constant, `log2e`, is the reciprocal of the natural logarithm of 2. -/
theorem preserves : Cert.preserves_Kernel_KernelIdeal :=
  IdealRules.named_const.statement Cert.KernelIdeal.κ "log2e" .f32 0x3FB8AA3B#32 (((Real.log 2)⁻¹ : ℝ) : EReal) rfl

/-- Under the precondition the arrays the kernel is given are of real numbers, but for log decays, which may be `⊥`. -/
theorem arrays_real [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : (KI.arrays m c).Real := by
  obtain ⟨h0, h1, h2, h3, h4, h5, h6, h7, h8, h9⟩ := Finite.fn_real _ _ _ _ _ _ _ _ _ _ _ (h c)
  exact ⟨h0, h1, h2, h3, h4, h5, h6, h7, h8, h9⟩

/-- Under the precondition the kernel and the reference end with the same two results: each the recurrences' results and final
states of the arrays given. -/
theorem algebraic [Cert.Pre_finite.Facts] :
    Cert.algebraic_KernelIdeal_ReferenceIdeal_pre_finite (hKernelIdeal := Cert.KernelIdeal.Gen.facts) (hReferenceIdeal := Cert.ReferenceIdeal.Gen.facts) := by
  intro m g m' g' hpre hagree
  have hR := arrays_real m hpre
  have e : ∀ c, RI.arrays m' c = KI.arrays m c := fun c => by
    obtain ⟨h0, h1, h2, h3, h4, h5, h6, h7, h8, h9, h10⟩ := hagree c
    exact (Arrays.mk.injEq ..).mpr ⟨h0, h1, h2, h3, h4, h5, h6, h7, h8, h9, h10⟩
  refine ⟨fun c => (KI.arrays m c).y, fun c => (KI.arrays m c).sf, KI.run m g hR, ?_⟩
  refine (θ_run _ _ _).mono (fun r h c => ?_) (RI.run m' g' fun c => by rw [e c]; exact hR c)
  exact ⟨(h c).1.trans (congrArg Arrays.y (e c)), (h c).2.1.trans (congrArg Arrays.sf (e c)), (h c).2.2⟩

/-- The claim: the three programs run as stated, and under the precondition the kernel ends with the results of the reference. -/
theorem claim : Cert.Claim :=
  ⟨Cert.Kernel.Gen.facts, Cert.KernelIdeal.Gen.facts, Cert.ReferenceIdeal.Gen.facts, Cert.Pre_finite.Gen.facts,
    fun m g _ => Cert.Proof.KernelFrame.frame m g, fun m g _ => Cert.Proof.KernelIdealFrame.frame m g,
    fun m g _ => Cert.Proof.KernelIdealFrame.frame m g,
    fun m g _ => Cert.ReferenceIdeal.Gen.frame m g, fun m g _ => Cert.ReferenceIdeal.Gen.frame m g, preserves,
    letI := Cert.Pre_finite.Gen.facts
    algebraic⟩

end Cert.Proof

end
